-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_keys_finite [hPre_queries_keys_finite : Cert.Pre_queries_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_keys_finite [hPre_queries_keys_finite : Cert.Pre_queries_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_queries_keys_finite [hKernelIdeal : Cert.KernelIdeal.Facts] [hPre_queries_keys_finite : Cert.Pre_queries_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_queries_keys_finite [hReferenceIdeal : Cert.ReferenceIdeal.Facts] [hPre_queries_keys_finite : Cert.Pre_queries_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_queries_keys_finite [hKernelIdeal : Cert.KernelIdeal.Facts] [hReferenceIdeal : Cert.ReferenceIdeal.Facts] [hPre_queries_keys_finite : Cert.Pre_queries_keys_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v12_0)) (v1 : (c : Dev Cert.Kernel2Ideal.nD) → Buf (Elt Ideal) ((c.tc : Thread Cert.Kernel2Ideal.nD Cert.Kernel2Ideal.τ).loc Cert.Kernel2Ideal.main_v12_1)) (v2 : (c : Dev Cert.Kernel2Ideal.nD) → Buf (Elt Ideal) ((c.tc : Thread Cert.Kernel2Ideal.nD Cert.Kernel2Ideal.τ).loc Cert.Kernel2Ideal.main_v12_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12_0) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_v12_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_queries_keys_finite : Cert.Pre_queries_keys_finite.Facts),
    quiescent_Kernel (hKernel := hKernel)
    ∧ quiescent_KernelIdeal (hKernelIdeal := hKernelIdeal)
    ∧ quiescent_KernelIdeal_pre_queries_keys_finite (hKernelIdeal := hKernelIdeal) (hPre_queries_keys_finite := hPre_queries_keys_finite)
    ∧ quiescent_ReferenceIdeal (hReferenceIdeal := hReferenceIdeal)
    ∧ quiescent_ReferenceIdeal_pre_queries_keys_finite (hReferenceIdeal := hReferenceIdeal) (hPre_queries_keys_finite := hPre_queries_keys_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_queries_keys_finite (hKernelIdeal := hKernelIdeal) (hReferenceIdeal := hReferenceIdeal) (hPre_queries_keys_finite := hPre_queries_keys_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_queries_keys_finite.lean ====
abbrev S16384x4096 : Shape := ⟨2, ![16384, 4096]⟩
abbrev S16384x128 : Shape := ⟨2, ![16384, 128]⟩
abbrev S16384x1024 : Shape := ⟨2, ![16384, 1024]⟩
abbrev S16384x4 : Shape := ⟨2, ![16384, 4]⟩
abbrev S16384x1028 : Shape := ⟨2, ![16384, 1028]⟩
abbrev S_ : Shape := ⟨0, ![]⟩

class Facts : Prop where
  slices_S16384x4096_S16384x1024_0_2048 : S16384x4096.Slices ![0, 2048] S16384x1024
  slices_S16384x128_S16384x4_0_0 : S16384x128.Slices ![0, 0] S16384x4
  concatenates_S16384x1024_S16384x4_S16384x1028_d1 : Shape.Concatenates [S16384x1024, S16384x4] S16384x1028 1
  bcast_S_S16384x1028 : S_.BroadcastsInDim S16384x1028 (![] : Fin 0 → Fin S16384x1028.rank)

variable [Facts]

def fn {F : FTy → Type} [FloatOps F] (main_arg0 : FVec F S16384x4096 .f32) (main_arg1 : FVec F S16384x128 .f32) : IVec S16384x1028 1 :=
  let main_v0 : FVec F S16384x1024 .f32 := (extractStridedSlice S16384x1024 ![0, 2048] · slices_S16384x4096_S16384x1024_0_2048) main_arg0
  let main_v1 : FVec F S16384x4 .f32 := (extractStridedSlice S16384x4 ![0, 0] · slices_S16384x128_S16384x4_0_0) main_arg1
  let main_v2 : FVec F S16384x1028 .f32 := (fun a b => concatenate S16384x1028 1 [⟨S16384x1024, a⟩, ⟨S16384x4, b⟩] concatenates_S16384x1024_S16384x4_S16384x1028_d1) main_v0 main_v1
  let main_v3 : FVec F S16384x1028 .f32 := Host.absf main_v2
  let main_cst : FVec F S_ .f32 := constant S_ .f32 0x7F800000#32
  let main_v4 : FVec F S16384x1028 .f32 := broadcastInDim S16384x1028 ![] bcast_S_S16384x1028 main_cst
  let main_v5 : IVec S16384x1028 1 := cmpf .olt main_v3 main_v4
  main_v5
-- ==== Kernel.lean ====
abbrev S16384x4096 : Shape := ⟨2, ![16384, 4096]⟩
abbrev S16384x128 : Shape := ⟨2, ![16384, 128]⟩
abbrev S136 : Shape := ⟨1, ![136]⟩
abbrev S16384x4 : Shape := ⟨2, ![16384, 4]⟩
abbrev S2x8192x4 : Shape := ⟨3, ![2, 8192, 4]⟩
abbrev S2x4x8192 : Shape := ⟨3, ![2, 4, 8192]⟩
abbrev S_ : Shape := ⟨0, ![]⟩
abbrev S2x8x8192 : Shape := ⟨3, ![2, 8, 8192]⟩
abbrev S16384x512 : Shape := ⟨2, ![16384, 512]⟩
abbrev S512x512 : Shape := ⟨2, ![512, 512]⟩
abbrev S1 : Shape := ⟨1, ![1]⟩
abbrev S512x128 : Shape := ⟨2, ![512, 128]⟩
abbrev S1x8x512 : Shape := ⟨3, ![1, 8, 512]⟩
abbrev S4x512x1 : Shape := ⟨3, ![4, 512, 1]⟩
abbrev S512x1 : Shape := ⟨2, ![512, 1]⟩
abbrev S1x1x512 : Shape := ⟨3, ![1, 1, 512]⟩
abbrev S1x512 : Shape := ⟨2, ![1, 512]⟩
abbrev S1x512x1 : Shape := ⟨3, ![1, 512, 1]⟩
abbrev S512 : Shape := ⟨1, ![512]⟩

abbrev nBuf : Space → Nat
  | .hbm => 9
  | .vmem => 17
  | .smem => 2
  | _ => 0

abbrev bufTy : (tb : Table) → Fin (tcTables nBuf tb) → BufTy
  | .hbm, ⟨0, _⟩ => ⟨S16384x4096, .f32⟩
  | .hbm, ⟨1, _⟩ => ⟨S16384x128, .f32⟩
  | .hbm, ⟨2, _⟩ => ⟨S16384x4, .f32⟩
  | .hbm, ⟨3, _⟩ => ⟨S2x8192x4, .f32⟩
  | .hbm, ⟨4, _⟩ => ⟨S2x4x8192, .f32⟩
  | .hbm, ⟨5, _⟩ => ⟨S_, .i32⟩
  | .hbm, ⟨6, _⟩ => ⟨S_, .f32⟩
  | .hbm, ⟨7, _⟩ => ⟨S2x8x8192, .f32⟩
  | .hbm, ⟨8, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S1x8x512, .f32⟩
  | .local _ .vmem, ⟨11, _⟩ => ⟨S1x8x512, .f32⟩
  | .local _ .vmem, ⟨12, _⟩ => ⟨S512x512, .f32⟩
  | .local _ .vmem, ⟨13, _⟩ => ⟨S512x512, .f32⟩
  | .local _ .vmem, ⟨14, _⟩ => ⟨S4x512x1, .f32⟩
  | .local _ .vmem, ⟨15, _⟩ => ⟨S4x512x1, .f32⟩
  | .local _ .vmem, ⟨16, _⟩ => ⟨S512x512, .f32⟩
  | .local _ .smem, ⟨0, _⟩ => ⟨S136, .i32⟩
  | .local _ .smem, ⟨1, _⟩ => ⟨S136, .i32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c_1 : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 136], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S136) ![v1.toNat] S1.size (k0_off1_inb i)) numel1_S1
  let v3 : BitVec 32 := Scalar.addi v0 v2
  let c4_i32 : BitVec 32 := 4#32
  let c0_i32 : BitVec 32 := 0#32
  ![v3.toNat, c4_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 1 (Rect.unit (s := S136) ![v1.toNat] S1.size (k0_off1_inb i)) numel1_S1
  let v3 : BitVec 32 := Scalar.addi v0 v2
  let c5_i32 : BitVec 32 := 5#32
  let c0_i32 : BitVec 32 := 0#32
  ![v3.toNat, c5_i32.toNat]

def cc0_transform_2 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 1 (Rect.unit (s := S136) ![v1.toNat] S1.size (k0_off1_inb i)) numel1_S1
  let v3 : BitVec 32 := Scalar.addi v0 v2
  let c6_i32 : BitVec 32 := 6#32
  let c0_i32 : BitVec 32 := 0#32
  ![v3.toNat, c6_i32.toNat]

def cc0_transform_3 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S136) ![v1.toNat] S1.size (k0_off1_inb i)) numel1_S1
  let v3 : BitVec 32 := Scalar.addi v0 v2
  let c7_i32 : BitVec 32 := 7#32
  let c0_i32 : BitVec 32 := 0#32
  ![v3.toNat, c7_i32.toNat]

def cc0_transform_4 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_5 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S136) ![v0.toNat] S1.size (k0_off1_inb i)) numel1_S1
  let c0_i32 : BitVec 32 := 0#32
  let c0_i32_0 : BitVec 32 := 0#32
  ![arg0.toNat, c0_i32.toNat, v1.toNat]

def cc0_transform_6 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : Index := Scalar.indexCast arg1
  let v2 : BitVec 32 := pf.at 0 (Rect.unit (s := S136) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16384x4096 : Shape := ⟨2, ![16384, 4096]⟩
abbrev S16384x128 : Shape := ⟨2, ![16384, 128]⟩
abbrev S16384x512 : Shape := ⟨2, ![16384, 512]⟩
abbrev S2x8192x4x128 : Shape := ⟨4, ![2, 8192, 4, 128]⟩
abbrev S16384x4 : Shape := ⟨2, ![16384, 4]⟩
abbrev S2x8192x4 : Shape := ⟨3, ![2, 8192, 4]⟩
abbrev S2x4x8192 : Shape := ⟨3, ![2, 4, 8192]⟩
abbrev S2x4x8192x8192 : Shape := ⟨4, ![2, 4, 8192, 8192]⟩
abbrev S_ : Shape := ⟨0, ![]⟩
abbrev S2x4x8192x1 : Shape := ⟨4, ![2, 4, 8192, 1]⟩
abbrev S2x4x1x8192 : Shape := ⟨4, ![2, 4, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x4x128x8192 : Shape := ⟨4, ![2, 4, 128, 8192]⟩

abbrev nBuf : Space → Nat
  | .hbm => 60
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x128, .f32⟩
  | .hbm, ⟨2, _⟩ => ⟨S16384x512, .f32⟩
  | .hbm, ⟨3, _⟩ => ⟨S2x8192x4x128, .f32⟩
  | .hbm, ⟨4, _⟩ => ⟨S16384x512, .f32⟩
  | .hbm, ⟨5, _⟩ => ⟨S2x8192x4x128, .f32⟩
  | .hbm, ⟨6, _⟩ => ⟨S16384x512, .f32⟩
  | .hbm, ⟨7, _⟩ => ⟨S2x8192x4x128, .f32⟩
  | .hbm, ⟨8, _⟩ => ⟨S16384x512, .f32⟩
  | .hbm, ⟨9, _⟩ => ⟨S16384x4, .f32⟩
  | .hbm, ⟨10, _⟩ => ⟨S2x8192x4, .f32⟩
  | .hbm, ⟨11, _⟩ => ⟨S2x4x8192, .f32⟩
  | .hbm, ⟨12, _⟩ => ⟨S2x4x8192x8192, .f32⟩
  | .hbm, ⟨13, _⟩ => ⟨S_, .f32⟩
  | .hbm, ⟨14, _⟩ => ⟨S2x4x8192x8192, .f32⟩
  | .hbm, ⟨15, _⟩ => ⟨S2x4x8192x8192, .f32⟩
  | .hbm, ⟨16, _⟩ => ⟨S2x4x8192x1, .f32⟩
  | .hbm, ⟨17, _⟩ => ⟨S2x4x8192x8192, .f32⟩
  | .hbm, ⟨18, _⟩ => ⟨S2x4x8192x8192, .f32⟩
  | .hbm, ⟨19, _⟩ => ⟨S2x4x1x8192, .f32⟩
  | .hbm, ⟨20, _⟩ => ⟨S2x4x8192x8192, .f32⟩
  | .hbm, ⟨21, _⟩ => ⟨S2x4x8192x8192, .f32⟩
  | .hbm, ⟨22, _⟩ => ⟨S8192, .i32⟩
  | .hbm, ⟨23, _⟩ => ⟨S8192x1, .i32⟩
  | .hbm, ⟨24, _⟩ => ⟨S1x8192, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S_, .f32⟩
  | .hbm, ⟨29, _⟩ => ⟨S_, .f32⟩
  | .hbm, ⟨30, _⟩ => ⟨S2x4x8192x8192, .i1⟩
  | .hbm, ⟨31, _⟩ => ⟨S2x4x8192x8192, .f32⟩
  | .hbm, ⟨32, _⟩ => ⟨S2x4x8192x8192, .f32⟩
  | .hbm, ⟨33, _⟩ => ⟨S_, .f32⟩
  | .hbm, ⟨34, _⟩ => ⟨S2x4x8192, .f32⟩
  | .hbm, ⟨35, _⟩ => ⟨S_, .f32⟩
  | .hbm, ⟨36, _⟩ => ⟨S2x4x8192, .f32⟩
  | .hbm, ⟨37, _⟩ => ⟨S2x4x8192, .f32⟩
  | .hbm, ⟨38, _⟩ => ⟨S2x4x8192x1, .f32⟩
  | .hbm, ⟨39, _⟩ => ⟨S2x4x8192x8192, .f32⟩
  | .hbm, ⟨40, _⟩ => ⟨S2x4x8192x8192, .f32⟩
  | .hbm, ⟨41, _⟩ => ⟨S2x4x8192x8192, .f32⟩
  | .hbm, ⟨42, _⟩ => ⟨S_, .f32⟩
  | .hbm, ⟨43, _⟩ => ⟨S2x4x8192, .f32⟩
  | .hbm, ⟨44, _⟩ => ⟨S2x4x8192x1, .f32⟩
  | .hbm, ⟨45, _⟩ => ⟨S2x4x8192x8192, .f32⟩
  | .hbm, ⟨46, _⟩ => ⟨S2x4x8192x8192, .f32⟩
  | .hbm, ⟨47, _⟩ => ⟨S2x4x128x8192, .f32⟩
  | .hbm, ⟨48, _⟩ => ⟨S2x8192x4x128, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S_, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S16384x512, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Kernel2.lean ====
abbrev S2x8192x1024 : Shape := ⟨3, ![2, 8192, 1024]⟩
abbrev S1x1024 : Shape := ⟨2, ![1, 1024]⟩
abbrev S1x1024x4100 : Shape := ⟨3, ![1, 1024, 4100]⟩
abbrev S1x4 : Shape := ⟨2, ![1, 4]⟩
abbrev S16384x1024 : Shape := ⟨2, ![16384, 1024]⟩
abbrev S1024x4100 : Shape := ⟨2, ![1024, 4100]⟩
abbrev S1024 : Shape := ⟨1, ![1024]⟩
abbrev S1024x4096 : Shape := ⟨2, ![1024, 4096]⟩
abbrev S1024x4 : Shape := ⟨2, ![1024, 4]⟩
abbrev S_ : Shape := ⟨0, ![]⟩
abbrev S1024x128 : Shape := ⟨2, ![1024, 128]⟩
abbrev S4 : Shape := ⟨1, ![4]⟩
abbrev S1x128 : Shape := ⟨2, ![1, 128]⟩
abbrev S16384x4096 : Shape := ⟨2, ![16384, 4096]⟩
abbrev S16384x128 : Shape := ⟨2, ![16384, 128]⟩
abbrev S512x1024 : Shape := ⟨2, ![512, 1024]⟩
abbrev S512x4096 : Shape := ⟨2, ![512, 4096]⟩
abbrev S512x128 : Shape := ⟨2, ![512, 128]⟩
abbrev S8x128 : Shape := ⟨2, ![8, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 23
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x4100, .f32⟩
  | .hbm, ⟨3, _⟩ => ⟨S1x4, .f32⟩
  | .hbm, ⟨4, _⟩ => ⟨S16384x1024, .f32⟩
  | .hbm, ⟨5, _⟩ => ⟨S1024x4100, .f32⟩
  | .hbm, ⟨6, _⟩ => ⟨S1024, .f32⟩
  | .hbm, ⟨7, _⟩ => ⟨S1x1024, .f32⟩
  | .hbm, ⟨8, _⟩ => ⟨S1024x4096, .f32⟩
  | .hbm, ⟨9, _⟩ => ⟨S1024x4096, .bf16⟩
  | .hbm, ⟨10, _⟩ => ⟨S1024x4, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S4, .f32⟩
  | .hbm, ⟨16, _⟩ => ⟨S1x4, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S16384x4096, .f32⟩
  | .hbm, ⟨21, _⟩ => ⟨S16384x128, .f32⟩
  | .hbm, ⟨22, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1024x128, .bf16⟩
  | .local _ .vmem, ⟨5, _⟩ => ⟨S1x128, .f32⟩
  | .local _ .vmem, ⟨6, _⟩ => ⟨S512x4096, .f32⟩
  | .local _ .vmem, ⟨7, _⟩ => ⟨S512x4096, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S8x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S2x8192x1024 : Shape := ⟨3, ![2, 8192, 1024]⟩
abbrev S1x1024 : Shape := ⟨2, ![1, 1024]⟩
abbrev S1x1024x4100 : Shape := ⟨3, ![1, 1024, 4100]⟩
abbrev S1x4 : Shape := ⟨2, ![1, 4]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S1024x4100 : Shape := ⟨2, ![1024, 4100]⟩
abbrev S2x8192x4100 : Shape := ⟨3, ![2, 8192, 4100]⟩
abbrev S2x8192x4 : Shape := ⟨3, ![2, 8192, 4]⟩
abbrev S4 : Shape := ⟨1, ![4]⟩
abbrev S1x1x4 : Shape := ⟨3, ![1, 1, 4]⟩
abbrev S2x8192x4096 : Shape := ⟨3, ![2, 8192, 4096]⟩
abbrev S16384x4096 : Shape := ⟨2, ![16384, 4096]⟩
abbrev S16384x4 : Shape := ⟨2, ![16384, 4]⟩
abbrev S16384x128 : Shape := ⟨2, ![16384, 128]⟩

abbrev nBuf : Space → Nat
  | .hbm => 57
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x4100, .f32⟩
  | .hbm, ⟨3, _⟩ => ⟨S1x4, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S1024x4100, .f32⟩
  | .hbm, ⟨22, _⟩ => ⟨S2x8192x4100, .f32⟩
  | .hbm, ⟨23, _⟩ => ⟨S2x8192x4, .f32⟩
  | .hbm, ⟨24, _⟩ => ⟨S4, .f32⟩
  | .hbm, ⟨25, _⟩ => ⟨S1x1x4, .f32⟩
  | .hbm, ⟨26, _⟩ => ⟨S2x8192x4, .f32⟩
  | .hbm, ⟨27, _⟩ => ⟨S2x8192x4, .f32⟩
  | .hbm, ⟨28, _⟩ => ⟨S2x8192x4, .f32⟩
  | .hbm, ⟨29, _⟩ => ⟨S_, .f32⟩
  | .hbm, ⟨30, _⟩ => ⟨S2x8192x4, .f32⟩
  | .hbm, ⟨31, _⟩ => ⟨S2x8192x4, .f32⟩
  | .hbm, ⟨32, _⟩ => ⟨S2x8192x4, .f32⟩
  | .hbm, ⟨33, _⟩ => ⟨S2x8192x4, .f32⟩
  | .hbm, ⟨34, _⟩ => ⟨S2x8192x4, .i1⟩
  | .hbm, ⟨35, _⟩ => ⟨S2x8192x4, .f32⟩
  | .hbm, ⟨36, _⟩ => ⟨S2x8192x4, .f32⟩
  | .hbm, ⟨37, _⟩ => ⟨S2x8192x4, .f32⟩
  | .hbm, ⟨38, _⟩ => ⟨S2x8192x4, .f32⟩
  | .hbm, ⟨39, _⟩ => ⟨S2x8192x4, .f32⟩
  | .hbm, ⟨40, _⟩ => ⟨S2x8192x4, .f32⟩
  | .hbm, ⟨41, _⟩ => ⟨S2x8192x4, .f32⟩
  | .hbm, ⟨42, _⟩ => ⟨S2x8192x4, .f32⟩
  | .hbm, ⟨43, _⟩ => ⟨S2x8192x4, .f32⟩
  | .hbm, ⟨44, _⟩ => ⟨S_, .f32⟩
  | .hbm, ⟨45, _⟩ => ⟨S_, .f32⟩
  | .hbm, ⟨46, _⟩ => ⟨S2x8192x4, .f32⟩
  | .hbm, ⟨47, _⟩ => ⟨S2x8192x4096, .f32⟩
  | .hbm, ⟨48, _⟩ => ⟨S16384x4096, .f32⟩
  | .hbm, ⟨49, _⟩ => ⟨S16384x4, .f32⟩
  | .hbm, ⟨50, _⟩ => ⟨S_, .i32⟩
  | .hbm, ⟨51, _⟩ => ⟨S_, .f32⟩
  | .hbm, ⟨52, _⟩ => ⟨S16384x128, .f32⟩
  | .hbm, ⟨53, _⟩ => ⟨S16384x4, .f32⟩
  | .hbm, ⟨54, _⟩ => ⟨S_, .i32⟩
  | .hbm, ⟨55, _⟩ => ⟨S_, .f32⟩
  | .hbm, ⟨56, _⟩ => ⟨S16384x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩
abbrev main_call1_call0_cst : Ref sig .tc := ⟨.hbm, 44, rfl⟩
abbrev main_call1_call0_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c : Ref sig .tc := ⟨.hbm, 50, rfl⟩
abbrev main_call2_v0 : Ref sig .tc := ⟨.hbm, 51, rfl⟩
abbrev main_v26 : Ref sig .tc := ⟨.hbm, 52, rfl⟩
abbrev main_v27 : Ref sig .tc := ⟨.hbm, 53, rfl⟩
abbrev main_c_2 : Ref sig .tc := ⟨.hbm, 54, rfl⟩
abbrev main_call3_v0 : Ref sig .tc := ⟨.hbm, 55, rfl⟩
abbrev main_v28 : Ref sig .tc := ⟨.hbm, 56, rfl⟩

abbrev nD : Nat := 1
abbrev τ : Topo := Topo.v7x

variable {F : FTy → Type} [FloatOps F]
-- ==== Kernel3.lean ====
abbrev S16384x1024 : Shape := ⟨2, ![16384, 1024]⟩
abbrev S1x1024 : Shape := ⟨2, ![1, 1024]⟩
abbrev S1x1024x3088 : Shape := ⟨3, ![1, 1024, 3088]⟩
abbrev S1x16x512 : Shape := ⟨3, ![1, 16, 512]⟩
abbrev S1x512 : Shape := ⟨2, ![1, 512]⟩
abbrev S1024x3088 : Shape := ⟨2, ![1024, 3088]⟩
abbrev S16x512 : Shape := ⟨2, ![16, 512]⟩
abbrev S_ : Shape := ⟨0, ![]⟩
abbrev S128x512 : Shape := ⟨2, ![128, 512]⟩
abbrev S1024 : Shape := ⟨1, ![1024]⟩
abbrev S1024x3072 : Shape := ⟨2, ![1024, 3072]⟩
abbrev S1024x16 : Shape := ⟨2, ![1024, 16]⟩
abbrev S1024x128 : Shape := ⟨2, ![1024, 128]⟩
abbrev S512 : Shape := ⟨1, ![512]⟩
abbrev S16384x3072 : Shape := ⟨2, ![16384, 3072]⟩
abbrev S16384x512 : Shape := ⟨2, ![16384, 512]⟩
abbrev S512x1024 : Shape := ⟨2, ![512, 1024]⟩
abbrev S512x3072 : Shape := ⟨2, ![512, 3072]⟩
abbrev S512x512 : Shape := ⟨2, ![512, 512]⟩
abbrev S512x1 : Shape := ⟨2, ![512, 1]⟩
abbrev S1024x512 : Shape := ⟨2, ![1024, 512]⟩
abbrev S512x128 : Shape := ⟨2, ![512, 128]⟩

abbrev nBuf : Space → Nat
  | .hbm => 24
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x3088, .f32⟩
  | .hbm, ⟨3, _⟩ => ⟨S1x16x512, .f32⟩
  | .hbm, ⟨4, _⟩ => ⟨S1x512, .f32⟩
  | .hbm, ⟨5, _⟩ => ⟨S1024x3088, .f32⟩
  | .hbm, ⟨6, _⟩ => ⟨S16x512, .f32⟩
  | .hbm, ⟨7, _⟩ => ⟨S_, .i32⟩
  | .hbm, ⟨8, _⟩ => ⟨S_, .f32⟩
  | .hbm, ⟨9, _⟩ => ⟨S128x512, .f32⟩
  | .hbm, ⟨10, _⟩ => ⟨S128x512, .bf16⟩
  | .hbm, ⟨11, _⟩ => ⟨S1024, .f32⟩
  | .hbm, ⟨12, _⟩ => ⟨S1x1024, .f32⟩
  | .hbm, ⟨13, _⟩ => ⟨S1024x3072, .f32⟩
  | .hbm, ⟨14, _⟩ => ⟨S1024x3072, .bf16⟩
  | .hbm, ⟨15, _⟩ => ⟨S1024x16, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x128, .bf16⟩
  | .hbm, ⟨20, _⟩ => ⟨S512, .f32⟩
  | .hbm, ⟨21, _⟩ => ⟨S1x512, .f32⟩
  | .hbm, ⟨22, _⟩ => ⟨S16384x3072, .f32⟩
  | .hbm, ⟨23, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S128x512, .bf16⟩
  | .local _ .vmem, ⟨6, _⟩ => ⟨S1x512, .f32⟩
  | .local _ .vmem, ⟨7, _⟩ => ⟨S512x3072, .f32⟩
  | .local _ .vmem, ⟨8, _⟩ => ⟨S512x3072, .f32⟩
  | .local _ .vmem, ⟨9, _⟩ => ⟨S512x512, .f32⟩
  | .local _ .vmem, ⟨10, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S1x1024 : Shape := ⟨2, ![1, 1024]⟩
abbrev S1x1024x3088 : Shape := ⟨3, ![1, 1024, 3088]⟩
abbrev S1x16x512 : Shape := ⟨3, ![1, 16, 512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1024x3088 : Shape := ⟨2, ![1024, 3088]⟩
abbrev S16384x3088 : Shape := ⟨2, ![16384, 3088]⟩
abbrev S16384x16 : Shape := ⟨2, ![16384, 16]⟩
abbrev S16x512 : Shape := ⟨2, ![16, 512]⟩
abbrev S16384x512 : Shape := ⟨2, ![16384, 512]⟩
abbrev S512 : Shape := ⟨1, ![512]⟩
abbrev S16384x3072 : Shape := ⟨2, ![16384, 3072]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x3088, .f32⟩
  | .hbm, ⟨3, _⟩ => ⟨S1x16x512, .f32⟩
  | .hbm, ⟨4, _⟩ => ⟨S1x512, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1024x3088, .f32⟩
  | .hbm, ⟨23, _⟩ => ⟨S16384x3088, .f32⟩
  | .hbm, ⟨24, _⟩ => ⟨S16384x16, .f32⟩
  | .hbm, ⟨25, _⟩ => ⟨S16x512, .f32⟩
  | .hbm, ⟨26, _⟩ => ⟨S16384x512, .f32⟩
  | .hbm, ⟨27, _⟩ => ⟨S512, .f32⟩
  | .hbm, ⟨28, _⟩ => ⟨S1x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S_, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S16384x512, .i1⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S_, .f32⟩
  | .hbm, ⟨48, _⟩ => ⟨S16384x512, .f32⟩
  | .hbm, ⟨49, _⟩ => ⟨S16384x512, .f32⟩
  | .hbm, ⟨50, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩

abbrev nD : Nat := 1
abbrev τ : Topo := Topo.v7x

variable {F : FTy → Type} [FloatOps F]
-- ==== Kernel4.lean ====
abbrev S16384x512 : Shape := ⟨2, ![16384, 512]⟩
abbrev S1x1024x1024 : Shape := ⟨3, ![1, 1024, 1024]⟩
abbrev S2x8192x1024 : Shape := ⟨3, ![2, 8192, 1024]⟩
abbrev S16384x1024 : Shape := ⟨2, ![16384, 1024]⟩
abbrev S1024x1024 : Shape := ⟨2, ![1024, 1024]⟩
abbrev S512x512 : Shape := ⟨2, ![512, 512]⟩
abbrev S512x1024 : Shape := ⟨2, ![512, 1024]⟩

abbrev nBuf : Space → Nat
  | .hbm => 8
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1x1024x1024, .f32⟩
  | .hbm, ⟨3, _⟩ => ⟨S2x8192x1024, .f32⟩
  | .hbm, ⟨4, _⟩ => ⟨S16384x1024, .f32⟩
  | .hbm, ⟨5, _⟩ => ⟨S1024x1024, .f32⟩
  | .hbm, ⟨6, _⟩ => ⟨S1024x1024, .bf16⟩
  | .hbm, ⟨7, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x512 : Shape := ⟨2, ![16384, 512]⟩
abbrev S1x1024x1024 : Shape := ⟨3, ![1, 1024, 1024]⟩
abbrev S2x8192x1024 : Shape := ⟨3, ![2, 8192, 1024]⟩
abbrev S16384x1024 : Shape := ⟨2, ![16384, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1x1024x1024, .f32⟩
  | .hbm, ⟨3, _⟩ => ⟨S2x8192x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S16384x1024, .f32⟩
  | .hbm, ⟨8, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S16384x1024 : Shape := ⟨2, ![16384, 1024]⟩
abbrev S1x1024x1024 : Shape := ⟨3, ![1, 1024, 1024]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1x1024x1024, .f32⟩
  | .hbm, ⟨2, _⟩ => ⟨S16384x1024, .f32⟩
  | .hbm, ⟨3, _⟩ => ⟨S1024, .f32⟩
  | .hbm, ⟨4, _⟩ => ⟨S1024x1024, .f32⟩
  | .hbm, ⟨5, _⟩ => ⟨S1024x1024, .bf16⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S16384x1024 : Shape := ⟨2, ![16384, 1024]⟩
abbrev S1x1024x1024 : Shape := ⟨3, ![1, 1024, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x1024, .f32⟩
  | .hbm, ⟨2, _⟩ => ⟨S16384x1024, .f32⟩
  | .hbm, ⟨3, _⟩ => ⟨S1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.EMath.lean ====
/-
  The first projection's arithmetic on extended reals: the log of a sigmoid, its split into three parts, and prefix sums
  taken block by block.
-/
module

public import Idealize.ShloMosaic.PureOps.Ideal.Laws
public import Idealize.ShloMosaic.Lib.Pointwise

@[expose] public section

noncomputable section

namespace Cert.Even

open Idealize.ShloMosaic

/-- The log of the sigmoid of `z`. -/
def lsig (z : EReal) : EReal := min z 0 - Ideal.log1p (Ideal.exp (0 - max z (-z)))

/-- Its second term is a real number, not negative. -/
theorem log_real (z : EReal) : ∃ l : ℝ, 0 ≤ l ∧ Ideal.log1p (Ideal.exp (0 - max z (-z))) = (l : EReal) := by
  have key : ∀ e : ℝ, 0 ≤ e → ∃ l : ℝ, 0 ≤ l ∧ Ideal.log1p (e : EReal) = (l : EReal) := by
    intro e he
    refine ⟨Real.log (1 + e), Real.log_nonneg (by linarith), ?_⟩
    unfold Ideal.log1p
    rw [show (1 + (e : EReal)) = ((1 + e : ℝ) : EReal) by norm_num]
    show (if 1 + e ≤ 0 then _ else _) = _
    rw [if_neg (by linarith)]
  induction z using EReal.rec with
  | bot =>
    have : Ideal.exp (0 - max (⊥ : EReal) (-⊥)) = ((0 : ℝ) : EReal) := by
      rw [show (0 - max (⊥ : EReal) (-⊥)) = ⊥ by simp]
      rfl
    rw [this]
    exact key 0 le_rfl
  | top =>
    have : Ideal.exp (0 - max (⊤ : EReal) (-⊤)) = ((0 : ℝ) : EReal) := by
      rw [show (0 - max (⊤ : EReal) (-⊤)) = ⊥ by simp]
      rfl
    rw [this]
    exact key 0 le_rfl
  | coe r =>
    have : Ideal.exp (0 - max (r : EReal) (-(r : EReal))) = ((Real.exp (0 - max r (-r)) : ℝ) : EReal) := by
      rw [show (0 - max (r : EReal) (-(r : EReal))) = ((0 - max r (-r) : ℝ) : EReal) by
        rw [EReal.coe_sub, EReal.coe_strictMono.monotone.map_max, EReal.coe_neg, EReal.coe_zero]]
      rfl
    rw [this]
    exact key _ (Real.exp_pos _).le

/-- It is never positive. -/
theorem lsig_le (z : EReal) : lsig z ≤ 0 := by
  obtain ⟨l, hl, e⟩ := log_real z
  unfold lsig
  rw [e]
  calc min z 0 - (l : EReal) ≤ 0 - (l : EReal) := EReal.sub_le_sub (min_le_right _ _) le_rfl
    _ ≤ 0 := by rw [zero_sub, ← EReal.coe_neg]; exact_mod_cast (by linarith : -l ≤ 0)

/-- The other way of writing it. -/
theorem lsig_neg (z : EReal) :
    -(max (-z) 0 + Ideal.log1p (Ideal.exp (-(max (-z - 0) (-(-z - 0)))))) = lsig z := by
  obtain ⟨l, hl, e⟩ := log_real z
  have h : (-(max (-z - 0) (-(-z - 0))) : EReal) = 0 - max z (-z) := by
    rw [sub_zero, neg_neg, zero_sub, max_comm]
  unfold lsig
  rw [h, e, EReal.neg_add (Or.inr (EReal.coe_ne_top _)) (Or.inr (EReal.coe_ne_bot _))]
  congr 1
  rcases le_total z 0 with hz | hz
  · rw [min_eq_left hz, max_eq_left (by simpa using EReal.neg_le_neg_iff.mpr hz), neg_neg]
  · rw [min_eq_right hz, max_eq_right (by simpa using EReal.neg_le_neg_iff.mpr hz), neg_zero]

/-- A value not positive is the sum of its three parts. -/
theorem three (v : EReal) (h : v ≤ 0) : v + (v - v) + ((v - v) - (v - v)) = v := by
  induction v using EReal.rec with
  | bot => simp
  | top => simp at h
  | coe r => rw [← EReal.coe_sub, sub_self, EReal.coe_zero]; simp

/-- The sums of the three parts of the values picked, added, are the sum of the values picked. -/
theorem pick {n : ℕ} (p : Fin n → Prop) [DecidablePred p] (v : Fin n → EReal) (h : ∀ s, v s ≤ 0) :
    (∑ s, if p s then v s else 0) + (∑ s, if p s then v s - v s else 0) + (∑ s, if p s then (v s - v s) - (v s - v s) else 0)
      = ∑ s, if p s then v s else 0 := by
  rw [← Finset.sum_add_distrib, ← Finset.sum_add_distrib]
  refine Finset.sum_congr rfl fun s _ => ?_
  by_cases hp : p s
  · simp only [if_pos hp]
    exact three _ (h s)
  · simp only [if_neg hp, add_zero]

/-- The values up to a place within a block, as a sum from the start. -/
theorem upto {n : ℕ} (f : ℕ → EReal) (r : ℕ) (hr : r < n) : (∑ s : Fin n, if s.val ≤ r then f s.val else 0) = ∑ s ∈ Finset.range (r + 1), f s := by
  rw [← Finset.sum_range (fun s => if s ≤ r then f s else 0), ← Finset.sum_filter]
  refine Finset.sum_congr ?_ fun _ _ => rfl
  ext s
  simp only [Finset.mem_filter, Finset.mem_range]
  omega

/-- The prefix sum at a place is the sum over the blocks before and the sum up to the place within its block. -/
theorem prefix_block (f : ℕ → EReal) (q r : ℕ) (hr : r < 512) :
    (∑ s : Fin 512, if s.val ≤ r then f (512 * q + s.val) else 0) + (∑ s ∈ Finset.range (512 * q), f s) = ∑ s ∈ Finset.range (512 * q + r + 1), f s := by
  rw [upto (fun s => f (512 * q + s)) r hr, add_comm, add_assoc (512 * q) r 1]
  exact (Finset.sum_range_add f (512 * q) (r + 1)).symm

/-- A running sum along the middle of three axes: the sum of the entries up to the place. -/
theorem cumsum_mid {A N M N1 : ℕ} (hN : N1 + 1 = N) {u : Shape} (x : (⟨3, ![A, N, M]⟩ : Shape).Idx → EReal) (init : u.Idx → EReal)
    (hu : 0 < u.numel) (h0 : init (Shape.Idx.first hu) = 0)
    (h : (⟨3, ![A, N, M]⟩ : Shape).ReduceWindows (![1, N, 1] : Fin 3 → ℕ) ![1, 1, 1] ![0, N1, 0] ![0, 0, 0] ⟨3, ![A, N, M]⟩)
    (f : ℕ → EReal) (a : Fin A) (t : Fin N) (l : Fin M) (hf : ∀ s : Fin N, x (ix3 a s l) = f s.val) :
    Host.reduceWindow (fun p q : EReal => p + q) ![1, N, 1] ![1, 1, 1] ![0, N1, 0] ![0, 0, 0] x init h hu (ix3 a t l)
      = ∑ s ∈ Finset.range (t.val + 1), f s := by
  subst hN
  have ht := t.isLt
  unfold Host.reduceWindow
  dsimp only
  rw [h0]
  have fold : ∀ (n : ℕ) (g : Fin n → EReal), (List.finRange n).foldl (fun r k => r + g k) 0 = ∑ k, g k := by
    intro n g
    rw [← List.foldl_map (f := g) (g := fun r v : EReal => r + v), ← List.sum_eq_foldl, ← List.ofFn_eq_map, List.sum_ofFn]
  rw [fold, ← (Shape.rowMajor ⟨3, ![1, N1 + 1, 1]⟩).sum_comp]
  rw [sum_idx3]
  simp only [Fin.sum_univ_one, Fin.isValue, Equiv.symm_apply_apply]
  have e : ∀ w : Fin (N1 + 1), (if N1 ≤ t.val + w.val then f (t.val + w.val - N1) else 0) = (fun w : ℕ => if N1 ≤ t.val + w then f (t.val + w - N1) else 0) w.val := fun _ => rfl
  refine (Finset.sum_congr rfl fun w _ => (?_ : _ = if N1 ≤ t.val + w.val then f (t.val + w.val - N1) else 0)).trans ?_
  · have hw := w.isLt
    split
    · next hin =>
      have h1 : N1 ≤ t.val * 1 + w.val ∧ t.val * 1 + w.val - N1 < N1 + 1 := hin 1
      rw [if_pos (by omega), ← hf ⟨t.val + w.val - N1, by omega⟩]
      refine congrArg x (funext fun b => Fin.ext ?_)
      match b with
      | ⟨0, _⟩ => show a.val * 1 + 0 - 0 = a.val; omega
      | ⟨1, _⟩ => show t.val * 1 + w.val - N1 = t.val + w.val - N1; omega
      | ⟨2, _⟩ => show l.val * 1 + 0 - 0 = l.val; omega
    · next hin =>
      rw [if_neg fun hle => hin fun b => by
        have ha := a.isLt
        have hl := l.isLt
        match b with
        | ⟨0, _⟩ => show 0 ≤ a.val * 1 + 0 ∧ a.val * 1 + 0 - 0 < A; omega
        | ⟨1, _⟩ => show N1 ≤ t.val * 1 + w.val ∧ t.val * 1 + w.val - N1 < N1 + 1; omega
        | ⟨2, _⟩ => show 0 ≤ l.val * 1 + 0 ∧ l.val * 1 + 0 - 0 < M; omega]
  · rw [Finset.sum_congr rfl fun w _ => e w, ← Finset.sum_range (fun w => if N1 ≤ t.val + w then f (t.val + w - N1) else 0), ← Finset.sum_filter]
    refine Finset.sum_nbij' (fun w => t.val + w - N1) (fun s => s + N1 - t.val) ?_ ?_ ?_ ?_ ?_
    all_goals intro w hw; simp only [Finset.mem_filter, Finset.mem_range] at hw ⊢
    all_goals omega

/-- The row length, as the programs write it. -/
abbrev len : EReal := Ideal.ofBits .f32 0x44800000#32
/-- The norm's small constant, as the programs write it. -/
abbrev eps : EReal := Ideal.ofBits .f32 0x358637BD#32

/-- A normed row. -/
def nrm (x g : ℕ → EReal) (k : ℕ) : EReal := x k * Ideal.rsqrt (Ideal.div (∑ j : Fin 1024, x j.val * x j.val) len + eps) * g k

/-- A block's entry as a function of positions. -/
def at2 {n m : ℕ} (x : (⟨2, ![n, m]⟩ : Shape).Idx → EReal) (i j : ℕ) : EReal :=
  if h : i < n ∧ j < m then x (ix2 ⟨i, h.1⟩ ⟨j, h.2⟩) else 0

theorem at2_val {n m : ℕ} (x : (⟨2, ![n, m]⟩ : Shape).Idx → EReal) (a : Fin n) (c : Fin m) : at2 x a.val c.val = x (ix2 a c) := by
  unfold at2
  rw [dif_pos ⟨a.isLt, c.isLt⟩]

/-- One normed row times a weight column. -/
def prow (x g : ℕ → EReal) (w : ℕ → ℕ → EReal) (j : ℕ) : EReal := ∑ k : Fin 1024, nrm x g k.val * w k.val j

/-- One row's log forget gate in a lane; lanes from the fourth on hold zero. -/
def gate (x g : ℕ → EReal) (w : ℕ → ℕ → EReal) (b : ℕ → EReal) (l : ℕ) : EReal := if l < 4 then lsig (prow x g w l + b l) else 0

theorem gate_le (x g : ℕ → EReal) (w : ℕ → ℕ → EReal) (b : ℕ → EReal) (l : ℕ) : gate x g w b l ≤ 0 := by
  unfold gate
  split
  · exact lsig_le _
  · exact le_rfl

/-- A product reads its row and its column alone. -/
theorem prow_congr {x x' g g' : ℕ → EReal} {w w' : ℕ → ℕ → EReal} {j j' : ℕ} (hx : ∀ k : Fin 1024, x k.val = x' k.val) (hg : ∀ k : Fin 1024, g k.val = g' k.val)
    (hw : ∀ k : Fin 1024, w k.val j = w' k.val j') : prow x g w j = prow x' g' w' j' := by
  unfold prow nrm
  have hs : (∑ j : Fin 1024, x j.val * x j.val) = ∑ j : Fin 1024, x' j.val * x' j.val := Finset.sum_congr rfl fun k _ => by rw [hx k]
  rw [hs]
  exact Finset.sum_congr rfl fun k _ => by rw [hx k, hg k, hw k]

/-- A gate reads its row, its column and its bias alone, in the first four lanes. -/
theorem gate_congr {x x' g g' : ℕ → EReal} {w w' : ℕ → ℕ → EReal} {b b' : ℕ → EReal} {l : ℕ} (hx : ∀ k : Fin 1024, x k.val = x' k.val) (hg : ∀ k : Fin 1024, g k.val = g' k.val)
    (hw : l < 4 → ∀ k : Fin 1024, w k.val l = w' k.val l) (hb : l < 4 → b l = b' l) : gate x g w b l = gate x' g' w' b' l := by
  unfold gate
  by_cases hl : l < 4
  · rw [if_pos hl, if_pos hl, prow_congr hx hg (hw hl), hb hl]
  · rw [if_neg hl, if_neg hl]

/-- An entry of an array of three axes as a function of positions. -/
def at3 {n m p : ℕ} (x : (⟨3, ![n, m, p]⟩ : Shape).Idx → EReal) (i j k : ℕ) : EReal :=
  if h : i < n ∧ j < m ∧ k < p then x (ix3 ⟨i, h.1⟩ ⟨j, h.2.1⟩ ⟨k, h.2.2⟩) else 0

theorem at3_eq {n m p : ℕ} (x : (⟨3, ![n, m, p]⟩ : Shape).Idx → EReal) {i j k : ℕ} (a : Fin n) (b : Fin m) (c : Fin p) (ha : a.val = i) (hb : b.val = j) (hc : c.val = k) :
    x (ix3 a b c) = at3 x i j k := by
  subst ha hb hc
  unfold at3
  rw [dif_pos ⟨a.isLt, b.isLt, c.isLt⟩]

theorem at2_eq {n m : ℕ} (x : (⟨2, ![n, m]⟩ : Shape).Idx → EReal) {i j : ℕ} (a : Fin n) (b : Fin m) (ha : a.val = i) (hb : b.val = j) :
    x (ix2 a b) = at2 x i j := by
  subst ha hb
  exact (at2_val x a b).symm

section Model

variable (x : (⟨3, ![2, 8192, 1024]⟩ : Shape).Idx → EReal) (g : (⟨2, ![1, 1024]⟩ : Shape).Idx → EReal)
  (w : (⟨3, ![1, 1024, 4100]⟩ : Shape).Idx → EReal) (b : (⟨2, ![1, 4]⟩ : Shape).Idx → EReal)

/-- Row `r` of the two batches laid end to end. -/
def row (r k : ℕ) : EReal := at3 (n := 2) (m := 8192) (p := 1024) x (r / 8192) (r % 8192) k

/-- The projection. -/
def proj (r j : ℕ) : EReal := prow (row x r) (at2 (n := 1) (m := 1024) g 0) (at3 (n := 1) (m := 1024) (p := 4100) w 0) j

/-- The log forget gates. -/
def forget (r l : ℕ) : EReal :=
  gate (row x r) (at2 (n := 1) (m := 1024) g 0) (fun k l => at3 (n := 1) (m := 1024) (p := 4100) w 0 k (4096 + l)) (at2 (n := 1) (m := 4) b 0) l

/-- Their running sums along each batch. -/
def running (r l : ℕ) : EReal := ∑ s ∈ Finset.range (r % 8192 + 1), forget x g w b (8192 * (r / 8192) + s) l

end Model

end Cert.Even

end
-- ==== Proof.EBody.lean ====
/-
  What one block of the first projection's body computes, read at an index: normed rows times the weights, the log forget
  gates, and their running sum within the block on top of the carried row.
-/
module

public import proofs.«01_k».proof.Proof.EMath
public import proofs.«01_k».proof.Proof.Gen.Kernel2Ideal.Frame
public import Idealize.ShloMosaic.Lib.Pipeline.ValueKit
public import Idealize.ShloMosaic.Lib.Pointwise
public import Idealize.ShloMosaic.Lib.WordCmp
public import Idealize.ShloMosaic.Lib.WritesUnit
public import Idealize.ShloMosaic.Lib.Tactic

@[expose] public section

set_option maxRecDepth 16384

noncomputable section

namespace Cert.Kernel2Ideal.Even

open Cert.Kernel2Ideal Cert.Kernel2Ideal.Gen
open Idealize.ShloMosaic Idealize.ShloMosaic.View
open Cert.Even

/-- The normed rows of a block. -/
theorem pay4_apply (x0 : Vec Ideal S512x1024 .f32) (x1 : Vec Ideal S1x1024 .f32) (r : Fin 512) (k : Fin 1024) :
    k0_pay4 (F := Ideal) x0 x1 (ix2 r k) = nrm (at2 (n := 512) (m := 1024) x0 r.val) (at2 (n := 1) (m := 1024) x1 0) k.val := by
  pointwise [k0_pay4]
  unfold nrm
  simp only [at2_val]
  rw [← at2_val (n := 1) (m := 1024) x1 0 k]
  rfl

theorem pay5_apply (x0 : Vec Ideal S512x1024 .f32) (x1 : Vec Ideal S1x1024 .f32) (w : Vec Ideal S1024x512 .bf16) (r : Fin 512) (j : Fin 512) :
    k0_pay5 (F := Ideal) x0 x1 w (ix2 r j) = ∑ k : Fin 1024, k0_pay4 (F := Ideal) x0 x1 (ix2 r k) * w (ix2 k j) := by
  pointwise [k0_pay5]

theorem pay6_apply (x0 : Vec Ideal S512x1024 .f32) (x1 : Vec Ideal S1x1024 .f32) (w : Vec Ideal S1024x512 .bf16) (r : Fin 512) (j : Fin 512) :
    k0_pay6 (F := Ideal) x0 x1 w (ix2 r j) = ∑ k : Fin 1024, k0_pay4 (F := Ideal) x0 x1 (ix2 r k) * w (ix2 k j) := by
  pointwise [k0_pay6]

theorem pay7_apply (x0 : Vec Ideal S512x1024 .f32) (x1 : Vec Ideal S1x1024 .f32) (w : Vec Ideal S1024x512 .bf16) (r : Fin 512) (j : Fin 512) :
    k0_pay7 (F := Ideal) x0 x1 w (ix2 r j) = ∑ k : Fin 1024, k0_pay4 (F := Ideal) x0 x1 (ix2 r k) * w (ix2 k j) := by
  pointwise [k0_pay7]

theorem pay9_apply (v : FVec Ideal S512x1024 .bf16) (w : Vec Ideal S1024x512 .bf16) (r : Fin 512) (j : Fin 512) :
    k0_pay9 (F := Ideal) v (k0_pay8 w) (constant S512x512 .f32 0x00000000#32) (ix2 r j) = ∑ k : Fin 1024, v (ix2 r k) * w (ix2 k j) := by
  pointwise [k0_pay9, k0_pay8]

theorem pay10_apply (v : FVec Ideal S512x1024 .bf16) (w : Vec Ideal S1024x512 .bf16) (r : Fin 512) (j : Fin 512) :
    k0_pay10 (F := Ideal) v w (ix2 r j) = ∑ k : Fin 1024, v (ix2 r k) * w (ix2 k j) := by
  pointwise [k0_pay10]

theorem pay11_apply (v : FVec Ideal S512x1024 .bf16) (w : Vec Ideal S1024x512 .bf16) (r : Fin 512) (j : Fin 512) :
    k0_pay11 (F := Ideal) v w (ix2 r j) = ∑ k : Fin 1024, v (ix2 r k) * w (ix2 k j) := by
  pointwise [k0_pay11]

theorem pay12_apply (v : FVec Ideal S512x1024 .bf16) (w : Vec Ideal S1024x512 .bf16) (r : Fin 512) (j : Fin 512) :
    k0_pay12 (F := Ideal) v w (ix2 r j) = ∑ k : Fin 1024, v (ix2 r k) * w (ix2 k j) := by
  pointwise [k0_pay12]

theorem pay13_apply (v : FVec Ideal S512x1024 .bf16) (w : Vec Ideal S1024x512 .bf16) (r : Fin 512) (j : Fin 512) :
    k0_pay13 (F := Ideal) v w (ix2 r j) = ∑ k : Fin 1024, v (ix2 r k) * w (ix2 k j) := by
  pointwise [k0_pay13]

theorem pay14_apply (v : FVec Ideal S512x1024 .bf16) (w : Vec Ideal S1024x128 .bf16) (b : Vec Ideal S1x128 .f32) (r : Fin 512) (l : Fin 128) :
    k0_pay14 (F := Ideal) v w b (ix2 r l) = (∑ k : Fin 1024, v (ix2 r k) * w (ix2 k l)) + b (ix2 0 l) := by
  pointwise [k0_pay14]

theorem pay16_apply (v : FVec Ideal S512x128 .f32) (r : Fin 512) (l : Fin 128) :
    k0_pay16 (F := Ideal) v (iota .tc S512x128 32 [1] iota_S512x128_d1_w32) k0_pay15 (ix2 r l) = if l.val < 4 then lsig (v (ix2 r l)) else 0 := by
  pointwise [k0_pay16, k0_pay15]
  have hl := l.isLt
  rw [show (4#32 : BitVec 32) = BitVec.ofNat 32 4 from rfl, WordCmp.cmpi_slt_ofNat (by omega) (by omega), Scalar.select_decide]
  rfl

/-- The log forget gates are never positive. -/
theorem pay16_le (v : FVec Ideal S512x128 .f32) (r : Fin 512) (l : Fin 128) :
    k0_pay16 (F := Ideal) v (iota .tc S512x128 32 [1] iota_S512x128_d1_w32) k0_pay15 (ix2 r l) ≤ (0 : EReal) := by
  rw [pay16_apply]
  split
  · exact lsig_le _
  · exact le_rfl

theorem pay17_apply (v : FVec Ideal S512x128 .f32) (a b : IVec S512x128 32) (h : ∀ (s : Fin 512) (l : Fin 128), k0_pay16 (F := Ideal) v a b (ix2 s l) ≤ (0 : EReal)) (r : Fin 512) (l : Fin 128) :
    k0_pay17 (F := Ideal) v a b (ix2 r l) = ∑ s : Fin 512, if s.val ≤ r.val then k0_pay16 (F := Ideal) v a b (ix2 s l) else 0 := by
  pointwise [k0_pay17]
  have hr := r.isLt
  have e : ∀ (x : Fin 512) (p : EReal), Scalar.select (IntOp.cmpi CmpIPredicate.sge (BitVec.ofNat 32 r.val) (BitVec.ofNat 32 x.val)) p 0 = if x.val ≤ r.val then p else 0 := by
    intro x p
    have hx := x.isLt
    rw [WordCmp.cmpi_sge_ofNat (by omega) (by omega), Scalar.select_decide]
  simp only [e]
  exact pick (fun s : Fin 512 => s.val ≤ r.val) (fun s => k0_pay16 (F := Ideal) v _ _ (ix2 s l)) fun s => h s l

/-- A column range of the weights, loaded. -/
theorem ld_cols (x2 : Vec Ideal S1024x4096 .bf16) (o : ℕ) (inb : ∀ a, (![0, o] : Fin 2 → ℕ) a + (![1024, 512] : Fin 2 → ℕ) a ≤ S1024x4096.size a) (k : Fin 1024) (q : Fin 512) :
    ld x2 (Rect.unit (s := S1024x4096) ![0, o] ![1024, 512] inb) (ix2 k q) = at2 (n := 1024) (m := 4096) x2 k.val (o + q.val) := by
  have ho : o + 512 ≤ 4096 := inb 1
  have hk := k.isLt
  have hq := q.isLt
  unfold at2
  rw [dif_pos ⟨hk, by omega⟩]
  refine congrArg x2 (funext fun a => Fin.ext ?_)
  match a with
  | ⟨0, _⟩ => show 0 + 1 * k.val = k.val; omega
  | ⟨1, _⟩ => show o + 1 * q.val = o + q.val; omega

/-- A block's product on a column range is its rows times those columns. -/
theorem tile (x0 : Vec Ideal S512x1024 .f32) (x1 : Vec Ideal S1x1024 .f32) (x2 : Vec Ideal S1024x4096 .bf16) (o : ℕ) (inb : ∀ a, (![0, o] : Fin 2 → ℕ) a + (![1024, 512] : Fin 2 → ℕ) a ≤ S1024x4096.size a)
    (r : Fin 512) (q : Fin 512) (j : ℕ) (hj : j = o + q.val) :
    (∑ k : Fin 1024, k0_pay4 (F := Ideal) x0 x1 (ix2 r k) * ld x2 (Rect.unit (s := S1024x4096) ![0, o] ![1024, 512] inb) (ix2 k q))
      = prow (at2 (n := 512) (m := 1024) x0 r.val) (at2 (n := 1) (m := 1024) x1 0) (at2 (n := 1024) (m := 4096) x2) j := by
  subst hj
  unfold prow
  refine Finset.sum_congr rfl fun k _ => ?_
  rw [pay4_apply, ld_cols]

/-- A block's log forget gates. -/
theorem gates (x0 : Vec Ideal S512x1024 .f32) (x1 : Vec Ideal S1x1024 .f32) (x3 : Vec Ideal S1024x128 .bf16) (x4 : Vec Ideal S1x128 .f32) (r : Fin 512) (l : Fin 128) :
    k0_pay16 (F := Ideal) (k0_pay14 (k0_pay4 x0 x1) x3 x4) (iota .tc S512x128 32 [1] iota_S512x128_d1_w32) k0_pay15 (ix2 r l)
      = gate (at2 (n := 512) (m := 1024) x0 r.val) (at2 (n := 1) (m := 1024) x1 0) (at2 (n := 1024) (m := 128) x3) (at2 (n := 1) (m := 128) x4 0) l.val := by
  rw [pay16_apply, pay14_apply]
  unfold gate prow
  refine if_congr Iff.rfl (congrArg lsig (congrArg₂ (· + ·) (Finset.sum_congr rfl fun k _ => ?_) ?_)) rfl
  · rw [pay4_apply, at2_val]
  · exact (at2_val (n := 1) (m := 128) x4 0 l).symm

/-- A block's running sums of its log forget gates. -/
theorem sums (x0 : Vec Ideal S512x1024 .f32) (x1 : Vec Ideal S1x1024 .f32) (x3 : Vec Ideal S1024x128 .bf16) (x4 : Vec Ideal S1x128 .f32) (r : Fin 512) (l : Fin 128) :
    k0_pay17 (F := Ideal) (k0_pay14 (k0_pay4 x0 x1) x3 x4) (iota .tc S512x128 32 [1] iota_S512x128_d1_w32) k0_pay15 (ix2 r l)
      = ∑ s : Fin 512, if s.val ≤ r.val then gate (at2 (n := 512) (m := 1024) x0 s.val) (at2 (n := 1) (m := 1024) x1 0) (at2 (n := 1024) (m := 128) x3) (at2 (n := 1) (m := 128) x4 0) l.val else 0 := by
  rw [pay17_apply _ _ _ (fun s l => pay16_le _ s l)]
  exact Finset.sum_congr rfl fun s _ => if_congr Iff.rfl (gates x0 x1 x3 x4 s l) rfl

theorem pay2_apply (v : FVec Ideal S512x128 .f32) (w : Vec Ideal S1x128 .f32) (r : Fin 512) (l : Fin 128) :
    k0_pay2 (F := Ideal) v w (ix2 r l) = v (ix2 r l) + w (ix2 0 l) := by
  pointwise [k0_pay2]

theorem pay3_apply (v : FVec Ideal S512x128 .f32) (w : Vec Ideal S1x128 .f32) (l : Fin 128) :
    k0_pay3 (F := Ideal) v w (ix2 0 l) = v (ix2 511 l) + w (ix2 0 l) := by
  pointwise [k0_pay3, k0_pay2]

/-- The carried row, loaded. -/
theorem ld_row (xs : Vec Ideal S8x128 .f32) (inb : ∀ a, (![0, 0] : Fin 2 → ℕ) a + (![1, 128] : Fin 2 → ℕ) a ≤ S8x128.size a) (l : Fin 128) :
    ld xs (Rect.unit (s := S8x128) ![0, 0] ![1, 128] inb) (ix2 0 l) = xs (ix2 0 l) := by
  refine congrArg xs (funext fun a => Fin.ext ?_)
  match a with
  | ⟨0, _⟩ => rfl
  | ⟨1, _⟩ => show 0 + 1 * l.val = l.val; omega

/-- The carried row after its clearing, loaded. -/
theorem cov_row (v : View sig .tc .vmem S8x128 .f32) (inb : ∀ a, (![0, 0] : Fin 2 → ℕ) a + (![1, 128] : Fin 2 → ℕ) a ≤ S8x128.size a)
    (inb' : ∀ a, (![0, 0] : Fin 2 → ℕ) a + (![8, 128] : Fin 2 → ℕ) a ≤ S8x128.size a) (l : Fin 128) :
    v.readCov [(⟨Rect.unit (s := S8x128) ![0, 0] ![8, 128] inb', k0_pay1 (F := Ideal)⟩ : Piece (Elt Ideal) S8x128 .f32)]
      (Rect.unit (s := S8x128) ![0, 0] ![1, 128] inb).toLoadRect (ix2 0 l) = (0 : EReal) := by
  rw [readCov_eq_canon']
  rw [canon_unit_zero (S := S8x128) (by funext a; fin_cases a <;> rfl) inb']
  generalize (Rect.unit (s := S8x128) ![0, 0] ![1, 128] inb).toLoadRect.idx (ix2 0 l) = y
  pointwise [k0_pay1]

/-- The carried row, stored. -/
theorem row_hit (inb : ∀ a, (![0, 0] : Fin 2 → ℕ) a + (![1, 128] : Fin 2 → ℕ) a ≤ S8x128.size a)
    (w : (Rect.unit (s := S8x128) ![0, 0] ![1, 128] inb).shape.Idx → Elt Ideal .f32) (L : List (Piece (Elt Ideal) S8x128 .f32)) (l : Fin 128) :
    canon (⟨Rect.unit (s := S8x128) ![0, 0] ![1, 128] inb, w⟩ :: L) (ix2 0 l) = w (ix2 0 l) := by
  have e : (ix2 0 l : S8x128.Idx) = (Rect.unit (s := S8x128) ![0, 0] ![1, 128] inb).emb (ix2 0 l) := by
    funext a
    apply Fin.ext
    match a with
    | ⟨0, _⟩ => rfl
    | ⟨1, _⟩ => show l.val = 0 + 1 * l.val; omega
  rw [e, canon_cons_emb]

/-- The block's products. -/
theorem outA5 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S512x4096 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S8x128 .f32) (harg9 : arg9.IsWhole) (hc0 : cond0_0 i) (x0 : Vec Ideal S512x1024 .f32) (x1 : Vec Ideal S1x1024 .f32) (x2 : Vec Ideal S1024x4096 .bf16) (x3 : Vec Ideal S1024x128 .bf16) (x4 : Vec Ideal S1x128 .f32) (r : Fin 512) (j : Fin 4096) :
    out0_A_5 (F := Ideal) c i arg1 harg1 arg2 harg2 arg3 harg3 arg4 harg4 arg5 harg5 arg6 harg6 arg7 harg7 arg8 harg8 arg9 harg9 hc0 x0 x1 x2 x3 x4 (ix2 r j)
      = prow (at2 (n := 512) (m := 1024) x0 r.val) (at2 (n := 1) (m := 1024) x1 0) (at2 (n := 1024) (m := 4096) x2) j.val := by
  frame_out
  canon_tiles x h
  all_goals
    obtain ⟨a, q, rfl⟩ : ∃ (a : Fin 512) (q : Fin 512), x = ix2 a q := ⟨x 0, x 1, eq_ix2 x⟩
    obtain rfl : r = a := Fin.ext h0
  · exact (pay13_apply _ _ r q).trans (tile x0 x1 x2 _ _ r q j.val h1)
  · exact (pay12_apply _ _ r q).trans (tile x0 x1 x2 _ _ r q j.val h1)
  · exact (pay11_apply _ _ r q).trans (tile x0 x1 x2 _ _ r q j.val h1)
  · exact (pay10_apply _ _ r q).trans (tile x0 x1 x2 _ _ r q j.val h1)
  · exact (pay9_apply _ _ r q).trans (tile x0 x1 x2 _ _ r q j.val h1)
  · exact (pay7_apply _ _ _ r q).trans (tile x0 x1 x2 _ _ r q j.val h1)
  · exact (pay6_apply _ _ _ r q).trans (tile x0 x1 x2 _ _ r q j.val h1)
  · exact (pay5_apply _ _ _ r q).trans (tile x0 x1 x2 _ _ r q j.val (h1.trans (Nat.zero_add _).symm))

/-- The block's log forget gates. -/
theorem outA6 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S512x4096 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S8x128 .f32) (harg9 : arg9.IsWhole) (hc0 : cond0_0 i) (x0 : Vec Ideal S512x1024 .f32) (x1 : Vec Ideal S1x1024 .f32) (x2 : Vec Ideal S1024x4096 .bf16) (x3 : Vec Ideal S1024x128 .bf16) (x4 : Vec Ideal S1x128 .f32) (r : Fin 512) (l : Fin 128) :
    out0_A_6 (F := Ideal) c i arg1 harg1 arg2 harg2 arg3 harg3 arg4 harg4 arg5 harg5 arg6 harg6 arg7 harg7 arg8 harg8 arg9 harg9 hc0 x0 x1 x2 x3 x4 (ix2 r l)
      = gate (at2 (n := 512) (m := 1024) x0 r.val) (at2 (n := 1) (m := 1024) x1 0) (at2 (n := 1024) (m := 128) x3) (at2 (n := 1) (m := 128) x4 0) l.val := by
  frame_out
  exact gates x0 x1 x3 x4 r l

/-- The block's running sums. -/
theorem outA7 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S512x4096 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S8x128 .f32) (harg9 : arg9.IsWhole) (hc0 : cond0_0 i) (x0 : Vec Ideal S512x1024 .f32) (x1 : Vec Ideal S1x1024 .f32) (x2 : Vec Ideal S1024x4096 .bf16) (x3 : Vec Ideal S1024x128 .bf16) (x4 : Vec Ideal S1x128 .f32) (r : Fin 512) (l : Fin 128) :
    out0_A_7 (F := Ideal) c i arg1 harg1 arg2 harg2 arg3 harg3 arg4 harg4 arg5 harg5 arg6 harg6 arg7 harg7 arg8 harg8 arg9 harg9 hc0 x0 x1 x2 x3 x4 (ix2 r l)
      = (∑ s : Fin 512, if s.val ≤ r.val then gate (at2 (n := 512) (m := 1024) x0 s.val) (at2 (n := 1) (m := 1024) x1 0) (at2 (n := 1024) (m := 128) x3) (at2 (n := 1) (m := 128) x4 0) l.val else 0) + 0 := by
  frame_out
  refine (pay2_apply _ _ r l).trans (congrArg₂ (· + ·) (sums x0 x1 x3 x4 r l) ?_)
  exact cov_row _ _ _ l

/-- The row carried on. -/
theorem soutA (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S512x4096 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S8x128 .f32) (harg9 : arg9.IsWhole) (hc0 : cond0_0 i) (x0 : Vec Ideal S512x1024 .f32) (x1 : Vec Ideal S1x1024 .f32) (x2 : Vec Ideal S1024x4096 .bf16) (x3 : Vec Ideal S1024x128 .bf16) (x4 : Vec Ideal S1x128 .f32) (l : Fin 128) :
    sout0_A_0 (F := Ideal) c i arg1 harg1 arg2 harg2 arg3 harg3 arg4 harg4 arg5 harg5 arg6 harg6 arg7 harg7 arg8 harg8 arg9 harg9 hc0 x0 x1 x2 x3 x4 (ix2 0 l)
      = (∑ s : Fin 512, if s.val ≤ 511 then gate (at2 (n := 512) (m := 1024) x0 s.val) (at2 (n := 1) (m := 1024) x1 0) (at2 (n := 1024) (m := 128) x3) (at2 (n := 1) (m := 128) x4 0) l.val else 0) + 0 := by
  frame_out
  refine (row_hit _ _ _ l).trans ((pay3_apply _ _ l).trans (congrArg₂ (· + ·) (sums x0 x1 x3 x4 511 l) ?_))
  exact cov_row _ _ _ l

/-- The block's products. -/
theorem outB5 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S512x4096 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S8x128 .f32) (harg9 : arg9.IsWhole) (hc0 : ¬cond0_0 i) (x0 : Vec Ideal S512x1024 .f32) (x1 : Vec Ideal S1x1024 .f32) (x2 : Vec Ideal S1024x4096 .bf16) (x3 : Vec Ideal S1024x128 .bf16) (x4 : Vec Ideal S1x128 .f32) (xs : Vec Ideal S8x128 .f32) (r : Fin 512) (j : Fin 4096) :
    out0_B_5 (F := Ideal) c i arg1 harg1 arg2 harg2 arg3 harg3 arg4 harg4 arg5 harg5 arg6 harg6 arg7 harg7 arg8 harg8 arg9 harg9 hc0 x0 x1 x2 x3 x4 xs (ix2 r j)
      = prow (at2 (n := 512) (m := 1024) x0 r.val) (at2 (n := 1) (m := 1024) x1 0) (at2 (n := 1024) (m := 4096) x2) j.val := by
  frame_out
  canon_tiles x h
  all_goals
    obtain ⟨a, q, rfl⟩ : ∃ (a : Fin 512) (q : Fin 512), x = ix2 a q := ⟨x 0, x 1, eq_ix2 x⟩
    obtain rfl : r = a := Fin.ext h0
  · exact (pay13_apply _ _ r q).trans (tile x0 x1 x2 _ _ r q j.val h1)
  · exact (pay12_apply _ _ r q).trans (tile x0 x1 x2 _ _ r q j.val h1)
  · exact (pay11_apply _ _ r q).trans (tile x0 x1 x2 _ _ r q j.val h1)
  · exact (pay10_apply _ _ r q).trans (tile x0 x1 x2 _ _ r q j.val h1)
  · exact (pay9_apply _ _ r q).trans (tile x0 x1 x2 _ _ r q j.val h1)
  · exact (pay7_apply _ _ _ r q).trans (tile x0 x1 x2 _ _ r q j.val h1)
  · exact (pay6_apply _ _ _ r q).trans (tile x0 x1 x2 _ _ r q j.val h1)
  · exact (pay5_apply _ _ _ r q).trans (tile x0 x1 x2 _ _ r q j.val (h1.trans (Nat.zero_add _).symm))

/-- The block's log forget gates. -/
theorem outB6 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S512x4096 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S8x128 .f32) (harg9 : arg9.IsWhole) (hc0 : ¬cond0_0 i) (x0 : Vec Ideal S512x1024 .f32) (x1 : Vec Ideal S1x1024 .f32) (x2 : Vec Ideal S1024x4096 .bf16) (x3 : Vec Ideal S1024x128 .bf16) (x4 : Vec Ideal S1x128 .f32) (xs : Vec Ideal S8x128 .f32) (r : Fin 512) (l : Fin 128) :
    out0_B_6 (F := Ideal) c i arg1 harg1 arg2 harg2 arg3 harg3 arg4 harg4 arg5 harg5 arg6 harg6 arg7 harg7 arg8 harg8 arg9 harg9 hc0 x0 x1 x2 x3 x4 xs (ix2 r l)
      = gate (at2 (n := 512) (m := 1024) x0 r.val) (at2 (n := 1) (m := 1024) x1 0) (at2 (n := 1024) (m := 128) x3) (at2 (n := 1) (m := 128) x4 0) l.val := by
  frame_out
  exact gates x0 x1 x3 x4 r l

/-- The block's running sums. -/
theorem outB7 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S512x4096 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S8x128 .f32) (harg9 : arg9.IsWhole) (hc0 : ¬cond0_0 i) (x0 : Vec Ideal S512x1024 .f32) (x1 : Vec Ideal S1x1024 .f32) (x2 : Vec Ideal S1024x4096 .bf16) (x3 : Vec Ideal S1024x128 .bf16) (x4 : Vec Ideal S1x128 .f32) (xs : Vec Ideal S8x128 .f32) (r : Fin 512) (l : Fin 128) :
    out0_B_7 (F := Ideal) c i arg1 harg1 arg2 harg2 arg3 harg3 arg4 harg4 arg5 harg5 arg6 harg6 arg7 harg7 arg8 harg8 arg9 harg9 hc0 x0 x1 x2 x3 x4 xs (ix2 r l)
      = (∑ s : Fin 512, if s.val ≤ r.val then gate (at2 (n := 512) (m := 1024) x0 s.val) (at2 (n := 1) (m := 1024) x1 0) (at2 (n := 1024) (m := 128) x3) (at2 (n := 1) (m := 128) x4 0) l.val else 0) + xs (ix2 0 l) := by
  frame_out
  refine (pay2_apply _ _ r l).trans (congrArg₂ (· + ·) (sums x0 x1 x3 x4 r l) ?_)
  exact ld_row _ _ l

/-- The row carried on. -/
theorem soutB (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x4096 .bf16) (harg3 : arg3.IsWhole) (arg4 : Memref sig .tc .vmem S1024x128 .bf16) (harg4 : arg4.IsWhole) (arg5 : Memref sig .tc .vmem S1x128 .f32) (harg5 : arg5.IsWhole) (arg6 : Memref sig .tc .vmem S512x4096 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S8x128 .f32) (harg9 : arg9.IsWhole) (hc0 : ¬cond0_0 i) (x0 : Vec Ideal S512x1024 .f32) (x1 : Vec Ideal S1x1024 .f32) (x2 : Vec Ideal S1024x4096 .bf16) (x3 : Vec Ideal S1024x128 .bf16) (x4 : Vec Ideal S1x128 .f32) (xs : Vec Ideal S8x128 .f32) (l : Fin 128) :
    sout0_B_0 (F := Ideal) c i arg1 harg1 arg2 harg2 arg3 harg3 arg4 harg4 arg5 harg5 arg6 harg6 arg7 harg7 arg8 harg8 arg9 harg9 hc0 x0 x1 x2 x3 x4 xs (ix2 0 l)
      = (∑ s : Fin 512, if s.val ≤ 511 then gate (at2 (n := 512) (m := 1024) x0 s.val) (at2 (n := 1) (m := 1024) x1 0) (at2 (n := 1024) (m := 128) x3) (at2 (n := 1) (m := 128) x4 0) l.val else 0) + xs (ix2 0 l) := by
  frame_out
  refine (read_writes_cons_unit_of_mem arg9.view _ _ _ [] (ix2 0 l) (ix2 0 l) rfl (fun a => ?_)).trans ((pay3_apply _ _ l).trans (congrArg₂ (· + ·) (sums x0 x1 x3 x4 511 l) ?_))
  · fin_cases a <;> simp
  · exact ld_row _ _ l

end Cert.Kernel2Ideal.Even

end
-- ==== Proof.EArr.lean ====
/-
  The first projection's three arrays after the run, read at an index: each block's values from the arguments, the carried
  row by induction on the blocks of a batch.
-/
module

public import proofs.«01_k».proof.Proof.EBody
public import proofs.«01_k».proof.Proof.Gen.Kernel2Ideal.Value

@[expose] public section

set_option maxRecDepth 16384

noncomputable section

namespace Cert.Kernel2Ideal.Even

open Cert.Kernel2Ideal Cert.Kernel2Ideal.Gen
open Idealize.ShloMosaic Idealize.ShloMosaic.TcCoe Idealize.SL.Sem
open Cert.Even

variable (m : (ℓ : Loc nD τ sig) → Buf (Elt Ideal) ℓ) (c : Dev nD)

/-- The arguments. -/
abbrev aX : S2x8192x1024.Idx → EReal := m ((c : Thread nD τ).loc main_arg0)
abbrev aG : S1x1024.Idx → EReal := m ((c : Thread nD τ).loc main_arg1)
abbrev aW : S1x1024x4100.Idx → EReal := m ((c : Thread nD τ).loc main_arg2)
abbrev aB : S1x4.Idx → EReal := m ((c : Thread nD τ).loc main_arg3)

/-- The rows the blocks are cut from. -/
theorem V_v0 : V m c main_v0 = shapeCast S16384x1024 (aX m c) shapeCasts_S2x8192x1024_S16384x1024 := by
  show StableHlo.after (List.flatten [hostOps0, hostOps0_1, hostOps0_2, hostOps0_3]) _ (Proc.devRef .tc main_v0) = _
  simp only [hostOps0, hostOps0_1, hostOps0_2, hostOps0_3, List.flatten_cons, List.flatten_nil, List.append_nil, List.cons_append, List.nil_append]
  after_results
  rfl

theorem V_v3 : V m c main_v3 = shapeCast S1x1024 (shapeCast S1024 (aG m c) shapeCasts_S1x1024_S1024) shapeCasts_S1024_S1x1024 := by
  show StableHlo.after (List.flatten [hostOps0, hostOps0_1, hostOps0_2, hostOps0_3]) _ (Proc.devRef .tc main_v3) = _
  simp only [hostOps0, hostOps0_1, hostOps0_2, hostOps0_3, List.flatten_cons, List.flatten_nil, List.append_nil, List.cons_append, List.nil_append]
  after_results
  rfl

theorem V_v5 : V m c main_v5 = truncf (F := Ideal) .bf16 (extractStridedSlice S1024x4096 ![0, 0] (shapeCast S1024x4100 (aW m c) shapeCasts_S1x1024x4100_S1024x4100) slices_S1024x4100_S1024x4096_0_0) bitsLt_bf16_f32 := by
  show StableHlo.after (List.flatten [hostOps0, hostOps0_1, hostOps0_2, hostOps0_3]) _ (Proc.devRef .tc main_v5) = _
  simp only [hostOps0, hostOps0_1, hostOps0_2, hostOps0_3, List.flatten_cons, List.flatten_nil, List.append_nil, List.cons_append, List.nil_append]
  after_results
  rfl

theorem V_v8 : V m c main_v8 = truncf (F := Ideal) .bf16 (pad S1024x128 ![0, 0] ![0, 124] ![0, 0] (extractStridedSlice S1024x4 ![0, 4096] (shapeCast S1024x4100 (aW m c) shapeCasts_S1x1024x4100_S1024x4100) slices_S1024x4100_S1024x4_0_4096) (sitofp (F := Ideal) .f32 (constantI S_ 32 0#32)) pads_S1024x4_S1024x128_000_01240 h_S_) bitsLt_bf16_f32 := by
  show StableHlo.after (List.flatten [hostOps0, hostOps0_1, hostOps0_2, hostOps0_3]) _ (Proc.devRef .tc main_v8) = _
  simp only [hostOps0, hostOps0_1, hostOps0_2, hostOps0_3, List.flatten_cons, List.flatten_nil, List.append_nil, List.cons_append, List.nil_append]
  after_results
  rfl

theorem V_v11 : V m c main_v11 = pad S1x128 ![0, 0] ![0, 124] ![0, 0] (shapeCast S1x4 (shapeCast S4 (aB m c) shapeCasts_S1x4_S4) shapeCasts_S4_S1x4) (sitofp (F := Ideal) .f32 (constantI S_ 32 0#32)) pads_S1x4_S1x128_000_01240 h_S_ := by
  show StableHlo.after (List.flatten [hostOps0, hostOps0_1, hostOps0_2, hostOps0_3]) _ (Proc.devRef .tc main_v11) = _
  simp only [hostOps0, hostOps0_1, hostOps0_2, hostOps0_3, List.flatten_cons, List.flatten_nil, List.append_nil, List.cons_append, List.nil_append]
  after_results
  rfl

theorem v0_apply (r : Fin 16384) (k : Fin 1024) : V m c main_v0 (ix2 r k) = row (aX m c) r.val k.val := by
  rw [V_v0]
  pointwise
  exact at3_eq _ _ _ _ rfl rfl rfl

theorem v3_apply (k : Fin 1024) : V m c main_v3 (ix2 0 k) = at2 (n := 1) (m := 1024) (aG m c) 0 k.val := by
  rw [V_v3]
  pointwise
  exact at2_eq _ _ _ rfl rfl

theorem v5_apply (k : Fin 1024) (j : Fin 4096) : V m c main_v5 (ix2 k j) = at3 (n := 1) (m := 1024) (p := 4100) (aW m c) 0 k.val j.val := by
  rw [V_v5]
  pointwise
  exact at3_eq _ _ _ _ rfl rfl rfl

theorem v8_apply (k : Fin 1024) (l : Fin 128) (hl : l.val < 4) : V m c main_v8 (ix2 k l) = at3 (n := 1) (m := 1024) (p := 4100) (aW m c) 0 k.val (4096 + l.val) := by
  rw [V_v8]
  pointwise
  rw [dif_pos hl]
  exact at3_eq _ _ _ _ rfl rfl rfl

theorem v11_apply (l : Fin 128) (hl : l.val < 4) : V m c main_v11 (ix2 0 l) = at2 (n := 1) (m := 4) (aB m c) 0 l.val := by
  rw [V_v11]
  pointwise
  rw [dif_pos hl]
  exact at2_eq _ _ _ rfl rfl

/-- The blocks' places: block `t` of the rows starts at row `512 t`; the other operands come whole. -/
theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel

variable (t : Fin cfg0.N)

theorem blk0 (r : Fin 512) (k : Fin 1024) : at2 (n := 512) (m := 1024) (iblk m c 0 t) r.val k.val = row (aX m c) (512 * t.val + r.val) k.val := by
  have ht : t.val < 32 := lt_of_lt_of_eq t.isLt (show cfg0.N = 32 from N_0)
  rw [at2_val, ← v0_apply m c ⟨512 * t.val + r.val, by omega⟩ k]
  show V m c main_v0 (((cfg0.win 0).blk t).view.emb (ix2 r k)) = _
  have h0 : (((cfg0.win 0).blk t).view.emb (ix2 r k) 0).val = win0_0.index t 0 * 512 + 1 * r.val := rfl
  have h1 : (((cfg0.win 0).blk t).view.emb (ix2 r k) 1).val = win0_0.index t 1 * 1024 + 1 * k.val := rfl
  rw [(idx0 t).1] at h0
  rw [(idx0 t).2] at h1
  refine congrArg _ (funext fun a => Fin.ext ?_)
  fin_cases a
  · exact h0.trans (show _ = 512 * t.val + r.val by omega)
  · exact h1.trans (show _ = k.val by omega)

theorem blk1 (k : Fin 1024) : at2 (n := 1) (m := 1024) (iblk m c 1 t) 0 k.val = at2 (n := 1) (m := 1024) (aG m c) 0 k.val := by
  rw [← v3_apply m c k]
  refine (at2_val (n := 1) (m := 1024) (iblk m c 1 t) 0 k).trans ?_
  show V m c main_v3 (((cfg0.win 1).blk t).view.emb (ix2 0 k)) = _
  have h0 : (((cfg0.win 1).blk t).view.emb (ix2 0 k) 0).val = win0_1.index t 0 * 1 + 1 * 0 := rfl
  have h1 : (((cfg0.win 1).blk t).view.emb (ix2 0 k) 1).val = win0_1.index t 1 * 1024 + 1 * k.val := rfl
  rw [(idx1 t).1] at h0
  rw [(idx1 t).2] at h1
  refine congrArg _ (funext fun a => Fin.ext ?_)
  fin_cases a
  · exact h0.trans (show _ = 0 by omega)
  · exact h1.trans (show _ = k.val by omega)

theorem blk2 (k : Fin 1024) (j : Fin 4096) : at2 (n := 1024) (m := 4096) (iblk m c 2 t) k.val j.val = at3 (n := 1) (m := 1024) (p := 4100) (aW m c) 0 k.val j.val := by
  rw [at2_val, ← v5_apply m c k j]
  show V m c main_v5 (((cfg0.win 2).blk t).view.emb (ix2 k j)) = _
  have h0 : (((cfg0.win 2).blk t).view.emb (ix2 k j) 0).val = win0_2.index t 0 * 1024 + 1 * k.val := rfl
  have h1 : (((cfg0.win 2).blk t).view.emb (ix2 k j) 1).val = win0_2.index t 1 * 4096 + 1 * j.val := rfl
  rw [(idx2 t).1] at h0
  rw [(idx2 t).2] at h1
  refine congrArg _ (funext fun a => Fin.ext ?_)
  fin_cases a
  · exact h0.trans (show _ = k.val by omega)
  · exact h1.trans (show _ = j.val by omega)

theorem blk3 (l : Fin 128) (hl : l.val < 4) (k : Fin 1024) : at2 (n := 1024) (m := 128) (iblk m c 3 t) k.val l.val = at3 (n := 1) (m := 1024) (p := 4100) (aW m c) 0 k.val (4096 + l.val) := by
  rw [at2_val, ← v8_apply m c k l hl]
  show V m c main_v8 (((cfg0.win 3).blk t).view.emb (ix2 k l)) = _
  have h0 : (((cfg0.win 3).blk t).view.emb (ix2 k l) 0).val = win0_3.index t 0 * 1024 + 1 * k.val := rfl
  have h1 : (((cfg0.win 3).blk t).view.emb (ix2 k l) 1).val = win0_3.index t 1 * 128 + 1 * l.val := rfl
  rw [(idx3 t).1] at h0
  rw [(idx3 t).2] at h1
  refine congrArg _ (funext fun a => Fin.ext ?_)
  fin_cases a
  · exact h0.trans (show _ = k.val by omega)
  · exact h1.trans (show _ = l.val by omega)

theorem blk4 (l : Fin 128) (hl : l.val < 4) : at2 (n := 1) (m := 128) (iblk m c 4 t) 0 l.val = at2 (n := 1) (m := 4) (aB m c) 0 l.val := by
  rw [← v11_apply m c l hl]
  refine (at2_val (n := 1) (m := 128) (iblk m c 4 t) 0 l).trans ?_
  show V m c main_v11 (((cfg0.win 4).blk t).view.emb (ix2 0 l)) = _
  have h0 : (((cfg0.win 4).blk t).view.emb (ix2 0 l) 0).val = win0_4.index t 0 * 1 + 1 * 0 := rfl
  have h1 : (((cfg0.win 4).blk t).view.emb (ix2 0 l) 1).val = win0_4.index t 1 * 128 + 1 * l.val := rfl
  rw [(idx4 t).1] at h0
  rw [(idx4 t).2] at h1
  refine congrArg _ (funext fun a => Fin.ext ?_)
  fin_cases a
  · exact h0.trans (show _ = 0 by omega)
  · exact h1.trans (show _ = l.val by omega)

/-- A block's products and gates are the arguments' own. -/
theorem prow_blk (r : Fin 512) (j : Fin 4096) :
    prow (at2 (n := 512) (m := 1024) (iblk m c 0 t) r.val) (at2 (n := 1) (m := 1024) (iblk m c 1 t) 0) (at2 (n := 1024) (m := 4096) (iblk m c 2 t)) j.val
      = proj (aX m c) (aG m c) (aW m c) (512 * t.val + r.val) j.val :=
  prow_congr (blk0 m c t r) (blk1 m c t) fun k => blk2 m c t k j

theorem gate_blk (r : Fin 512) (l : Fin 128) :
    gate (at2 (n := 512) (m := 1024) (iblk m c 0 t) r.val) (at2 (n := 1) (m := 1024) (iblk m c 1 t) 0) (at2 (n := 1024) (m := 128) (iblk m c 3 t)) (at2 (n := 1) (m := 128) (iblk m c 4 t) 0) l.val
      = forget (aX m c) (aG m c) (aW m c) (aB m c) (512 * t.val + r.val) l.val :=
  gate_congr (blk0 m c t r) (blk1 m c t) (fun hl k => blk3 m c t l hl k) fun hl => blk4 m c t l hl

/-- A block's partial sum on top of the sum of the batch's earlier blocks. -/
theorem sum_blk (l : Fin 128) (r : ℕ) (hr : r < 512) :
    (∑ s : Fin 512, if s.val ≤ r then gate (at2 (n := 512) (m := 1024) (iblk m c 0 t) s.val) (at2 (n := 1) (m := 1024) (iblk m c 1 t) 0) (at2 (n := 1024) (m := 128) (iblk m c 3 t)) (at2 (n := 1) (m := 128) (iblk m c 4 t) 0) l.val else 0)
        + ∑ s ∈ Finset.range (512 * (t.val % 16)), forget (aX m c) (aG m c) (aW m c) (aB m c) (8192 * (t.val / 16) + s) l.val
      = ∑ s ∈ Finset.range (512 * (t.val % 16) + r + 1), forget (aX m c) (aG m c) (aW m c) (aB m c) (8192 * (t.val / 16) + s) l.val := by
  refine Eq.trans (congrArg₂ (fun a b : EReal => a + b) (Finset.sum_congr rfl fun s _ => ?_) rfl)
    (prefix_block (fun s => forget (aX m c) (aG m c) (aW m c) (aB m c) (8192 * (t.val / 16) + s) l.val) (t.val % 16) r hr)
  rw [gate_blk, show 512 * t.val + s.val = 8192 * (t.val / 16) + (512 * (t.val % 16) + s.val) by omega]

/-- The projection's block. -/
theorem out5_eq (r : Fin 512) (j : Fin 4096) :
    (outsAt0 m c t.val t.isLt).1 (ix2 r j) = proj (aX m c) (aG m c) (aW m c) (512 * t.val + r.val) j.val := by
  by_cases h0 : t.val % 16 = 0
  · rw [outsAt0_A m c t h0]
    dsimp only
    rw [outA5, prow_blk]
  · rw [outsAt0_B m c t h0]
    dsimp only
    rw [outB5, prow_blk]

/-- The gates' block. -/
theorem out6_eq (r : Fin 512) (l : Fin 128) :
    (outsAt0 m c t.val t.isLt).2.1 (ix2 r l) = forget (aX m c) (aG m c) (aW m c) (aB m c) (512 * t.val + r.val) l.val := by
  by_cases h0 : t.val % 16 = 0
  · rw [outsAt0_A m c t h0]
    dsimp only
    rw [outA6, gate_blk]
  · rw [outsAt0_B m c t h0]
    dsimp only
    rw [outB6, gate_blk]

/-- At a batch's first block nothing has been summed before. -/
theorem sum_zero (h0 : t.val % 16 = 0) (l : Fin 128) :
    (0 : EReal) = ∑ s ∈ Finset.range (512 * (t.val % 16)), forget (aX m c) (aG m c) (aW m c) (aB m c) (8192 * (t.val / 16) + s) l.val := by
  rw [h0, Nat.mul_zero, Finset.range_zero, Finset.sum_empty]

/-- What the carried row holds after a block: the sum of the batch's blocks up to it. -/
def Carry (l : Fin 128) : Prop :=
  (outsAt0 m c t.val t.isLt).2.2.2 (ix2 0 l)
    = ∑ s ∈ Finset.range (512 * (t.val % 16) + 511 + 1), forget (aX m c) (aG m c) (aW m c) (aB m c) (8192 * (t.val / 16) + s) l.val

/-- A carried row is what the next block of the batch starts from. -/
theorem carry_prev (h0 : ¬t.val % 16 = 0) (l : Fin 128)
    (ih : Carry m c ⟨t.val - 1, Nat.lt_of_le_of_lt (Nat.sub_le _ _) t.isLt⟩ l) :
    (outsAt0 m c (t.val - 1) (Nat.lt_of_le_of_lt (Nat.sub_le _ _) t.isLt)).2.2.2 (ix2 0 l)
      = ∑ s ∈ Finset.range (512 * (t.val % 16)), forget (aX m c) (aG m c) (aW m c) (aB m c) (8192 * (t.val / 16) + s) l.val := by
  unfold Carry at ih
  rw [show 512 * (t.val % 16) = 512 * ((t.val - 1) % 16) + 511 + 1 by omega, show t.val / 16 = (t.val - 1) / 16 by omega]
  exact ih

theorem carry (l : Fin 128) : ∀ (n : ℕ) (hn : n < cfg0.N), Carry m c ⟨n, hn⟩ l := by
  intro n
  induction n with
  | zero =>
    intro hn
    have h0 : (⟨0, hn⟩ : Fin cfg0.N).val % 16 = 0 := rfl
    unfold Carry
    rw [outsAt0_A m c ⟨0, hn⟩ h0]
    dsimp only
    rw [soutA]
    exact (congrArg₂ (fun a b : EReal => a + b) rfl (sum_zero m c _ h0 l)).trans (sum_blk m c _ l 511 (by omega))
  | succ n ih =>
    intro hn
    by_cases h0 : (⟨n + 1, hn⟩ : Fin cfg0.N).val % 16 = 0
    · unfold Carry
      rw [outsAt0_A m c ⟨n + 1, hn⟩ h0]
      dsimp only
      rw [soutA]
      exact (congrArg₂ (fun a b : EReal => a + b) rfl (sum_zero m c _ h0 l)).trans (sum_blk m c _ l 511 (by omega))
    · have hp := carry_prev m c ⟨n + 1, hn⟩ h0 l (ih (Nat.lt_of_succ_lt hn))
      unfold Carry
      rw [outsAt0_B m c ⟨n + 1, hn⟩ h0]
      dsimp only
      rw [soutB]
      exact (congrArg₂ (fun a b : EReal => a + b) rfl hp).trans (sum_blk m c _ l 511 (by omega))

/-- The running sums' block. -/
theorem out7_eq (r : Fin 512) (l : Fin 128) :
    (outsAt0 m c t.val t.isLt).2.2.1 (ix2 r l) = running (aX m c) (aG m c) (aW m c) (aB m c) (512 * t.val + r.val) l.val := by
  unfold running
  rw [show (512 * t.val + r.val) % 8192 + 1 = 512 * (t.val % 16) + r.val + 1 by omega, show (512 * t.val + r.val) / 8192 = t.val / 16 by omega]
  by_cases h0 : t.val % 16 = 0
  · rw [outsAt0_A m c t h0]
    dsimp only
    rw [outA7]
    exact (congrArg₂ (fun a b : EReal => a + b) rfl (sum_zero m c _ h0 l)).trans (sum_blk m c t l r.val r.isLt)
  · have hp := carry_prev m c t h0 l (carry m c l _ _)
    rw [outsAt0_B m c t h0]
    dsimp only
    rw [outB7]
    exact (congrArg₂ (fun a b : EReal => a + b) rfl hp).trans (sum_blk m c t l r.val r.isLt)

open Value in
/-- The projection's array. -/
theorem G5_apply (r : Fin 16384) (j : Fin 4096) : G5 m c (ix2 r j) = proj (aX m c) (aG m c) (aW m c) r.val j.val := by
  have hp : pt5Of (ix2 r j) = r.val / 512 := by
    show 1 * (r.val / 512 - 0) + 1 * (j.val / 4096 - 0) = _
    omega
  have hN : pt5Of (ix2 r j) < cfg0.N := by rw [hp, show cfg0.N = 32 from N_0]; omega
  have hl : loc5Of (ix2 r j) = ix2 (⟨r.val % 512, by omega⟩ : Fin 512) j := by
    funext a; fin_cases a
    · rfl
    · exact Fin.ext (Nat.mod_eq_of_lt j.isLt)
  unfold G5
  rw [dif_pos hN, ← outsAt0_sweep, hl]
  refine (out5_eq m c ⟨_, hN⟩ _ j).trans ?_
  show proj _ _ _ (512 * pt5Of (ix2 r j) + r.val % 512) _ = _
  rw [hp, show 512 * (r.val / 512) + r.val % 512 = r.val by omega]

open Value in
/-- The gates' array. -/
theorem G6_apply (r : Fin 16384) (l : Fin 128) : G6 m c (ix2 r l) = forget (aX m c) (aG m c) (aW m c) (aB m c) r.val l.val := by
  have hp : pt6Of (ix2 r l) = r.val / 512 := by
    show 1 * (r.val / 512 - 0) + 1 * (l.val / 128 - 0) = _
    omega
  have hN : pt6Of (ix2 r l) < cfg0.N := by rw [hp, show cfg0.N = 32 from N_0]; omega
  have hl : loc6Of (ix2 r l) = ix2 (⟨r.val % 512, by omega⟩ : Fin 512) l := by
    funext a; fin_cases a
    · rfl
    · exact Fin.ext (Nat.mod_eq_of_lt l.isLt)
  unfold G6
  rw [dif_pos hN, ← outsAt0_sweep, hl]
  refine (out6_eq m c ⟨_, hN⟩ _ l).trans ?_
  show forget _ _ _ _ (512 * pt6Of (ix2 r l) + r.val % 512) _ = _
  rw [hp, show 512 * (r.val / 512) + r.val % 512 = r.val by omega]

open Value in
/-- The running sums' array. -/
theorem G7_apply (r : Fin 16384) (l : Fin 128) : G7 m c (ix2 r l) = running (aX m c) (aG m c) (aW m c) (aB m c) r.val l.val := by
  have hp : pt7Of (ix2 r l) = r.val / 512 := by
    show 1 * (r.val / 512 - 0) + 1 * (l.val / 128 - 0) = _
    omega
  have hN : pt7Of (ix2 r l) < cfg0.N := by rw [hp, show cfg0.N = 32 from N_0]; omega
  have hl : loc7Of (ix2 r l) = ix2 (⟨r.val % 512, by omega⟩ : Fin 512) l := by
    funext a; fin_cases a
    · rfl
    · exact Fin.ext (Nat.mod_eq_of_lt l.isLt)
  unfold G7
  rw [dif_pos hN, ← outsAt0_sweep, hl]
  refine (out7_eq m c ⟨_, hN⟩ _ l).trans ?_
  show running _ _ _ _ (512 * pt7Of (ix2 r l) + r.val % 512) _ = _
  rw [hp, show 512 * (r.val / 512) + r.val % 512 = r.val by omega]

end Cert.Kernel2Ideal.Even

end
-- ==== Proof.ERef.lean ====
/-
  The plain first projection, read at an index: its products, its log forget gates and their running sums.
-/
module

public import proofs.«01_k».proof.Proof.EMath
public import proofs.«01_k».proof.Proof.Gen.Reference2Ideal.Run
public import Idealize.ShloMosaic.Lib.Pointwise
public import Idealize.ShloMosaic.PureOps.Ideal.Laws

@[expose] public section

set_option maxRecDepth 16384

noncomputable section

namespace Cert.Reference2Ideal.Value

open Cert.Reference2Ideal Cert.Reference2Ideal.Gen
open Idealize.ShloMosaic
open Idealize.ShloMosaic.TcCoe
open Cert.Even

section Defs

variable {F : FTy → Type} [FloatOps F]

/-- The products with every column of the weights. -/
def prj (x : (⟨S2x8192x1024, .f32⟩ : BufTy).Contents (Elt F)) (g : (⟨S1x1024, .f32⟩ : BufTy).Contents (Elt F)) (w : (⟨S1x1024x4100, .f32⟩ : BufTy).Contents (Elt F)) : (⟨S2x8192x4100, .f32⟩ : BufTy).Contents (Elt F) :=
  Host.dotGeneral dot_S2x8192x1024_S1024x4100_S2x8192x4100_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast S1024 g shapeCasts_S1x1024_S1024)))) (shapeCast S1024x4100 w shapeCasts_S1x1024x4100_S1024x4100)

/-- The gates' arguments, negated. -/
def neg4 (x : (⟨S2x8192x1024, .f32⟩ : BufTy).Contents (Elt F)) (g : (⟨S1x1024, .f32⟩ : BufTy).Contents (Elt F)) (w : (⟨S1x1024x4100, .f32⟩ : BufTy).Contents (Elt F)) (b : (⟨S1x4, .f32⟩ : BufTy).Contents (Elt F)) : (⟨S2x8192x4, .f32⟩ : BufTy).Contents (Elt F) :=
  Host.negf (addf (extractStridedSlice S2x8192x4 ![0, 0, 4096] (prj x g w) slices_S2x8192x4100_S2x8192x4_0_0_4096) (broadcastInDim S2x8192x4 ![0, 1, 2] bcast_S1x1x4_S2x8192x4_0_1_2 (broadcastInDim S1x1x4 ![2] bcast_S4_S1x1x4_2 (shapeCast S4 b shapeCasts_S1x4_S4))))

/-- The log forget gates. -/
def lg4 (x : (⟨S2x8192x1024, .f32⟩ : BufTy).Contents (Elt F)) (g : (⟨S1x1024, .f32⟩ : BufTy).Contents (Elt F)) (w : (⟨S1x1024x4100, .f32⟩ : BufTy).Contents (Elt F)) (b : (⟨S1x4, .f32⟩ : BufTy).Contents (Elt F)) : (⟨S2x8192x4, .f32⟩ : BufTy).Contents (Elt F) :=
  Host.negf (select (cmpf .une (subf (neg4 x g w b) (broadcastInDim S2x8192x4 ![] bcast_S_S2x8192x4 (constant S_ .f32 0x00000000#32))) (subf (neg4 x g w b) (broadcastInDim S2x8192x4 ![] bcast_S_S2x8192x4 (constant S_ .f32 0x00000000#32)))) (addf (neg4 x g w b) (broadcastInDim S2x8192x4 ![] bcast_S_S2x8192x4 (constant S_ .f32 0x00000000#32))) (addf (maximumf (neg4 x g w b) (broadcastInDim S2x8192x4 ![] bcast_S_S2x8192x4 (constant S_ .f32 0x00000000#32))) (Host.log1p (Host.exp (Host.negf (Host.absf (subf (neg4 x g w b) (broadcastInDim S2x8192x4 ![] bcast_S_S2x8192x4 (constant S_ .f32 0x00000000#32)))))))))

/-- Their running sums. -/
def cs4 (x : (⟨S2x8192x1024, .f32⟩ : BufTy).Contents (Elt F)) (g : (⟨S1x1024, .f32⟩ : BufTy).Contents (Elt F)) (w : (⟨S1x1024x4100, .f32⟩ : BufTy).Contents (Elt F)) (b : (⟨S1x4, .f32⟩ : BufTy).Contents (Elt F)) : (⟨S2x8192x4, .f32⟩ : BufTy).Contents (Elt F) :=
  Host.reduceWindowAdd ![1, 8192, 1] ![1, 1, 1] ![0, 8191, 0] ![0, 0, 0] (lg4 x g w b) (broadcastInDim S_ ![] bcast_S_S_ (constant S_ .f32 0x00000000#32)) reduceWindows_S2x8192x4_S2x8192x4_w1s1p0_0_w8192s1p8191_0_w1s1p0_0 h_S_

/-- The three results. -/
def rp (x : (⟨S2x8192x1024, .f32⟩ : BufTy).Contents (Elt F)) (g : (⟨S1x1024, .f32⟩ : BufTy).Contents (Elt F)) (w : (⟨S1x1024x4100, .f32⟩ : BufTy).Contents (Elt F)) : (⟨S16384x4096, .f32⟩ : BufTy).Contents (Elt F) :=
  shapeCast S16384x4096 (extractStridedSlice S2x8192x4096 ![0, 0, 0] (prj x g w) slices_S2x8192x4100_S2x8192x4096_0_0_0) shapeCasts_S2x8192x4096_S16384x4096

def rl (x : (⟨S2x8192x1024, .f32⟩ : BufTy).Contents (Elt F)) (g : (⟨S1x1024, .f32⟩ : BufTy).Contents (Elt F)) (w : (⟨S1x1024x4100, .f32⟩ : BufTy).Contents (Elt F)) (b : (⟨S1x4, .f32⟩ : BufTy).Contents (Elt F)) : (⟨S16384x128, .f32⟩ : BufTy).Contents (Elt F) :=
  pad S16384x128 ![0, 0] ![0, 124] ![0, 0] (shapeCast S16384x4 (lg4 x g w b) shapeCasts_S2x8192x4_S16384x4) (sitofp .f32 (constantI S_ 32 0#32)) pads_S16384x4_S16384x128_000_01240 h_S_

def rc (x : (⟨S2x8192x1024, .f32⟩ : BufTy).Contents (Elt F)) (g : (⟨S1x1024, .f32⟩ : BufTy).Contents (Elt F)) (w : (⟨S1x1024x4100, .f32⟩ : BufTy).Contents (Elt F)) (b : (⟨S1x4, .f32⟩ : BufTy).Contents (Elt F)) : (⟨S16384x128, .f32⟩ : BufTy).Contents (Elt F) :=
  pad S16384x128 ![0, 0] ![0, 124] ![0, 0] (shapeCast S16384x4 (cs4 x g w b) shapeCasts_S2x8192x4_S16384x4) (sitofp .f32 (constantI S_ 32 0#32)) pads_S16384x4_S16384x128_000_01240 h_S_

set_option maxHeartbeats 4000000 in
theorem rl_eq (m : (ℓ : Loc nD τ sig) → Buf (Elt F) ℓ) (c : Dev nD) : res_main_v26 m c = rl (m ((c.tc : Thread nD τ).loc main_arg0)) (m ((c.tc : Thread nD τ).loc main_arg1)) (m ((c.tc : Thread nD τ).loc main_arg2)) (m ((c.tc : Thread nD τ).loc main_arg3)) := rfl

set_option maxHeartbeats 4000000 in
theorem rc_eq (m : (ℓ : Loc nD τ sig) → Buf (Elt F) ℓ) (c : Dev nD) : res_main_v28 m c = rc (m ((c.tc : Thread nD τ).loc main_arg0)) (m ((c.tc : Thread nD τ).loc main_arg1)) (m ((c.tc : Thread nD τ).loc main_arg2)) (m ((c.tc : Thread nD τ).loc main_arg3)) := rfl

end Defs

variable (x : (⟨S2x8192x1024, .f32⟩ : BufTy).Contents (Elt Ideal)) (g : (⟨S1x1024, .f32⟩ : BufTy).Contents (Elt Ideal)) (w : (⟨S1x1024x4100, .f32⟩ : BufTy).Contents (Elt Ideal)) (b : (⟨S1x4, .f32⟩ : BufTy).Contents (Elt Ideal))

/-- The products. -/
theorem prj_apply (a : Fin 2) (s : Fin 8192) (j : Fin 4100) :
    prj (F := Ideal) x g w (ix3 a s j) = prow (at3 (n := 2) (m := 8192) (p := 1024) x a.val s.val) (at2 (n := 1) (m := 1024) g 0) (at3 (n := 1) (m := 1024) (p := 4100) w 0) j.val := by
  pointwise [prj]
  unfold prow nrm
  refine Finset.sum_congr rfl fun k _ => ?_
  have e : ∀ k : Fin 1024, x (ix3 a s k) = at3 (n := 2) (m := 8192) (p := 1024) x a.val s.val k.val := fun k => at3_eq x a s k rfl rfl rfl
  simp only [e]
  rw [at2_eq g 0 k rfl rfl, at3_eq w 0 k j rfl rfl rfl]
  rfl

theorem neg4_apply (a : Fin 2) (s : Fin 8192) (l : Fin 4) :
    neg4 (F := Ideal) x g w b (ix3 a s l) = -(prow (at3 (n := 2) (m := 8192) (p := 1024) x a.val s.val) (at2 (n := 1) (m := 1024) g 0) (at3 (n := 1) (m := 1024) (p := 4100) w 0) (4096 + l.val) + at2 (n := 1) (m := 4) b 0 l.val) := by
  pointwise [neg4]
  rw [prj_apply, at2_eq b 0 l rfl rfl]
  rfl

theorem lg4_apply (a : Fin 2) (s : Fin 8192) (l : Fin 4) :
    lg4 (F := Ideal) x g w b (ix3 a s l) = lsig (prow (at3 (n := 2) (m := 8192) (p := 1024) x a.val s.val) (at2 (n := 1) (m := 1024) g 0) (at3 (n := 1) (m := 1024) (p := 4100) w 0) (4096 + l.val) + at2 (n := 1) (m := 4) b 0 l.val) := by
  pointwise [lg4]
  rw [neg4_apply, if_neg (fun h => h rfl)]
  have h := lsig_neg (prow (at3 (n := 2) (m := 8192) (p := 1024) x a.val s.val) (at2 (n := 1) (m := 1024) g 0) (at3 (n := 1) (m := 1024) (p := 4100) w 0) (4096 + l.val) + at2 (n := 1) (m := 4) b 0 l.val)
  simp only [sub_zero] at h
  exact h

/-- What the unused lanes are filled with. -/
theorem pad_zero : (FloatOps.sitofp (F := Ideal) FTy.f32 (0#32 : BitVec 32) : EReal) = 0 := by
  show (((0#32 : BitVec 32).toInt : ℝ) : EReal) = 0
  simp

/-- Windows that each end at their own row and reach back over every row before it sum the rows up to their own. -/
theorem window_sum {A N M N1 : ℕ} (hN : N1 + 1 = N) {u : Shape} (v : FVec Ideal ⟨3, ![A, N, M]⟩ .f32) (init : FVec Ideal u .f32)
    (hu : 0 < u.numel) (h0 : (init (Shape.Idx.first hu) : EReal) = 0)
    (h : (⟨3, ![A, N, M]⟩ : Shape).ReduceWindows (![1, N, 1] : Fin 3 → ℕ) ![1, 1, 1] ![0, N1, 0] ![0, 0, 0] ⟨3, ![A, N, M]⟩)
    (f : ℕ → EReal) (a : Fin A) (t : Fin N) (l : Fin M) (hf : ∀ s : Fin N, (v (ix3 a s l) : EReal) = f s.val) :
    (Host.reduceWindowAdd ![1, N, 1] ![1, 1, 1] ![0, N1, 0] ![0, 0, 0] v init h hu (ix3 a t l) : EReal)
      = ∑ s ∈ Finset.range (t.val + 1), f s := by
  unfold Host.reduceWindowAdd
  rw [Ideal.hostReduceWindowAdd_def]
  unfold Ideal.hostReduceWindowAdd
  exact cumsum_mid hN v (fun _ : (⟨0, ![]⟩ : Shape).Idx => init (Shape.Idx.first hu)) _ h0 h f a t l hf

/-- The running sums. -/
theorem cs4_apply (a : Fin 2) (t : Fin 8192) (l : Fin 4) :
    cs4 (F := Ideal) x g w b (ix3 a t l) = ∑ s ∈ Finset.range (t.val + 1), forget x g w b (8192 * a.val + s) l.val := by
  unfold cs4
  refine window_sum (N := 8192) (N1 := 8191) (by norm_num) (lg4 (F := Ideal) x g w b) _ h_S_ ?_ _ (fun s => forget x g w b (8192 * a.val + s) l.val) a t l fun s => ?_
  · exact Ideal.ofBits_zero_f32
  · have hs := s.isLt
    rw [lg4_apply]
    unfold forget gate row
    rw [if_pos l.isLt, show (8192 * a.val + s.val) / 8192 = a.val by omega, show (8192 * a.val + s.val) % 8192 = s.val by omega]
    rfl

theorem rp_apply (r : Fin 16384) (j : Fin 4096) : rp (F := Ideal) x g w (ix2 r j) = proj x g w r.val j.val := by
  pointwise [rp]
  exact prj_apply x g w _ _ _

theorem rl_apply (r : Fin 16384) (l : Fin 128) : rl (F := Ideal) x g w b (ix2 r l) = forget x g w b r.val l.val := by
  pointwise [rl]
  unfold forget gate
  by_cases hl : l.val < 4
  · rw [dif_pos hl, if_pos hl]
    exact lg4_apply x g w b _ _ _
  · rw [dif_neg hl, if_neg hl]
    exact pad_zero

theorem rc_apply (r : Fin 16384) (l : Fin 128) : rc (F := Ideal) x g w b (ix2 r l) = running x g w b r.val l.val := by
  pointwise [rc]
  unfold running
  by_cases hl : l.val < 4
  · rw [dif_pos hl]
    exact cs4_apply x g w b ⟨r.val / 8192, by omega⟩ ⟨r.val % 8192, by omega⟩ ⟨l.val, hl⟩
  · rw [dif_neg hl]
    refine pad_zero.trans (Finset.sum_eq_zero fun s _ => ?_).symm
    exact if_neg hl

end Cert.Reference2Ideal.Value

end
-- ==== Proof.OMath.lean ====
/-
  The odd layer's projection and the output projections as arithmetic on extended reals, index by index, and the
  rearrangement the gates need: a sum whose last terms are zero.
-/
module

public import proofs.«01_k».proof.Proof.EMath

@[expose] public section

noncomputable section

namespace Cert.Odd

open Idealize.ShloMosaic
open Cert.Even

/-- The integer zero the unused lanes are filled with, as a float. -/
theorem lane_zero : (FloatOps.sitofp (F := Ideal) FTy.f32 (0#32 : BitVec 32) : EReal) = 0 := by
  show (((0#32 : BitVec 32).toInt : ℝ) : EReal) = 0
  simp

/-- A sum of products over the lanes is the sum over the first sixteen when the right factors beyond are zero. -/
theorem lanes (f h : ℕ → EReal) (hz : ∀ l : Fin 128, 16 ≤ l.val → h l.val = 0) :
    (∑ l : Fin 128, f l.val * h l.val) = ∑ l : Fin 16, f l.val * h l.val := by
  rw [← Finset.sum_range (fun l => f l * h l), ← Finset.sum_range (fun l => f l * h l)]
  refine (Finset.sum_subset (fun l hl => ?_) fun l hl hn => ?_).symm
  · simp only [Finset.mem_range] at hl ⊢
    omega
  · simp only [Finset.mem_range] at hl hn
    have := hz ⟨l, hl⟩ (not_lt.mp hn)
    simp only at this
    rw [this, mul_zero]

/-- The gate's divisor, as the programs write it. -/
abbrev sixteen : EReal := Ideal.ofBits .f32 0x41800000#32

/-- An entry of an array of one axis as a function of its position. -/
def at1 {n : ℕ} (x : (⟨1, ![n]⟩ : Shape).Idx → EReal) (i : ℕ) : EReal := if h : i < n then x (ix1 ⟨i, h⟩) else 0

theorem at1_val {n : ℕ} (x : (⟨1, ![n]⟩ : Shape).Idx → EReal) (a : Fin n) : at1 x a.val = x (ix1 a) := by
  unfold at1
  rw [dif_pos a.isLt]

section Projection

variable (x : (⟨2, ![16384, 1024]⟩ : Shape).Idx → EReal) (g : (⟨2, ![1, 1024]⟩ : Shape).Idx → EReal)
  (w : (⟨3, ![1, 1024, 3088]⟩ : Shape).Idx → EReal) (wg : (⟨3, ![1, 16, 512]⟩ : Shape).Idx → EReal) (b : (⟨2, ![1, 512]⟩ : Shape).Idx → EReal)

/-- The odd layer's projection. -/
def oproj (r j : ℕ) : EReal := prow (at2 (n := 16384) (m := 1024) x r) (at2 (n := 1) (m := 1024) g 0) (at3 (n := 1) (m := 1024) (p := 3088) w 0) j

/-- A gate's argument: the last sixteen columns of the projection times the gate's weights, and the bias. -/
def oarg (r j : ℕ) : EReal := (∑ l : Fin 16, oproj x g w r (3072 + l.val) * at3 (n := 1) (m := 16) (p := 512) wg 0 l.val j) + at2 (n := 1) (m := 512) b 0 j

/-- The odd layer's log forget gates. -/
def ogate (r j : ℕ) : EReal := Ideal.div (lsig (oarg x g w wg b r j)) sixteen

end Projection

/-- The even layers' output projection with its residual. -/
def osum (a b : (⟨2, ![16384, 512]⟩ : Shape).Idx → EReal) (w : (⟨3, ![1, 1024, 1024]⟩ : Shape).Idx → EReal) (x : (⟨3, ![2, 8192, 1024]⟩ : Shape).Idx → EReal) (r j : ℕ) : EReal :=
  (row x r j + ∑ k : Fin 512, at2 (n := 16384) (m := 512) a r k.val * at3 (n := 1) (m := 1024) (p := 1024) w 0 k.val j)
    + ∑ k : Fin 512, at2 (n := 16384) (m := 512) b r k.val * at3 (n := 1) (m := 1024) (p := 1024) w 0 (512 + k.val) j

/-- The odd layers' output projection with its residual. -/
def ores (o : (⟨2, ![16384, 1024]⟩ : Shape).Idx → EReal) (w : (⟨3, ![1, 1024, 1024]⟩ : Shape).Idx → EReal) (x : (⟨2, ![16384, 1024]⟩ : Shape).Idx → EReal) (r j : ℕ) : EReal :=
  at2 (n := 16384) (m := 1024) x r j + ∑ k : Fin 1024, at2 (n := 16384) (m := 1024) o r k.val * at3 (n := 1) (m := 1024) (p := 1024) w 0 k.val j

/-- The model's output: that, normed. -/
def ofin (o : (⟨2, ![16384, 1024]⟩ : Shape).Idx → EReal) (w : (⟨3, ![1, 1024, 1024]⟩ : Shape).Idx → EReal) (x : (⟨2, ![16384, 1024]⟩ : Shape).Idx → EReal) (g : (⟨1, ![1024]⟩ : Shape).Idx → EReal) (r j : ℕ) : EReal :=
  nrm (ores o w x r) (at1 g) j

end Cert.Odd

end
-- ==== Proof.OProj.lean ====
/-
  The odd layer's projection: what one block computes, and the two arrays after the run, read at an index.
-/
module

public import proofs.«01_k».proof.Proof.OMath
public import proofs.«01_k».proof.Proof.Gen.Kernel3Ideal.Value
public import Idealize.ShloMosaic.Lib.Pipeline.ValueKit
public import Idealize.ShloMosaic.Lib.Pointwise
public import Idealize.ShloMosaic.Lib.WritesUnit
public import Idealize.ShloMosaic.Lib.Tactic

@[expose] public section

set_option maxRecDepth 16384

noncomputable section

namespace Cert.Kernel3Ideal.Odd

open Cert.Kernel3Ideal Cert.Kernel3Ideal.Gen
open Idealize.ShloMosaic Idealize.ShloMosaic.TcCoe Idealize.ShloMosaic.View Idealize.SL.Sem
open Cert.Even Cert.Odd

/-- The normed rows of a block. -/
theorem pay1_apply (x0 : Vec Ideal S512x1024 .f32) (x1 : Vec Ideal S1x1024 .f32) (r : Fin 512) (k : Fin 1024) :
    k0_pay1 (F := Ideal) x0 x1 (ix2 r k) = nrm (at2 (n := 512) (m := 1024) x0 r.val) (at2 (n := 1) (m := 1024) x1 0) k.val := by
  pointwise [k0_pay1]
  unfold nrm
  simp only [at2_val]
  rw [← at2_val (n := 1) (m := 1024) x1 0 k]
  rfl

theorem pay2_apply (x0 : Vec Ideal S512x1024 .f32) (x1 : Vec Ideal S1x1024 .f32) (w : Vec Ideal S1024x512 .bf16) (r : Fin 512) (j : Fin 512) :
    k0_pay2 (F := Ideal) x0 x1 w (ix2 r j) = ∑ k : Fin 1024, k0_pay1 (F := Ideal) x0 x1 (ix2 r k) * w (ix2 k j) := by
  pointwise [k0_pay2]

theorem pay3_apply (x0 : Vec Ideal S512x1024 .f32) (x1 : Vec Ideal S1x1024 .f32) (w : Vec Ideal S1024x512 .bf16) (r : Fin 512) (j : Fin 512) :
    k0_pay3 (F := Ideal) x0 x1 w (ix2 r j) = ∑ k : Fin 1024, k0_pay1 (F := Ideal) x0 x1 (ix2 r k) * w (ix2 k j) := by
  pointwise [k0_pay3]

theorem pay4_apply (x0 : Vec Ideal S512x1024 .f32) (x1 : Vec Ideal S1x1024 .f32) (w : Vec Ideal S1024x512 .bf16) (r : Fin 512) (j : Fin 512) :
    k0_pay4 (F := Ideal) x0 x1 w (ix2 r j) = ∑ k : Fin 1024, k0_pay1 (F := Ideal) x0 x1 (ix2 r k) * w (ix2 k j) := by
  pointwise [k0_pay4]

theorem pay5_apply (x0 : Vec Ideal S512x1024 .f32) (x1 : Vec Ideal S1x1024 .f32) (w : Vec Ideal S1024x512 .bf16) (r : Fin 512) (j : Fin 512) :
    k0_pay5 (F := Ideal) x0 x1 w (ix2 r j) = ∑ k : Fin 1024, k0_pay1 (F := Ideal) x0 x1 (ix2 r k) * w (ix2 k j) := by
  pointwise [k0_pay5]

theorem pay6_apply (v : FVec Ideal S512x1024 .bf16) (w : Vec Ideal S1024x512 .bf16) (r : Fin 512) (j : Fin 512) :
    k0_pay6 (F := Ideal) v w (ix2 r j) = ∑ k : Fin 1024, v (ix2 r k) * w (ix2 k j) := by
  pointwise [k0_pay6]

theorem pay7_apply (v : FVec Ideal S512x1024 .bf16) (w : Vec Ideal S1024x512 .bf16) (r : Fin 512) (j : Fin 512) :
    k0_pay7 (F := Ideal) v w (ix2 r j) = ∑ k : Fin 1024, v (ix2 r k) * w (ix2 k j) := by
  pointwise [k0_pay7]

/-- The normed rows, named apart. -/
theorem pay9_eq (x0 : Vec Ideal S512x1024 .f32) (x1 : Vec Ideal S1x1024 .f32) (x2 : Vec Ideal S1024x3072 .bf16) (x3 : Vec Ideal S1024x128 .bf16) (x4 : Vec Ideal S128x512 .bf16) (x5 : Vec Ideal S1x512 .f32) :
    k0_pay9 (F := Ideal) x0 x1 x2 x3 x4 x5 = k0_pay1 x0 x1 :=
  congrArg₂ (k0_pay1 (F := Ideal)) (ld_unit_zero (S := S512x1024) (by funext a; fin_cases a <;> rfl) _ x0) (ld_unit_zero (S := S1x1024) (by funext a; fin_cases a <;> rfl) _ x1)

theorem pay8_apply (v : FVec Ideal S512x1024 .bf16) (w : Vec Ideal S1024x128 .bf16) (wg : Vec Ideal S128x512 .bf16) (b : Vec Ideal S1x512 .f32) (r : Fin 512) (j : Fin 512) :
    k0_pay8 (F := Ideal) v w wg b (ix2 r j) = Ideal.div (lsig ((∑ l : Fin 128, (∑ k : Fin 1024, v (ix2 r k) * w (ix2 k l)) * wg (ix2 l j)) + b (ix2 0 j))) sixteen := by
  pointwise [k0_pay8]
  rfl

/-- A column range of the weights, loaded. -/
theorem ld_cols (x2 : Vec Ideal S1024x3072 .bf16) (o : ℕ) (inb : ∀ a, (![0, o] : Fin 2 → ℕ) a + (![1024, 512] : Fin 2 → ℕ) a ≤ S1024x3072.size a) (k : Fin 1024) (q : Fin 512) :
    ld x2 (Rect.unit (s := S1024x3072) ![0, o] ![1024, 512] inb) (ix2 k q) = at2 (n := 1024) (m := 3072) x2 k.val (o + q.val) := by
  have ho : o + 512 ≤ 3072 := inb 1
  have hk := k.isLt
  have hq := q.isLt
  unfold at2
  rw [dif_pos ⟨hk, by omega⟩]
  refine congrArg x2 (funext fun a => Fin.ext ?_)
  match a with
  | ⟨0, _⟩ => show 0 + 1 * k.val = k.val; omega
  | ⟨1, _⟩ => show o + 1 * q.val = o + q.val; omega

/-- A block's product on a column range is its rows times those columns. -/
theorem tile (x0 : Vec Ideal S512x1024 .f32) (x1 : Vec Ideal S1x1024 .f32) (x2 : Vec Ideal S1024x3072 .bf16) (o : ℕ) (inb : ∀ a, (![0, o] : Fin 2 → ℕ) a + (![1024, 512] : Fin 2 → ℕ) a ≤ S1024x3072.size a)
    (r : Fin 512) (q : Fin 512) (j : ℕ) (hj : j = o + q.val) :
    (∑ k : Fin 1024, k0_pay1 (F := Ideal) x0 x1 (ix2 r k) * ld x2 (Rect.unit (s := S1024x3072) ![0, o] ![1024, 512] inb) (ix2 k q))
      = prow (at2 (n := 512) (m := 1024) x0 r.val) (at2 (n := 1) (m := 1024) x1 0) (at2 (n := 1024) (m := 3072) x2) j := by
  subst hj
  unfold prow
  refine Finset.sum_congr rfl fun k _ => ?_
  rw [pay1_apply, ld_cols]

/-- One block's products. -/
theorem out6_apply (x0 : Vec Ideal S512x1024 .f32) (x1 : Vec Ideal S1x1024 .f32) (x2 : Vec Ideal S1024x3072 .bf16) (x3 : Vec Ideal S1024x128 .bf16) (x4 : Vec Ideal S128x512 .bf16) (x5 : Vec Ideal S1x512 .f32) (r : Fin 512) (j : Fin 3072) :
    out0_6 (F := Ideal) x0 x1 x2 x3 x4 x5 (ix2 r j)
      = prow (at2 (n := 512) (m := 1024) x0 r.val) (at2 (n := 1) (m := 1024) x1 0) (at2 (n := 1024) (m := 3072) x2) j.val := by
  frame_out
  canon_tiles x h
  all_goals
    obtain ⟨a, q, rfl⟩ : ∃ (a : Fin 512) (q : Fin 512), x = ix2 a q := ⟨x 0, x 1, eq_ix2 x⟩
    obtain rfl : r = a := Fin.ext h0
  · rw [pay9_eq]
    exact (pay7_apply _ _ r q).trans (tile x0 x1 x2 _ _ r q j.val h1)
  · rw [pay9_eq]
    exact (pay6_apply _ _ r q).trans (tile x0 x1 x2 _ _ r q j.val h1)
  · exact (pay5_apply _ _ _ r q).trans (tile x0 x1 x2 _ _ r q j.val h1)
  · exact (pay4_apply _ _ _ r q).trans (tile x0 x1 x2 _ _ r q j.val h1)
  · exact (pay3_apply _ _ _ r q).trans (tile x0 x1 x2 _ _ r q j.val h1)
  · exact (pay2_apply _ _ _ r q).trans (tile x0 x1 x2 0 _ r q j.val (Eq.trans (show j.val = q.val from h1) (Nat.zero_add _).symm))

/-- One block's log forget gates. -/
theorem out7_apply (x0 : Vec Ideal S512x1024 .f32) (x1 : Vec Ideal S1x1024 .f32) (x2 : Vec Ideal S1024x3072 .bf16) (x3 : Vec Ideal S1024x128 .bf16) (x4 : Vec Ideal S128x512 .bf16) (x5 : Vec Ideal S1x512 .f32) (r : Fin 512) (j : Fin 512) :
    out0_7 (F := Ideal) x0 x1 x2 x3 x4 x5 (ix2 r j)
      = Ideal.div (lsig ((∑ l : Fin 128, prow (at2 (n := 512) (m := 1024) x0 r.val) (at2 (n := 1) (m := 1024) x1 0) (at2 (n := 1024) (m := 128) x3) l.val * at2 (n := 128) (m := 512) x4 l.val j.val) + at2 (n := 1) (m := 512) x5 0 j.val)) sixteen := by
  frame_out
  rw [pay9_eq]
  refine (pay8_apply _ _ _ _ r j).trans ?_
  refine congrArg (fun z : EReal => Ideal.div (lsig z) sixteen) (congrArg₂ (fun a b : EReal => a + b) (Finset.sum_congr rfl fun l _ => congrArg₂ (fun a b : EReal => a * b) ?_ (at2_val _ _ _).symm) (at2_val (n := 1) (m := 512) x5 0 j).symm)
  unfold prow
  refine Finset.sum_congr rfl fun k _ => ?_
  rw [at2_val]
  exact congrArg₂ (fun a b : EReal => a * b) (pay1_apply _ _ r k) rfl

variable (m : (ℓ : Loc nD τ sig) → Buf (Elt Ideal) ℓ) (c : Dev nD)

/-- The arguments. -/
abbrev aX : S16384x1024.Idx → EReal := m ((c : Thread nD τ).loc main_arg0)
abbrev aG : S1x1024.Idx → EReal := m ((c : Thread nD τ).loc main_arg1)
abbrev aW : S1x1024x3088.Idx → EReal := m ((c : Thread nD τ).loc main_arg2)
abbrev aV : S1x16x512.Idx → EReal := m ((c : Thread nD τ).loc main_arg3)
abbrev aB : S1x512.Idx → EReal := m ((c : Thread nD τ).loc main_arg4)

theorem V_arg0 : V m c main_arg0 = aX m c := by
  show StableHlo.after (List.flatten [hostOps0, hostOps0_1, hostOps0_2, hostOps0_3, hostOps0_4]) _ (Proc.devRef .tc main_arg0) = _
  simp only [hostOps0, hostOps0_1, hostOps0_2, hostOps0_3, hostOps0_4, List.flatten_cons, List.flatten_nil, List.append_nil, List.cons_append, List.nil_append]
  after_results

theorem V_v3 : V m c main_v3 = truncf (F := Ideal) .bf16 (pad S128x512 ![0, 0] ![112, 0] ![0, 0] (shapeCast S16x512 (aV m c) shapeCasts_S1x16x512_S16x512) (sitofp (F := Ideal) .f32 (constantI S_ 32 0#32)) pads_S16x512_S128x512_01120_000 h_S_) bitsLt_bf16_f32 := by
  show StableHlo.after (List.flatten [hostOps0, hostOps0_1, hostOps0_2, hostOps0_3, hostOps0_4]) _ (Proc.devRef .tc main_v3) = _
  simp only [hostOps0, hostOps0_1, hostOps0_2, hostOps0_3, hostOps0_4, List.flatten_cons, List.flatten_nil, List.append_nil, List.cons_append, List.nil_append]
  after_results
  rfl

theorem V_v5 : V m c main_v5 = shapeCast S1x1024 (shapeCast S1024 (aG m c) shapeCasts_S1x1024_S1024) shapeCasts_S1024_S1x1024 := by
  show StableHlo.after (List.flatten [hostOps0, hostOps0_1, hostOps0_2, hostOps0_3, hostOps0_4]) _ (Proc.devRef .tc main_v5) = _
  simp only [hostOps0, hostOps0_1, hostOps0_2, hostOps0_3, hostOps0_4, List.flatten_cons, List.flatten_nil, List.append_nil, List.cons_append, List.nil_append]
  after_results
  rfl

theorem V_v7 : V m c main_v7 = truncf (F := Ideal) .bf16 (extractStridedSlice S1024x3072 ![0, 0] (shapeCast S1024x3088 (aW m c) shapeCasts_S1x1024x3088_S1024x3088) slices_S1024x3088_S1024x3072_0_0) bitsLt_bf16_f32 := by
  show StableHlo.after (List.flatten [hostOps0, hostOps0_1, hostOps0_2, hostOps0_3, hostOps0_4]) _ (Proc.devRef .tc main_v7) = _
  simp only [hostOps0, hostOps0_1, hostOps0_2, hostOps0_3, hostOps0_4, List.flatten_cons, List.flatten_nil, List.append_nil, List.cons_append, List.nil_append]
  after_results
  rfl

theorem V_v10 : V m c main_v10 = truncf (F := Ideal) .bf16 (pad S1024x128 ![0, 0] ![0, 112] ![0, 0] (extractStridedSlice S1024x16 ![0, 3072] (shapeCast S1024x3088 (aW m c) shapeCasts_S1x1024x3088_S1024x3088) slices_S1024x3088_S1024x16_0_3072) (sitofp (F := Ideal) .f32 (constantI S_ 32 0#32)) pads_S1024x16_S1024x128_000_01120 h_S_) bitsLt_bf16_f32 := by
  show StableHlo.after (List.flatten [hostOps0, hostOps0_1, hostOps0_2, hostOps0_3, hostOps0_4]) _ (Proc.devRef .tc main_v10) = _
  simp only [hostOps0, hostOps0_1, hostOps0_2, hostOps0_3, hostOps0_4, List.flatten_cons, List.flatten_nil, List.append_nil, List.cons_append, List.nil_append]
  after_results
  rfl

theorem V_v12 : V m c main_v12 = shapeCast S1x512 (shapeCast S512 (aB m c) shapeCasts_S1x512_S512) shapeCasts_S512_S1x512 := by
  show StableHlo.after (List.flatten [hostOps0, hostOps0_1, hostOps0_2, hostOps0_3, hostOps0_4]) _ (Proc.devRef .tc main_v12) = _
  simp only [hostOps0, hostOps0_1, hostOps0_2, hostOps0_3, hostOps0_4, List.flatten_cons, List.flatten_nil, List.append_nil, List.cons_append, List.nil_append]
  after_results
  rfl

theorem arg0_apply (r : Fin 16384) (k : Fin 1024) : V m c main_arg0 (ix2 r k) = at2 (n := 16384) (m := 1024) (aX m c) r.val k.val := by
  rw [V_arg0]
  exact (at2_val _ _ _).symm

theorem v3_apply (l : Fin 128) (j : Fin 512) : V m c main_v3 (ix2 l j) = if l.val < 16 then at3 (n := 1) (m := 16) (p := 512) (aV m c) 0 l.val j.val else 0 := by
  rw [V_v3]
  pointwise
  by_cases hl : l.val < 16
  · rw [dif_pos hl, if_pos hl]
    exact at3_eq _ _ _ _ rfl rfl rfl
  · rw [dif_neg hl, if_neg hl]
    exact lane_zero

theorem v5_apply (k : Fin 1024) : V m c main_v5 (ix2 0 k) = at2 (n := 1) (m := 1024) (aG m c) 0 k.val := by
  rw [V_v5]
  pointwise
  exact at2_eq _ _ _ rfl rfl

theorem v7_apply (k : Fin 1024) (j : Fin 3072) : V m c main_v7 (ix2 k j) = at3 (n := 1) (m := 1024) (p := 3088) (aW m c) 0 k.val j.val := by
  rw [V_v7]
  pointwise
  exact at3_eq _ _ _ _ rfl rfl rfl

theorem v10_apply (k : Fin 1024) (l : Fin 128) (hl : l.val < 16) : V m c main_v10 (ix2 k l) = at3 (n := 1) (m := 1024) (p := 3088) (aW m c) 0 k.val (3072 + l.val) := by
  rw [V_v10]
  pointwise
  rw [dif_pos hl]
  exact at3_eq _ _ _ _ rfl rfl rfl

theorem v12_apply (j : Fin 512) : V m c main_v12 (ix2 0 j) = at2 (n := 1) (m := 512) (aB m c) 0 j.val := by
  rw [V_v12]
  pointwise
  exact at2_eq _ _ _ rfl rfl

/-- The blocks' places: block `t` of the rows starts at row `512 t`; the other operands come whole. -/
theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel

variable (t : Fin cfg0.N)

theorem blk0 (r : Fin 512) (k : Fin 1024) : at2 (n := 512) (m := 1024) (iblk m c 0 t) r.val k.val = at2 (n := 16384) (m := 1024) (aX m c) (512 * t.val + r.val) k.val := by
  have ht : t.val < 32 := lt_of_lt_of_eq t.isLt (show cfg0.N = 32 from N_0)
  refine (at2_val (n := 512) (m := 1024) (iblk m c 0 t) r k).trans (Eq.trans ?_ (arg0_apply m c ⟨512 * t.val + r.val, by omega⟩ k))
  show V m c main_arg0 (((cfg0.win 0).blk t).view.emb (ix2 r k)) = _
  have h0 : (((cfg0.win 0).blk t).view.emb (ix2 r k) 0).val = win0_0.index t 0 * 512 + 1 * r.val := rfl
  have h1 : (((cfg0.win 0).blk t).view.emb (ix2 r k) 1).val = win0_0.index t 1 * 1024 + 1 * k.val := rfl
  rw [(idx0 t).1] at h0
  rw [(idx0 t).2] at h1
  refine congrArg _ (funext fun a => Fin.ext ?_)
  fin_cases a
  · exact h0.trans (show _ = 512 * t.val + r.val by omega)
  · exact h1.trans (show _ = k.val by omega)

theorem blk1 (k : Fin 1024) : at2 (n := 1) (m := 1024) (iblk m c 1 t) 0 k.val = at2 (n := 1) (m := 1024) (aG m c) 0 k.val := by
  have ht : t.val < 32 := lt_of_lt_of_eq t.isLt (show cfg0.N = 32 from N_0)
  refine (at2_val (n := 1) (m := 1024) (iblk m c 1 t) 0 k).trans (Eq.trans ?_ (v5_apply m c k))
  show V m c main_v5 (((cfg0.win 1).blk t).view.emb (ix2 0 k)) = _
  have h0 : (((cfg0.win 1).blk t).view.emb (ix2 0 k) 0).val = win0_1.index t 0 * 1 + 1 * 0 := rfl
  have h1 : (((cfg0.win 1).blk t).view.emb (ix2 0 k) 1).val = win0_1.index t 1 * 1024 + 1 * k.val := rfl
  rw [(idx1 t).1] at h0
  rw [(idx1 t).2] at h1
  refine congrArg _ (funext fun a => Fin.ext ?_)
  fin_cases a
  · exact h0.trans (show _ = 0 by omega)
  · exact h1.trans (show _ = k.val by omega)

theorem blk2 (r : Fin 1024) (k : Fin 3072) : at2 (n := 1024) (m := 3072) (iblk m c 2 t) r.val k.val = at3 (n := 1) (m := 1024) (p := 3088) (aW m c) 0 r.val k.val := by
  have ht : t.val < 32 := lt_of_lt_of_eq t.isLt (show cfg0.N = 32 from N_0)
  refine (at2_val (n := 1024) (m := 3072) (iblk m c 2 t) r k).trans (Eq.trans ?_ (v7_apply m c r k))
  show V m c main_v7 (((cfg0.win 2).blk t).view.emb (ix2 r k)) = _
  have h0 : (((cfg0.win 2).blk t).view.emb (ix2 r k) 0).val = win0_2.index t 0 * 1024 + 1 * r.val := rfl
  have h1 : (((cfg0.win 2).blk t).view.emb (ix2 r k) 1).val = win0_2.index t 1 * 3072 + 1 * k.val := rfl
  rw [(idx2 t).1] at h0
  rw [(idx2 t).2] at h1
  refine congrArg _ (funext fun a => Fin.ext ?_)
  fin_cases a
  · exact h0.trans (show _ = r.val by omega)
  · exact h1.trans (show _ = k.val by omega)

theorem blk3 (r : Fin 1024) (k : Fin 128) (hl : k.val < 16) : at2 (n := 1024) (m := 128) (iblk m c 3 t) r.val k.val = at3 (n := 1) (m := 1024) (p := 3088) (aW m c) 0 r.val (3072 + k.val) := by
  have ht : t.val < 32 := lt_of_lt_of_eq t.isLt (show cfg0.N = 32 from N_0)
  refine (at2_val (n := 1024) (m := 128) (iblk m c 3 t) r k).trans (Eq.trans ?_ (v10_apply m c r k hl))
  show V m c main_v10 (((cfg0.win 3).blk t).view.emb (ix2 r k)) = _
  have h0 : (((cfg0.win 3).blk t).view.emb (ix2 r k) 0).val = win0_3.index t 0 * 1024 + 1 * r.val := rfl
  have h1 : (((cfg0.win 3).blk t).view.emb (ix2 r k) 1).val = win0_3.index t 1 * 128 + 1 * k.val := rfl
  rw [(idx3 t).1] at h0
  rw [(idx3 t).2] at h1
  refine congrArg _ (funext fun a => Fin.ext ?_)
  fin_cases a
  · exact h0.trans (show _ = r.val by omega)
  · exact h1.trans (show _ = k.val by omega)

theorem blk4 (r : Fin 128) (k : Fin 512) : at2 (n := 128) (m := 512) (iblk m c 4 t) r.val k.val = if r.val < 16 then at3 (n := 1) (m := 16) (p := 512) (aV m c) 0 r.val k.val else 0 := by
  have ht : t.val < 32 := lt_of_lt_of_eq t.isLt (show cfg0.N = 32 from N_0)
  refine (at2_val (n := 128) (m := 512) (iblk m c 4 t) r k).trans (Eq.trans ?_ (v3_apply m c r k))
  show V m c main_v3 (((cfg0.win 4).blk t).view.emb (ix2 r k)) = _
  have h0 : (((cfg0.win 4).blk t).view.emb (ix2 r k) 0).val = win0_4.index t 0 * 128 + 1 * r.val := rfl
  have h1 : (((cfg0.win 4).blk t).view.emb (ix2 r k) 1).val = win0_4.index t 1 * 512 + 1 * k.val := rfl
  rw [(idx4 t).1] at h0
  rw [(idx4 t).2] at h1
  refine congrArg _ (funext fun a => Fin.ext ?_)
  fin_cases a
  · exact h0.trans (show _ = r.val by omega)
  · exact h1.trans (show _ = k.val by omega)

theorem blk5 (k : Fin 512) : at2 (n := 1) (m := 512) (iblk m c 5 t) 0 k.val = at2 (n := 1) (m := 512) (aB m c) 0 k.val := by
  have ht : t.val < 32 := lt_of_lt_of_eq t.isLt (show cfg0.N = 32 from N_0)
  refine (at2_val (n := 1) (m := 512) (iblk m c 5 t) 0 k).trans (Eq.trans ?_ (v12_apply m c k))
  show V m c main_v12 (((cfg0.win 5).blk t).view.emb (ix2 0 k)) = _
  have h0 : (((cfg0.win 5).blk t).view.emb (ix2 0 k) 0).val = win0_5.index t 0 * 1 + 1 * 0 := rfl
  have h1 : (((cfg0.win 5).blk t).view.emb (ix2 0 k) 1).val = win0_5.index t 1 * 512 + 1 * k.val := rfl
  rw [(idx5 t).1] at h0
  rw [(idx5 t).2] at h1
  refine congrArg _ (funext fun a => Fin.ext ?_)
  fin_cases a
  · exact h0.trans (show _ = 0 by omega)
  · exact h1.trans (show _ = k.val by omega)

/-- A block's products are the arguments' own. -/
theorem out6_blk (r : Fin 512) (j : Fin 3072) :
    out0_6 (F := Ideal) (iblk m c 0 t) (iblk m c 1 t) (iblk m c 2 t) (iblk m c 3 t) (iblk m c 4 t) (iblk m c 5 t) (ix2 r j) = oproj (aX m c) (aG m c) (aW m c) (512 * t.val + r.val) j.val :=
  (out6_apply _ _ _ _ _ _ r j).trans (prow_congr (fun k => blk0 m c t r k) (fun k => blk1 m c t k) fun k => blk2 m c t k j)

/-- A block's log forget gates are the arguments' own: the lanes from the sixteenth on add nothing. -/
theorem out7_blk (r : Fin 512) (j : Fin 512) :
    out0_7 (F := Ideal) (iblk m c 0 t) (iblk m c 1 t) (iblk m c 2 t) (iblk m c 3 t) (iblk m c 4 t) (iblk m c 5 t) (ix2 r j) = ogate (aX m c) (aG m c) (aW m c) (aV m c) (aB m c) (512 * t.val + r.val) j.val := by
  refine (out7_apply _ _ _ _ _ _ r j).trans ?_
  unfold ogate oarg
  refine congrArg (fun z : EReal => Ideal.div (lsig z) sixteen) (congrArg₂ (fun a b : EReal => a + b) ?_ (blk5 m c t j))
  refine (lanes _ (fun l => at2 (n := 128) (m := 512) (iblk m c 4 t) l j.val) fun l hl => ?_).trans (Finset.sum_congr rfl fun l _ => congrArg₂ (fun a b : EReal => a * b) ?_ ?_)
  · exact (blk4 m c t l j).trans (if_neg (not_lt.mpr hl))
  · exact prow_congr (fun k => blk0 m c t r k) (fun k => blk1 m c t k) fun k => blk3 m c t k ⟨l.val, by omega⟩ l.isLt
  · exact (blk4 m c t ⟨l.val, by omega⟩ j).trans (if_pos l.isLt)

theorem flush6 : ∀ t : Fin cfg0.N, (cfg0.win 6).flush t = true := by decide +kernel
theorem idx6 : ∀ t : Fin cfg0.N, win0_6.index t 0 = t.val ∧ win0_6.index t 1 = 0 := by decide +kernel

open Value in
theorem final6 (r : Fin 16384) (j : Fin 3072) : (dats m 0 c).arrAt 6 cfg0.N (ix2 r j) = oproj (aX m c) (aG m c) (aW m c) r.val j.val := by
  have ht : r.val / 512 < cfg0.N := lt_of_lt_of_eq (by omega) (show 32 = cfg0.N from N_0.symm)
  have h := congrFun (blocks6 m c ⟨r.val / 512, ht⟩ (flush6 _)) (ix2 (⟨r.val % 512, Nat.mod_lt _ (by decide)⟩ : Fin 512) j)
  rw [flushed6] at h
  have h0 : (((cfg0.win 6).blk ⟨r.val / 512, ht⟩).view.emb (ix2 (⟨r.val % 512, Nat.mod_lt _ (by decide)⟩ : Fin 512) j) 0).val = win0_6.index ⟨r.val / 512, ht⟩ 0 * 512 + 1 * (r.val % 512) := rfl
  have h1 : (((cfg0.win 6).blk ⟨r.val / 512, ht⟩).view.emb (ix2 (⟨r.val % 512, Nat.mod_lt _ (by decide)⟩ : Fin 512) j) 1).val = win0_6.index ⟨r.val / 512, ht⟩ 1 * 3072 + 1 * j.val := rfl
  rw [(idx6 _).1] at h0
  rw [(idx6 _).2] at h1
  have e : ((cfg0.win 6).blk ⟨r.val / 512, ht⟩).view.emb (ix2 (⟨r.val % 512, Nat.mod_lt _ (by decide)⟩ : Fin 512) j) = ix2 r j := by
    funext a
    apply Fin.ext
    match a with
    | ⟨0, _⟩ => exact h0.trans (show _ = r.val by dsimp only; omega)
    | ⟨1, _⟩ => exact h1.trans (show _ = j.val by omega)
  have hx : (cfg0.win 6).xinj (grid0.coords ⟨r.val / 512, ht⟩) (ix2 (⟨r.val % 512, Nat.mod_lt _ (by decide)⟩ : Fin 512) j) = ix2 (⟨r.val % 512, Nat.mod_lt _ (by decide)⟩ : Fin 512) j := by
    funext a
    apply Fin.ext
    match a with
    | ⟨0, _⟩ => rfl
    | ⟨1, _⟩ => rfl
  refine (congrArg ((dats m 0 c).arrAt 6 cfg0.N) e).symm.trans (h.trans ?_)
  refine (congrArg (out0_6 _ _ _ _ _ _) hx).trans ?_
  refine (out6_blk m c ⟨r.val / 512, ht⟩ ⟨r.val % 512, Nat.mod_lt _ (by decide)⟩ j).trans ?_
  show oproj (aX m c) (aG m c) (aW m c) (512 * (r.val / 512) + r.val % 512) j.val = _
  rw [Nat.div_add_mod]

theorem flush7 : ∀ t : Fin cfg0.N, (cfg0.win 7).flush t = true := by decide +kernel
theorem idx7 : ∀ t : Fin cfg0.N, win0_7.index t 0 = t.val ∧ win0_7.index t 1 = 0 := by decide +kernel

open Value in
theorem final7 (r : Fin 16384) (j : Fin 512) : (dats m 0 c).arrAt 7 cfg0.N (ix2 r j) = ogate (aX m c) (aG m c) (aW m c) (aV m c) (aB m c) r.val j.val := by
  have ht : r.val / 512 < cfg0.N := lt_of_lt_of_eq (by omega) (show 32 = cfg0.N from N_0.symm)
  have h := congrFun (blocks7 m c ⟨r.val / 512, ht⟩ (flush7 _)) (ix2 (⟨r.val % 512, Nat.mod_lt _ (by decide)⟩ : Fin 512) j)
  rw [flushed7] at h
  have h0 : (((cfg0.win 7).blk ⟨r.val / 512, ht⟩).view.emb (ix2 (⟨r.val % 512, Nat.mod_lt _ (by decide)⟩ : Fin 512) j) 0).val = win0_7.index ⟨r.val / 512, ht⟩ 0 * 512 + 1 * (r.val % 512) := rfl
  have h1 : (((cfg0.win 7).blk ⟨r.val / 512, ht⟩).view.emb (ix2 (⟨r.val % 512, Nat.mod_lt _ (by decide)⟩ : Fin 512) j) 1).val = win0_7.index ⟨r.val / 512, ht⟩ 1 * 512 + 1 * j.val := rfl
  rw [(idx7 _).1] at h0
  rw [(idx7 _).2] at h1
  have e : ((cfg0.win 7).blk ⟨r.val / 512, ht⟩).view.emb (ix2 (⟨r.val % 512, Nat.mod_lt _ (by decide)⟩ : Fin 512) j) = ix2 r j := by
    funext a
    apply Fin.ext
    match a with
    | ⟨0, _⟩ => exact h0.trans (show _ = r.val by dsimp only; omega)
    | ⟨1, _⟩ => exact h1.trans (show _ = j.val by omega)
  have hx : (cfg0.win 7).xinj (grid0.coords ⟨r.val / 512, ht⟩) (ix2 (⟨r.val % 512, Nat.mod_lt _ (by decide)⟩ : Fin 512) j) = ix2 (⟨r.val % 512, Nat.mod_lt _ (by decide)⟩ : Fin 512) j := by
    funext a
    apply Fin.ext
    match a with
    | ⟨0, _⟩ => rfl
    | ⟨1, _⟩ => rfl
  refine (congrArg ((dats m 0 c).arrAt 7 cfg0.N) e).symm.trans (h.trans ?_)
  refine (congrArg (out0_7 _ _ _ _ _ _) hx).trans ?_
  refine (out7_blk m c ⟨r.val / 512, ht⟩ ⟨r.val % 512, Nat.mod_lt _ (by decide)⟩ j).trans ?_
  show ogate (aX m c) (aG m c) (aW m c) (aV m c) (aB m c) (512 * (r.val / 512) + r.val % 512) j.val = _
  rw [Nat.div_add_mod]

end Cert.Kernel3Ideal.Odd

end
-- ==== Proof.OOut.lean ====
/-
  The even layers' output projection: what one block computes, and the array after the run, read at an index.
-/
module

public import proofs.«01_k».proof.Proof.OMath
public import proofs.«01_k».proof.Proof.Gen.Kernel4Ideal.Value
public import Idealize.ShloMosaic.Lib.Pipeline.ValueKit
public import Idealize.ShloMosaic.Lib.Pointwise
public import Idealize.ShloMosaic.Lib.WritesUnit
public import Idealize.ShloMosaic.Lib.Tactic

@[expose] public section

set_option maxRecDepth 16384

noncomputable section

namespace Cert.Kernel4Ideal.Odd

open Cert.Kernel4Ideal Cert.Kernel4Ideal.Gen
open Idealize.ShloMosaic Idealize.ShloMosaic.TcCoe Idealize.ShloMosaic.View Idealize.SL.Sem
open Cert.Even Cert.Odd

theorem pay1_apply (v0 : Vec Ideal S512x1024 .f32) (v2 : Vec Ideal S512x512 .f32) (v4 : Vec Ideal S512x1024 .bf16) (v8 : Vec Ideal S512x512 .f32) (v10 : Vec Ideal S512x1024 .bf16) (r : Fin 512) (j : Fin 1024) :
    k0_pay1 (F := Ideal) v0 v2 v4 v8 v10 (ix2 r j) = (v0 (ix2 r j) + ∑ k : Fin 512, v2 (ix2 r k) * v4 (ix2 k j)) + ∑ k : Fin 512, v8 (ix2 r k) * v10 (ix2 k j) := by
  pointwise [k0_pay1]

/-- A row range of the weights, loaded. -/
theorem ld_rows (x2 : Vec Ideal S1024x1024 .bf16) (o : ℕ) (inb : ∀ a, (![o, 0] : Fin 2 → ℕ) a + (![512, 1024] : Fin 2 → ℕ) a ≤ S1024x1024.size a) (k : Fin 512) (q : Fin 1024) :
    ld x2 (Rect.unit (s := S1024x1024) ![o, 0] ![512, 1024] inb) (ix2 k q) = at2 (n := 1024) (m := 1024) x2 (o + k.val) q.val := by
  have ho : o + 512 ≤ 1024 := inb 0
  have hk := k.isLt
  have hq := q.isLt
  unfold at2
  rw [dif_pos ⟨by omega, hq⟩]
  refine congrArg x2 (funext fun a => Fin.ext ?_)
  match a with
  | ⟨0, _⟩ => show o + 1 * k.val = o + k.val; omega
  | ⟨1, _⟩ => show 0 + 1 * q.val = q.val; omega

/-- One block. -/
theorem out4_apply (x0 : Vec Ideal S512x512 .f32) (x1 : Vec Ideal S512x512 .f32) (x2 : Vec Ideal S1024x1024 .bf16) (x3 : Vec Ideal S512x1024 .f32) (r : Fin 512) (j : Fin 1024) :
    out0_4 (F := Ideal) x0 x1 x2 x3 (ix2 r j)
      = (at2 (n := 512) (m := 1024) x3 r.val j.val + ∑ k : Fin 512, at2 (n := 512) (m := 512) x0 r.val k.val * at2 (n := 1024) (m := 1024) x2 k.val j.val)
        + ∑ k : Fin 512, at2 (n := 512) (m := 512) x1 r.val k.val * at2 (n := 1024) (m := 1024) x2 (512 + k.val) j.val := by
  frame_out
  refine (pay1_apply _ _ _ _ _ r j).trans ?_
  simp only [at2_val]
  refine congrArg₂ (fun a b : EReal => a + b) (congrArg₂ (fun a b : EReal => a + b) rfl ?_) ?_
  · exact Finset.sum_congr rfl fun k _ => congrArg₂ (fun a b : EReal => a * b) rfl ((ld_rows x2 0 _ k j).trans (by rw [Nat.zero_add]))
  · exact Finset.sum_congr rfl fun k _ => congrArg₂ (fun a b : EReal => a * b) rfl (ld_rows x2 512 _ k j)

variable (m : (ℓ : Loc nD τ sig) → Buf (Elt Ideal) ℓ) (c : Dev nD)

/-- The arguments. -/
abbrev aA : S16384x512.Idx → EReal := m ((c : Thread nD τ).loc main_arg0)
abbrev aB : S16384x512.Idx → EReal := m ((c : Thread nD τ).loc main_arg1)
abbrev aW : S1x1024x1024.Idx → EReal := m ((c : Thread nD τ).loc main_arg2)
abbrev aX : S2x8192x1024.Idx → EReal := m ((c : Thread nD τ).loc main_arg3)

theorem V_arg0 : V m c main_arg0 = aA m c := by
  show StableHlo.after (List.flatten [hostOps0]) _ (Proc.devRef .tc main_arg0) = _
  simp only [hostOps0, List.flatten_cons, List.flatten_nil, List.append_nil, List.cons_append, List.nil_append]
  after_results

theorem V_arg1 : V m c main_arg1 = aB m c := by
  show StableHlo.after (List.flatten [hostOps0]) _ (Proc.devRef .tc main_arg1) = _
  simp only [hostOps0, List.flatten_cons, List.flatten_nil, List.append_nil, List.cons_append, List.nil_append]
  after_results

theorem V_v0 : V m c main_v0 = shapeCast S16384x1024 (aX m c) shapeCasts_S2x8192x1024_S16384x1024 := by
  show StableHlo.after (List.flatten [hostOps0]) _ (Proc.devRef .tc main_v0) = _
  simp only [hostOps0, List.flatten_cons, List.flatten_nil, List.append_nil, List.cons_append, List.nil_append]
  after_results
  rfl

theorem V_v2 : V m c main_v2 = truncf (F := Ideal) .bf16 (shapeCast S1024x1024 (aW m c) shapeCasts_S1x1024x1024_S1024x1024) bitsLt_bf16_f32 := by
  show StableHlo.after (List.flatten [hostOps0]) _ (Proc.devRef .tc main_v2) = _
  simp only [hostOps0, List.flatten_cons, List.flatten_nil, List.append_nil, List.cons_append, List.nil_append]
  after_results
  rfl

theorem arg0_apply (r : Fin 16384) (k : Fin 512) : V m c main_arg0 (ix2 r k) = at2 (n := 16384) (m := 512) (aA m c) r.val k.val := by
  rw [V_arg0]
  exact (at2_val _ _ _).symm

theorem arg1_apply (r : Fin 16384) (k : Fin 512) : V m c main_arg1 (ix2 r k) = at2 (n := 16384) (m := 512) (aB m c) r.val k.val := by
  rw [V_arg1]
  exact (at2_val _ _ _).symm

theorem v0_apply (r : Fin 16384) (k : Fin 1024) : V m c main_v0 (ix2 r k) = row (aX m c) r.val k.val := by
  rw [V_v0]
  pointwise
  exact at3_eq _ _ _ _ rfl rfl rfl

theorem v2_apply (k : Fin 1024) (j : Fin 1024) : V m c main_v2 (ix2 k j) = at3 (n := 1) (m := 1024) (p := 1024) (aW m c) 0 k.val j.val := by
  rw [V_v2]
  pointwise
  exact at3_eq _ _ _ _ rfl rfl rfl

/-- The blocks' places: block `t` of the rows starts at row `512 t`; the weights come whole. -/
theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel

variable (t : Fin cfg0.N)

theorem blk0 (r : Fin 512) (k : Fin 512) : at2 (n := 512) (m := 512) (iblk m c 0 t) r.val k.val = at2 (n := 16384) (m := 512) (aA m c) (512 * t.val + r.val) k.val := by
  have ht : t.val < 32 := lt_of_lt_of_eq t.isLt (show cfg0.N = 32 from N_0)
  refine (at2_val (n := 512) (m := 512) (iblk m c 0 t) r k).trans (Eq.trans ?_ (arg0_apply m c ⟨512 * t.val + r.val, by omega⟩ k))
  show V m c main_arg0 (((cfg0.win 0).blk t).view.emb (ix2 r k)) = _
  have h0 : (((cfg0.win 0).blk t).view.emb (ix2 r k) 0).val = win0_0.index t 0 * 512 + 1 * r.val := rfl
  have h1 : (((cfg0.win 0).blk t).view.emb (ix2 r k) 1).val = win0_0.index t 1 * 512 + 1 * k.val := rfl
  rw [(idx0 t).1] at h0
  rw [(idx0 t).2] at h1
  refine congrArg _ (funext fun a => Fin.ext ?_)
  fin_cases a
  · exact h0.trans (show _ = 512 * t.val + r.val by omega)
  · exact h1.trans (show _ = k.val by omega)

theorem blk1 (r : Fin 512) (k : Fin 512) : at2 (n := 512) (m := 512) (iblk m c 1 t) r.val k.val = at2 (n := 16384) (m := 512) (aB m c) (512 * t.val + r.val) k.val := by
  have ht : t.val < 32 := lt_of_lt_of_eq t.isLt (show cfg0.N = 32 from N_0)
  refine (at2_val (n := 512) (m := 512) (iblk m c 1 t) r k).trans (Eq.trans ?_ (arg1_apply m c ⟨512 * t.val + r.val, by omega⟩ k))
  show V m c main_arg1 (((cfg0.win 1).blk t).view.emb (ix2 r k)) = _
  have h0 : (((cfg0.win 1).blk t).view.emb (ix2 r k) 0).val = win0_1.index t 0 * 512 + 1 * r.val := rfl
  have h1 : (((cfg0.win 1).blk t).view.emb (ix2 r k) 1).val = win0_1.index t 1 * 512 + 1 * k.val := rfl
  rw [(idx1 t).1] at h0
  rw [(idx1 t).2] at h1
  refine congrArg _ (funext fun a => Fin.ext ?_)
  fin_cases a
  · exact h0.trans (show _ = 512 * t.val + r.val by omega)
  · exact h1.trans (show _ = k.val by omega)

theorem blk2 (r : Fin 1024) (k : Fin 1024) : at2 (n := 1024) (m := 1024) (iblk m c 2 t) r.val k.val = at3 (n := 1) (m := 1024) (p := 1024) (aW m c) 0 r.val k.val := by
  have ht : t.val < 32 := lt_of_lt_of_eq t.isLt (show cfg0.N = 32 from N_0)
  refine (at2_val (n := 1024) (m := 1024) (iblk m c 2 t) r k).trans (Eq.trans ?_ (v2_apply m c r k))
  show V m c main_v2 (((cfg0.win 2).blk t).view.emb (ix2 r k)) = _
  have h0 : (((cfg0.win 2).blk t).view.emb (ix2 r k) 0).val = win0_2.index t 0 * 1024 + 1 * r.val := rfl
  have h1 : (((cfg0.win 2).blk t).view.emb (ix2 r k) 1).val = win0_2.index t 1 * 1024 + 1 * k.val := rfl
  rw [(idx2 t).1] at h0
  rw [(idx2 t).2] at h1
  refine congrArg _ (funext fun a => Fin.ext ?_)
  fin_cases a
  · exact h0.trans (show _ = r.val by omega)
  · exact h1.trans (show _ = k.val by omega)

theorem blk3 (r : Fin 512) (k : Fin 1024) : at2 (n := 512) (m := 1024) (iblk m c 3 t) r.val k.val = row (aX m c) (512 * t.val + r.val) k.val := by
  have ht : t.val < 32 := lt_of_lt_of_eq t.isLt (show cfg0.N = 32 from N_0)
  refine (at2_val (n := 512) (m := 1024) (iblk m c 3 t) r k).trans (Eq.trans ?_ (v0_apply m c ⟨512 * t.val + r.val, by omega⟩ k))
  show V m c main_v0 (((cfg0.win 3).blk t).view.emb (ix2 r k)) = _
  have h0 : (((cfg0.win 3).blk t).view.emb (ix2 r k) 0).val = win0_3.index t 0 * 512 + 1 * r.val := rfl
  have h1 : (((cfg0.win 3).blk t).view.emb (ix2 r k) 1).val = win0_3.index t 1 * 1024 + 1 * k.val := rfl
  rw [(idx3 t).1] at h0
  rw [(idx3 t).2] at h1
  refine congrArg _ (funext fun a => Fin.ext ?_)
  fin_cases a
  · exact h0.trans (show _ = 512 * t.val + r.val by omega)
  · exact h1.trans (show _ = k.val by omega)

/-- A block's values are the arguments' own. -/
theorem out4_blk (r : Fin 512) (j : Fin 1024) :
    out0_4 (F := Ideal) (iblk m c 0 t) (iblk m c 1 t) (iblk m c 2 t) (iblk m c 3 t) (ix2 r j) = osum (aA m c) (aB m c) (aW m c) (aX m c) (512 * t.val + r.val) j.val := by
  refine (out4_apply _ _ _ _ r j).trans ?_
  unfold osum
  refine congrArg₂ (fun a b : EReal => a + b) (congrArg₂ (fun a b : EReal => a + b) (blk3 m c t r j) ?_) ?_
  · exact Finset.sum_congr rfl fun k _ => congrArg₂ (fun a b : EReal => a * b) (blk0 m c t r k) (blk2 m c t ⟨k.val, by omega⟩ j)
  · exact Finset.sum_congr rfl fun k _ => congrArg₂ (fun a b : EReal => a * b) (blk1 m c t r k) (blk2 m c t ⟨512 + k.val, by omega⟩ j)

theorem flush4 : ∀ t : Fin cfg0.N, (cfg0.win 4).flush t = true := by decide +kernel
theorem idx4 : ∀ t : Fin cfg0.N, win0_4.index t 0 = t.val ∧ win0_4.index t 1 = 0 := by decide +kernel

open Value in
theorem final4 (r : Fin 16384) (j : Fin 1024) : (dats m 0 c).arrAt 4 cfg0.N (ix2 r j) = osum (aA m c) (aB m c) (aW m c) (aX m c) r.val j.val := by
  have ht : r.val / 512 < cfg0.N := lt_of_lt_of_eq (by omega) (show 32 = cfg0.N from N_0.symm)
  have h := congrFun (blocks4 m c ⟨r.val / 512, ht⟩ (flush4 _)) (ix2 (⟨r.val % 512, Nat.mod_lt _ (by decide)⟩ : Fin 512) j)
  rw [flushed4] at h
  have h0 : (((cfg0.win 4).blk ⟨r.val / 512, ht⟩).view.emb (ix2 (⟨r.val % 512, Nat.mod_lt _ (by decide)⟩ : Fin 512) j) 0).val = win0_4.index ⟨r.val / 512, ht⟩ 0 * 512 + 1 * (r.val % 512) := rfl
  have h1 : (((cfg0.win 4).blk ⟨r.val / 512, ht⟩).view.emb (ix2 (⟨r.val % 512, Nat.mod_lt _ (by decide)⟩ : Fin 512) j) 1).val = win0_4.index ⟨r.val / 512, ht⟩ 1 * 1024 + 1 * j.val := rfl
  rw [(idx4 _).1] at h0
  rw [(idx4 _).2] at h1
  have e : ((cfg0.win 4).blk ⟨r.val / 512, ht⟩).view.emb (ix2 (⟨r.val % 512, Nat.mod_lt _ (by decide)⟩ : Fin 512) j) = ix2 r j := by
    funext a
    apply Fin.ext
    match a with
    | ⟨0, _⟩ => exact h0.trans (show _ = r.val by dsimp only; omega)
    | ⟨1, _⟩ => exact h1.trans (show _ = j.val by omega)
  have hx : (cfg0.win 4).xinj (grid0.coords ⟨r.val / 512, ht⟩) (ix2 (⟨r.val % 512, Nat.mod_lt _ (by decide)⟩ : Fin 512) j) = ix2 (⟨r.val % 512, Nat.mod_lt _ (by decide)⟩ : Fin 512) j := by
    funext a
    apply Fin.ext
    match a with
    | ⟨0, _⟩ => rfl
    | ⟨1, _⟩ => rfl
  refine (congrArg ((dats m 0 c).arrAt 4 cfg0.N) e).symm.trans (h.trans ?_)
  refine (congrArg (out0_4 _ _ _ _ ) hx).trans ?_
  refine (out4_blk m c ⟨r.val / 512, ht⟩ ⟨r.val % 512, Nat.mod_lt _ (by decide)⟩ j).trans ?_
  show osum (aA m c) (aB m c) (aW m c) (aX m c) (512 * (r.val / 512) + r.val % 512) j.val = _
  rw [Nat.div_add_mod]

end Cert.Kernel4Ideal.Odd

end
-- ==== Proof.OFin.lean ====
/-
  The last output projection: what one block computes, and the array after the run, read at an index.
-/
module

public import proofs.«01_k».proof.Proof.OMath
public import proofs.«01_k».proof.Proof.Gen.Kernel5Ideal.Value
public import Idealize.ShloMosaic.Lib.Pipeline.ValueKit
public import Idealize.ShloMosaic.Lib.Pointwise
public import Idealize.ShloMosaic.Lib.WritesUnit
public import Idealize.ShloMosaic.Lib.Tactic

@[expose] public section

set_option maxRecDepth 16384

noncomputable section

namespace Cert.Kernel5Ideal.Odd

open Cert.Kernel5Ideal Cert.Kernel5Ideal.Gen
open Idealize.ShloMosaic Idealize.ShloMosaic.TcCoe Idealize.ShloMosaic.View Idealize.SL.Sem
open Cert.Even Cert.Odd

/-- One block. -/
theorem out4_apply (x0 : Vec Ideal S512x1024 .f32) (x1 : Vec Ideal S1024x1024 .bf16) (x2 : Vec Ideal S512x1024 .f32) (x3 : Vec Ideal S1x1024 .f32) (r : Fin 512) (j : Fin 1024) :
    out0_4 (F := Ideal) x0 x1 x2 x3 (ix2 r j)
      = nrm (fun j => at2 (n := 512) (m := 1024) x2 r.val j + ∑ k : Fin 1024, at2 (n := 512) (m := 1024) x0 r.val k.val * at2 (n := 1024) (m := 1024) x1 k.val j) (at2 (n := 1) (m := 1024) x3 0) j.val := by
  frame_out
  pointwise [k0_pay1]
  unfold nrm
  simp only [at2_val]
  rw [← at2_val (n := 1) (m := 1024) x3 0 j]
  rfl

variable (m : (ℓ : Loc nD τ sig) → Buf (Elt Ideal) ℓ) (c : Dev nD)

/-- The arguments. -/
abbrev aO : S16384x1024.Idx → EReal := m ((c : Thread nD τ).loc main_arg0)
abbrev aW : S1x1024x1024.Idx → EReal := m ((c : Thread nD τ).loc main_arg1)
abbrev aX : S16384x1024.Idx → EReal := m ((c : Thread nD τ).loc main_arg2)
abbrev aG : S1024.Idx → EReal := m ((c : Thread nD τ).loc main_arg3)

theorem V_arg0 : V m c main_arg0 = aO m c := by
  show StableHlo.after (List.flatten [hostOps0]) _ (Proc.devRef .tc main_arg0) = _
  simp only [hostOps0, List.flatten_cons, List.flatten_nil, List.append_nil, List.cons_append, List.nil_append]
  after_results

theorem V_arg2 : V m c main_arg2 = aX m c := by
  show StableHlo.after (List.flatten [hostOps0]) _ (Proc.devRef .tc main_arg2) = _
  simp only [hostOps0, List.flatten_cons, List.flatten_nil, List.append_nil, List.cons_append, List.nil_append]
  after_results

theorem V_v1 : V m c main_v1 = truncf (F := Ideal) .bf16 (shapeCast S1024x1024 (aW m c) shapeCasts_S1x1024x1024_S1024x1024) bitsLt_bf16_f32 := by
  show StableHlo.after (List.flatten [hostOps0]) _ (Proc.devRef .tc main_v1) = _
  simp only [hostOps0, List.flatten_cons, List.flatten_nil, List.append_nil, List.cons_append, List.nil_append]
  after_results
  rfl

theorem V_v2 : V m c main_v2 = shapeCast S1x1024 (aG m c) shapeCasts_S1024_S1x1024 := by
  show StableHlo.after (List.flatten [hostOps0]) _ (Proc.devRef .tc main_v2) = _
  simp only [hostOps0, List.flatten_cons, List.flatten_nil, List.append_nil, List.cons_append, List.nil_append]
  after_results
  rfl

theorem arg0_apply (r : Fin 16384) (k : Fin 1024) : V m c main_arg0 (ix2 r k) = at2 (n := 16384) (m := 1024) (aO m c) r.val k.val := by
  rw [V_arg0]
  exact (at2_val _ _ _).symm

theorem arg2_apply (r : Fin 16384) (k : Fin 1024) : V m c main_arg2 (ix2 r k) = at2 (n := 16384) (m := 1024) (aX m c) r.val k.val := by
  rw [V_arg2]
  exact (at2_val _ _ _).symm

theorem v1_apply (k : Fin 1024) (j : Fin 1024) : V m c main_v1 (ix2 k j) = at3 (n := 1) (m := 1024) (p := 1024) (aW m c) 0 k.val j.val := by
  rw [V_v1]
  pointwise
  exact at3_eq _ _ _ _ rfl rfl rfl

theorem v2_apply (k : Fin 1024) : V m c main_v2 (ix2 0 k) = at1 (aG m c) k.val := by
  rw [V_v2]
  pointwise
  exact (at1_val _ _).symm

/-- The blocks' places: block `t` of the rows starts at row `512 t`; the other operands come whole. -/
theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 := by decide +kernel

variable (t : Fin cfg0.N)

theorem blk0 (r : Fin 512) (k : Fin 1024) : at2 (n := 512) (m := 1024) (iblk m c 0 t) r.val k.val = at2 (n := 16384) (m := 1024) (aO m c) (512 * t.val + r.val) k.val := by
  have ht : t.val < 32 := lt_of_lt_of_eq t.isLt (show cfg0.N = 32 from N_0)
  refine (at2_val (n := 512) (m := 1024) (iblk m c 0 t) r k).trans (Eq.trans ?_ (arg0_apply m c ⟨512 * t.val + r.val, by omega⟩ k))
  show V m c main_arg0 (((cfg0.win 0).blk t).view.emb (ix2 r k)) = _
  have h0 : (((cfg0.win 0).blk t).view.emb (ix2 r k) 0).val = win0_0.index t 0 * 512 + 1 * r.val := rfl
  have h1 : (((cfg0.win 0).blk t).view.emb (ix2 r k) 1).val = win0_0.index t 1 * 1024 + 1 * k.val := rfl
  rw [(idx0 t).1] at h0
  rw [(idx0 t).2] at h1
  refine congrArg _ (funext fun a => Fin.ext ?_)
  fin_cases a
  · exact h0.trans (show _ = 512 * t.val + r.val by omega)
  · exact h1.trans (show _ = k.val by omega)

theorem blk1 (r : Fin 1024) (k : Fin 1024) : at2 (n := 1024) (m := 1024) (iblk m c 1 t) r.val k.val = at3 (n := 1) (m := 1024) (p := 1024) (aW m c) 0 r.val k.val := by
  have ht : t.val < 32 := lt_of_lt_of_eq t.isLt (show cfg0.N = 32 from N_0)
  refine (at2_val (n := 1024) (m := 1024) (iblk m c 1 t) r k).trans (Eq.trans ?_ (v1_apply m c r k))
  show V m c main_v1 (((cfg0.win 1).blk t).view.emb (ix2 r k)) = _
  have h0 : (((cfg0.win 1).blk t).view.emb (ix2 r k) 0).val = win0_1.index t 0 * 1024 + 1 * r.val := rfl
  have h1 : (((cfg0.win 1).blk t).view.emb (ix2 r k) 1).val = win0_1.index t 1 * 1024 + 1 * k.val := rfl
  rw [(idx1 t).1] at h0
  rw [(idx1 t).2] at h1
  refine congrArg _ (funext fun a => Fin.ext ?_)
  fin_cases a
  · exact h0.trans (show _ = r.val by omega)
  · exact h1.trans (show _ = k.val by omega)

theorem blk2 (r : Fin 512) (k : Fin 1024) : at2 (n := 512) (m := 1024) (iblk m c 2 t) r.val k.val = at2 (n := 16384) (m := 1024) (aX m c) (512 * t.val + r.val) k.val := by
  have ht : t.val < 32 := lt_of_lt_of_eq t.isLt (show cfg0.N = 32 from N_0)
  refine (at2_val (n := 512) (m := 1024) (iblk m c 2 t) r k).trans (Eq.trans ?_ (arg2_apply m c ⟨512 * t.val + r.val, by omega⟩ k))
  show V m c main_arg2 (((cfg0.win 2).blk t).view.emb (ix2 r k)) = _
  have h0 : (((cfg0.win 2).blk t).view.emb (ix2 r k) 0).val = win0_2.index t 0 * 512 + 1 * r.val := rfl
  have h1 : (((cfg0.win 2).blk t).view.emb (ix2 r k) 1).val = win0_2.index t 1 * 1024 + 1 * k.val := rfl
  rw [(idx2 t).1] at h0
  rw [(idx2 t).2] at h1
  refine congrArg _ (funext fun a => Fin.ext ?_)
  fin_cases a
  · exact h0.trans (show _ = 512 * t.val + r.val by omega)
  · exact h1.trans (show _ = k.val by omega)

theorem blk3 (k : Fin 1024) : at2 (n := 1) (m := 1024) (iblk m c 3 t) 0 k.val = at1 (aG m c) k.val := by
  have ht : t.val < 32 := lt_of_lt_of_eq t.isLt (show cfg0.N = 32 from N_0)
  refine (at2_val (n := 1) (m := 1024) (iblk m c 3 t) 0 k).trans (Eq.trans ?_ (v2_apply m c k))
  show V m c main_v2 (((cfg0.win 3).blk t).view.emb (ix2 0 k)) = _
  have h0 : (((cfg0.win 3).blk t).view.emb (ix2 0 k) 0).val = win0_3.index t 0 * 1 + 1 * 0 := rfl
  have h1 : (((cfg0.win 3).blk t).view.emb (ix2 0 k) 1).val = win0_3.index t 1 * 1024 + 1 * k.val := rfl
  rw [(idx3 t).1] at h0
  rw [(idx3 t).2] at h1
  refine congrArg _ (funext fun a => Fin.ext ?_)
  fin_cases a
  · exact h0.trans (show _ = 0 by omega)
  · exact h1.trans (show _ = k.val by omega)

/-- A normed row reads its row and its scale alone. -/
theorem nrm_congr {x x' g g' : ℕ → EReal} (hx : ∀ k : Fin 1024, x k.val = x' k.val) (hg : ∀ k : Fin 1024, g k.val = g' k.val) (k : Fin 1024) : nrm x g k.val = nrm x' g' k.val := by
  unfold nrm
  have hs : (∑ j : Fin 1024, x j.val * x j.val) = ∑ j : Fin 1024, x' j.val * x' j.val := Finset.sum_congr rfl fun k _ => by rw [hx k]
  rw [hs, hx k, hg k]

/-- A block's values are the arguments' own. -/
theorem out4_blk (r : Fin 512) (j : Fin 1024) :
    out0_4 (F := Ideal) (iblk m c 0 t) (iblk m c 1 t) (iblk m c 2 t) (iblk m c 3 t) (ix2 r j) = ofin (aO m c) (aW m c) (aX m c) (aG m c) (512 * t.val + r.val) j.val := by
  refine (out4_apply _ _ _ _ r j).trans ?_
  unfold ofin
  refine nrm_congr (fun j => ?_) (fun k => blk3 m c t k) j
  unfold ores
  exact congrArg₂ (fun a b : EReal => a + b) (blk2 m c t r j)
    (Finset.sum_congr rfl fun k _ => congrArg₂ (fun a b : EReal => a * b) (blk0 m c t r k) (blk1 m c t k j))

theorem flush4 : ∀ t : Fin cfg0.N, (cfg0.win 4).flush t = true := by decide +kernel
theorem idx4 : ∀ t : Fin cfg0.N, win0_4.index t 0 = t.val ∧ win0_4.index t 1 = 0 := by decide +kernel

open Value in
theorem final4 (r : Fin 16384) (j : Fin 1024) : (dats m 0 c).arrAt 4 cfg0.N (ix2 r j) = ofin (aO m c) (aW m c) (aX m c) (aG m c) r.val j.val := by
  have ht : r.val / 512 < cfg0.N := lt_of_lt_of_eq (by omega) (show 32 = cfg0.N from N_0.symm)
  have h := congrFun (blocks4 m c ⟨r.val / 512, ht⟩ (flush4 _)) (ix2 (⟨r.val % 512, Nat.mod_lt _ (by decide)⟩ : Fin 512) j)
  rw [flushed4] at h
  have h0 : (((cfg0.win 4).blk ⟨r.val / 512, ht⟩).view.emb (ix2 (⟨r.val % 512, Nat.mod_lt _ (by decide)⟩ : Fin 512) j) 0).val = win0_4.index ⟨r.val / 512, ht⟩ 0 * 512 + 1 * (r.val % 512) := rfl
  have h1 : (((cfg0.win 4).blk ⟨r.val / 512, ht⟩).view.emb (ix2 (⟨r.val % 512, Nat.mod_lt _ (by decide)⟩ : Fin 512) j) 1).val = win0_4.index ⟨r.val / 512, ht⟩ 1 * 1024 + 1 * j.val := rfl
  rw [(idx4 _).1] at h0
  rw [(idx4 _).2] at h1
  have e : ((cfg0.win 4).blk ⟨r.val / 512, ht⟩).view.emb (ix2 (⟨r.val % 512, Nat.mod_lt _ (by decide)⟩ : Fin 512) j) = ix2 r j := by
    funext a
    apply Fin.ext
    match a with
    | ⟨0, _⟩ => exact h0.trans (show _ = r.val by dsimp only; omega)
    | ⟨1, _⟩ => exact h1.trans (show _ = j.val by omega)
  have hx : (cfg0.win 4).xinj (grid0.coords ⟨r.val / 512, ht⟩) (ix2 (⟨r.val % 512, Nat.mod_lt _ (by decide)⟩ : Fin 512) j) = ix2 (⟨r.val % 512, Nat.mod_lt _ (by decide)⟩ : Fin 512) j := by
    funext a
    apply Fin.ext
    match a with
    | ⟨0, _⟩ => rfl
    | ⟨1, _⟩ => rfl
  refine (congrArg ((dats m 0 c).arrAt 4 cfg0.N) e).symm.trans (h.trans ?_)
  refine (congrArg (out0_4 _ _ _ _ ) hx).trans ?_
  refine (out4_blk m c ⟨r.val / 512, ht⟩ ⟨r.val % 512, Nat.mod_lt _ (by decide)⟩ j).trans ?_
  show ofin (aO m c) (aW m c) (aX m c) (aG m c) (512 * (r.val / 512) + r.val % 512) j.val = _
  rw [Nat.div_add_mod]

end Cert.Kernel5Ideal.Odd

end
-- ==== Proof.ORef3.lean ====
/-
  The plain projection of the odd layer, read at an index: its products and its log forget gates.
-/
module

public import proofs.«01_k».proof.Proof.OMath
public import proofs.«01_k».proof.Proof.Gen.Reference3Ideal.Run
public import Idealize.ShloMosaic.Lib.Pointwise
public import Idealize.ShloMosaic.PureOps.Ideal.Laws

@[expose] public section

set_option maxRecDepth 16384

noncomputable section

namespace Cert.Reference3Ideal.Value

open Cert.Reference3Ideal Cert.Reference3Ideal.Gen
open Idealize.ShloMosaic
open Idealize.ShloMosaic.TcCoe
open Cert.Even Cert.Odd

section Defs

variable {F : FTy → Type} [FloatOps F]

/-- The products with every column of the weights. -/
def prj (x : (⟨S16384x1024, .f32⟩ : BufTy).Contents (Elt F)) (g : (⟨S1x1024, .f32⟩ : BufTy).Contents (Elt F)) (w : (⟨S1x1024x3088, .f32⟩ : BufTy).Contents (Elt F)) : (⟨S16384x3088, .f32⟩ : BufTy).Contents (Elt F) :=
  Host.dotGeneral dot_S16384x1024_S1024x3088_S16384x3088_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast S1024 g shapeCasts_S1x1024_S1024)))) (shapeCast S1024x3088 w shapeCasts_S1x1024x3088_S1024x3088)

/-- The gates' arguments, negated. -/
def negs (x : (⟨S16384x1024, .f32⟩ : BufTy).Contents (Elt F)) (g : (⟨S1x1024, .f32⟩ : BufTy).Contents (Elt F)) (w : (⟨S1x1024x3088, .f32⟩ : BufTy).Contents (Elt F)) (v : (⟨S1x16x512, .f32⟩ : BufTy).Contents (Elt F)) (b : (⟨S1x512, .f32⟩ : BufTy).Contents (Elt F)) : (⟨S16384x512, .f32⟩ : BufTy).Contents (Elt F) :=
  Host.negf (addf (Host.dotGeneral dot_S16384x16_S16x512_S16384x512_1_0_0_1_n_n none (extractStridedSlice S16384x16 ![0, 3072] (prj x g w) slices_S16384x3088_S16384x16_0_3072) (shapeCast S16x512 v shapeCasts_S1x16x512_S16x512)) (broadcastInDim S16384x512 ![0, 1] bcast_S1x512_S16384x512_0_1 (broadcastInDim S1x512 ![1] bcast_S512_S1x512_1 (shapeCast S512 b shapeCasts_S1x512_S512))))

/-- The two results. -/
def rp (x : (⟨S16384x1024, .f32⟩ : BufTy).Contents (Elt F)) (g : (⟨S1x1024, .f32⟩ : BufTy).Contents (Elt F)) (w : (⟨S1x1024x3088, .f32⟩ : BufTy).Contents (Elt F)) : (⟨S16384x3072, .f32⟩ : BufTy).Contents (Elt F) :=
  extractStridedSlice S16384x3072 ![0, 0] (prj x g w) slices_S16384x3088_S16384x3072_0_0

def rl (x : (⟨S16384x1024, .f32⟩ : BufTy).Contents (Elt F)) (g : (⟨S1x1024, .f32⟩ : BufTy).Contents (Elt F)) (w : (⟨S1x1024x3088, .f32⟩ : BufTy).Contents (Elt F)) (v : (⟨S1x16x512, .f32⟩ : BufTy).Contents (Elt F)) (b : (⟨S1x512, .f32⟩ : BufTy).Contents (Elt F)) : (⟨S16384x512, .f32⟩ : BufTy).Contents (Elt F) :=
  Host.divf (Host.negf (select (cmpf .une (subf (negs x g w v b) (broadcastInDim S16384x512 ![] bcast_S_S16384x512 (constant S_ .f32 0x00000000#32))) (subf (negs x g w v b) (broadcastInDim S16384x512 ![] bcast_S_S16384x512 (constant S_ .f32 0x00000000#32)))) (addf (negs x g w v b) (broadcastInDim S16384x512 ![] bcast_S_S16384x512 (constant S_ .f32 0x00000000#32))) (addf (maximumf (negs x g w v b) (broadcastInDim S16384x512 ![] bcast_S_S16384x512 (constant S_ .f32 0x00000000#32))) (Host.log1p (Host.exp (Host.negf (Host.absf (subf (negs x g w v b) (broadcastInDim S16384x512 ![] bcast_S_S16384x512 (constant S_ .f32 0x00000000#32)))))))))) (broadcastInDim S16384x512 ![] bcast_S_S16384x512 (constant S_ .f32 0x41800000#32))

set_option maxHeartbeats 4000000 in
theorem rl_eq (m : (ℓ : Loc nD τ sig) → Buf (Elt F) ℓ) (c : Dev nD) : res_main_v25 m c = rl (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end Defs

variable (x : (⟨S16384x1024, .f32⟩ : BufTy).Contents (Elt Ideal)) (g : (⟨S1x1024, .f32⟩ : BufTy).Contents (Elt Ideal)) (w : (⟨S1x1024x3088, .f32⟩ : BufTy).Contents (Elt Ideal)) (v : (⟨S1x16x512, .f32⟩ : BufTy).Contents (Elt Ideal)) (b : (⟨S1x512, .f32⟩ : BufTy).Contents (Elt Ideal))

/-- The products. -/
theorem prj_apply (r : Fin 16384) (j : Fin 3088) : prj (F := Ideal) x g w (ix2 r j) = oproj x g w r.val j.val := by
  pointwise [prj]
  unfold oproj prow nrm
  refine Finset.sum_congr rfl fun k _ => ?_
  have e : ∀ k : Fin 1024, x (ix2 r k) = at2 (n := 16384) (m := 1024) x r.val k.val := fun k => at2_eq x r k rfl rfl
  simp only [e]
  rw [at2_eq g 0 k rfl rfl, at3_eq w 0 k j rfl rfl rfl]
  rfl

theorem negs_apply (r : Fin 16384) (j : Fin 512) : negs (F := Ideal) x g w v b (ix2 r j) = -oarg x g w v b r.val j.val := by
  pointwise [negs]
  unfold oarg
  rw [at2_eq b 0 j rfl rfl]
  refine congrArg (fun z : EReal => -z) (congrArg₂ (fun p q : EReal => p + q) (Finset.sum_congr rfl fun l _ => ?_) rfl)
  rw [prj_apply, at3_eq v 0 l j rfl rfl rfl]
  rfl

theorem rp_apply (r : Fin 16384) (j : Fin 3072) : rp (F := Ideal) x g w (ix2 r j) = oproj x g w r.val j.val := by
  pointwise [rp]
  exact prj_apply x g w _ _

theorem rl_apply (r : Fin 16384) (j : Fin 512) : rl (F := Ideal) x g w v b (ix2 r j) = ogate x g w v b r.val j.val := by
  pointwise [rl]
  rw [negs_apply, if_neg (fun h => h rfl)]
  have h := lsig_neg (oarg x g w v b r.val j.val)
  simp only [sub_zero] at h
  exact congrArg (fun z : EReal => Ideal.div z sixteen) h

end Cert.Reference3Ideal.Value

end
-- ==== Proof.ORef4.lean ====
/-
  The plain output projection of the even layers, read at an index.
-/
module

public import proofs.«01_k».proof.Proof.OMath
public import proofs.«01_k».proof.Proof.Gen.Reference4Ideal.Run
public import Idealize.ShloMosaic.Lib.Pointwise
public import Idealize.ShloMosaic.PureOps.Ideal.Laws

@[expose] public section

set_option maxRecDepth 16384

noncomputable section

namespace Cert.Reference4Ideal.Value

open Cert.Reference4Ideal Cert.Reference4Ideal.Gen
open Idealize.ShloMosaic
open Idealize.ShloMosaic.TcCoe
open Cert.Even Cert.Odd

section Defs

variable {F : FTy → Type} [FloatOps F]

/-- The result. -/
def rs (a : (⟨S16384x512, .f32⟩ : BufTy).Contents (Elt F)) (b : (⟨S16384x512, .f32⟩ : BufTy).Contents (Elt F)) (w : (⟨S1x1024x1024, .f32⟩ : BufTy).Contents (Elt F)) (x : (⟨S2x8192x1024, .f32⟩ : BufTy).Contents (Elt F)) : (⟨S16384x1024, .f32⟩ : BufTy).Contents (Elt F) :=
  addf (shapeCast S16384x1024 x shapeCasts_S2x8192x1024_S16384x1024) (Host.dotGeneral dot_S16384x1024_S1024x1024_S16384x1024_1_0_0_1_n_n none (concatenate S16384x1024 1 [⟨S16384x512, a⟩, ⟨S16384x512, b⟩] concatenates_S16384x512_S16384x512_S16384x1024_d1) (shapeCast S1024x1024 w shapeCasts_S1x1024x1024_S1024x1024))

end Defs

variable (a : (⟨S16384x512, .f32⟩ : BufTy).Contents (Elt Ideal)) (b : (⟨S16384x512, .f32⟩ : BufTy).Contents (Elt Ideal)) (w : (⟨S1x1024x1024, .f32⟩ : BufTy).Contents (Elt Ideal)) (x : (⟨S2x8192x1024, .f32⟩ : BufTy).Contents (Elt Ideal))

theorem rs_apply (r : Fin 16384) (j : Fin 1024) : rs (F := Ideal) a b w x (ix2 r j) = osum a b w x r.val j.val := by
  pointwise [rs]
  unfold osum row
  rw [← add_assoc]
  refine congrArg₂ (fun p q : EReal => p + q) (congrArg₂ (fun p q : EReal => p + q) (at3_eq x _ _ _ rfl rfl rfl) (Finset.sum_congr rfl fun k _ => ?_)) (Finset.sum_congr rfl fun k _ => ?_)
  · exact congrArg₂ (fun p q : EReal => p * q) (at2_eq a r k rfl rfl) (at3_eq w _ _ _ rfl rfl rfl)
  · exact congrArg₂ (fun p q : EReal => p * q) (at2_eq b r k rfl rfl) (at3_eq w _ _ _ rfl rfl rfl)

end Cert.Reference4Ideal.Value

end
-- ==== Proof.ORef5.lean ====
/-
  The plain last output projection, read at an index.
-/
module

public import proofs.«01_k».proof.Proof.OMath
public import proofs.«01_k».proof.Proof.Gen.Reference5Ideal.Run
public import Idealize.ShloMosaic.Lib.Pointwise
public import Idealize.ShloMosaic.PureOps.Ideal.Laws

@[expose] public section

set_option maxRecDepth 16384

noncomputable section

namespace Cert.Reference5Ideal.Value

open Cert.Reference5Ideal Cert.Reference5Ideal.Gen
open Idealize.ShloMosaic
open Idealize.ShloMosaic.TcCoe
open Cert.Even Cert.Odd

section Defs

variable {F : FTy → Type} [FloatOps F]

/-- The sum with the residual. -/
def rsd (o : (⟨S16384x1024, .f32⟩ : BufTy).Contents (Elt F)) (w : (⟨S1x1024x1024, .f32⟩ : BufTy).Contents (Elt F)) (x : (⟨S16384x1024, .f32⟩ : BufTy).Contents (Elt F)) : (⟨S16384x1024, .f32⟩ : BufTy).Contents (Elt F) :=
  addf x (Host.dotGeneral dot_S16384x1024_S1024x1024_S16384x1024_1_0_0_1_n_n none o (shapeCast S1024x1024 w shapeCasts_S1x1024x1024_S1024x1024))

/-- The result. -/
def rf (o : (⟨S16384x1024, .f32⟩ : BufTy).Contents (Elt F)) (w : (⟨S1x1024x1024, .f32⟩ : BufTy).Contents (Elt F)) (x : (⟨S16384x1024, .f32⟩ : BufTy).Contents (Elt F)) (g : (⟨S1024, .f32⟩ : BufTy).Contents (Elt F)) : (⟨S16384x1024, .f32⟩ : BufTy).Contents (Elt F) :=
  mulf (mulf (rsd o w x) (broadcastInDim S16384x1024 ![0, 1] bcast_S16384x1_S16384x1024_0_1 (Host.rsqrt (addf (Host.divf (broadcastInDim S16384x1 ![0] bcast_S16384_S16384x1_0 (Host.reduceAdd (mulf (rsd o w x) (rsd o w x)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

end Defs

variable (o : (⟨S16384x1024, .f32⟩ : BufTy).Contents (Elt Ideal)) (w : (⟨S1x1024x1024, .f32⟩ : BufTy).Contents (Elt Ideal)) (x : (⟨S16384x1024, .f32⟩ : BufTy).Contents (Elt Ideal)) (g : (⟨S1024, .f32⟩ : BufTy).Contents (Elt Ideal))

theorem rsd_apply (r : Fin 16384) (j : Fin 1024) : rsd (F := Ideal) o w x (ix2 r j) = ores o w x r.val j.val := by
  pointwise [rsd]
  unfold ores
  rw [at2_eq x r j rfl rfl]
  refine congrArg₂ (fun p q : EReal => p + q) rfl (Finset.sum_congr rfl fun k _ => ?_)
  rw [at2_eq o r k rfl rfl, at3_eq w 0 k j rfl rfl rfl]
  rfl

theorem rf_apply (r : Fin 16384) (j : Fin 1024) : rf (F := Ideal) o w x g (ix2 r j) = ofin o w x g r.val j.val := by
  pointwise [rf]
  simp only [rsd_apply]
  unfold ofin nrm
  rw [at1_val]

end Cert.Reference5Ideal.Value

end
-- ==== Proof.IBase.lean ====
/-
  Names used by the runs of the attention body: a memref held whole on a core, and the word the body reads of a table.
-/
module

public import proofs.«01_k».proof.Proof.Gen.KernelIdeal
public import proofs.«01_k».proof.Proof.Gen.KernelIdeal.Skeleton
public import Idealize.ShloMosaic.Lib.Tactic
public import Idealize.ShloMosaic.Lib.Pipeline.Kit

@[expose] public section

noncomputable section

namespace Cert.KernelIdeal.Fox

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents of memref `M`'s buffer on core `c`, and that buffer held whole. -/
abbrev Bf (c : Dev nD) {sp : Space} {S : Shape} {e : EltTy} (M : Memref sig .tc sp S e) : Type := Buf (Elt F) (M.view.loc (c : Thread nD τ))
/-- A buffer held whole at a share, whatever its window. -/
abbrev pt (c : Dev nD) {sp : Space} {S : Shape} {e : EltTy} (M : Memref sig .tc sp S e) (q : PosShare TreeShare) (f : Bf (F := F) c M) : sProp 𝕄 :=
  M.view.loc (c : Thread nD τ) ↦{q} f

/-- The word the body reads of a table at grid coordinates `i`. -/
abbrev word (c : Dev nD) (i : grid0.Coords) (M : Memref sig .tc .smem S136 .i32) (f : Bf (F := F) c M) : BitVec 32 :=
  M.view.readAt (Elt F) (Rect.unit (s := S136) (k0_off1 i) S1.size (k0_off1_inb i)).toLoadRect f (Shape.Idx.first (numel1_S1.symm ▸ Nat.one_pos))
end Cert.KernelIdeal.Fox

end
-- ==== Proof.ISetup.lean ====
/-
  The pipeline of the attention at the contents its two tables have: the order in which the pairs (query block, key block) are taken,
  and what the body's tests on the two words say of it.
-/
module

public import proofs.«01_k».proof.Proof.IBase
public import proofs.«01_k».proof.Proof.Gen.KernelIdeal.Launch

@[expose] public section

set_option maxRecDepth 16384

noncomputable section

namespace Cert.KernelIdeal.Fox

open Cert.KernelIdeal Cert.KernelIdeal.Gen

open Idealize.ShloMosaic
open Idealize.ShloMosaic.TcCoe

variable {F : FTy → Type} [FloatOps F]

set_option backward.proofsInPublic true in
/-- What the two tables hold: per step the query block and the key block. -/
def tabs : pre0.Contents (Elt F) := fun
  | ⟨0, _⟩ => fun i => lit0 (S136.rowMajor i)
  | ⟨1, _⟩ => fun i => lit1 (S136.rowMajor i)
  | ⟨_ + 2, h⟩ => absurd h (by simp)

/-- The query block and the key block of step `j`. -/
def qn (j : Fin 136) : ℕ := (lit0 j).toNat
/-- The key block that position `j` of the second table names. -/
def kn (j : Fin 136) : ℕ := (lit1 j).toNat

/-- The position the body reads of a table at coordinates `i` is the second coordinate. -/
theorem rowMajor_pos : ∀ i : grid0.Coords,
    (S136.rowMajor ((Rect.unit (s := S136) (k0_off1 i) S1.size (k0_off1_inb i)).toLoadRect.idx
      (Shape.Idx.first (numel1_S1.symm ▸ Nat.one_pos)))).val = (i 1).val := by
  decide +kernel

/-- The words the index maps read of the tables at coordinates `i`. -/
theorem at_q (i : grid0.Coords) :
    (tabs (F := F)).at 0 (Rect.unit (s := S136) (k0_off1 i) S1.size (k0_off1_inb i)) numel1_S1 = lit0 (i 1) :=
  congrArg lit0 (Fin.ext (rowMajor_pos i))
/-- The body reads of the second table the entry at the second coordinate. -/
theorem at_k (i : grid0.Coords) :
    (tabs (F := F)).at 1 (Rect.unit (s := S136) (k0_off1 i) S1.size (k0_off1_inb i)) numel1_S1 = lit1 (i 1) :=
  congrArg lit1 (Fin.ext (rowMajor_pos i))

/-- A row block's number: sixteen per batch. -/
theorem block_q : ∀ (b : Fin 2) (j : Fin 136),
    (Scalar.addi (Scalar.muli (BitVec.ofNat 32 b.val) 16#32) (lit0 j)).toNat = b.val * 16 + qn j := by decide +kernel
/-- The row of blocks that a batch and a key block name, as a word. -/
theorem block_k : ∀ (b : Fin 2) (j : Fin 136),
    (Scalar.addi (Scalar.muli (BitVec.ofNat 32 b.val) 16#32) (lit1 j)).toNat = b.val * 16 + kn j := by decide +kernel
/-- The batch as a word. -/
theorem block_b : ∀ b : Fin 2, (BitVec.ofNat 32 b.val).toNat = b.val := by decide

/-- The seven index maps at the tables' contents. -/
theorem map0 (i : grid0.Coords) : cc0_transform_0 k0_off1_inb numel1_S1 (tabs (F := F)) i = ![(i 0).val * 16 + qn (i 1), 4] := by
  have h := block_q (i 0) (i 1)
  rw [← at_q (F := F)] at h
  exact congrArg (fun n => ![n, 4]) h
/-- The block that window 1's index map names. -/
theorem map1 (i : grid0.Coords) : cc0_transform_1 k0_off1_inb numel1_S1 (tabs (F := F)) i = ![(i 0).val * 16 + kn (i 1), 5] := by
  have h := block_k (i 0) (i 1)
  rw [← at_k (F := F)] at h
  exact congrArg (fun n => ![n, 5]) h
/-- The block that window 2's index map names. -/
theorem map2 (i : grid0.Coords) : cc0_transform_2 k0_off1_inb numel1_S1 (tabs (F := F)) i = ![(i 0).val * 16 + kn (i 1), 6] := by
  have h := block_k (i 0) (i 1)
  rw [← at_k (F := F)] at h
  exact congrArg (fun n => ![n, 6]) h
/-- The block that window 3's index map names. -/
theorem map3 (i : grid0.Coords) : cc0_transform_3 k0_off1_inb numel1_S1 (tabs (F := F)) i = ![(i 0).val * 16 + qn (i 1), 7] := by
  have h := block_q (i 0) (i 1)
  rw [← at_q (F := F)] at h
  exact congrArg (fun n => ![n, 7]) h
/-- The block that window 4's index map names. -/
theorem map4 (i : grid0.Coords) : cc0_transform_4 k0_off1_inb numel1_S1 (tabs (F := F)) i = ![(i 0).val * 16 + qn (i 1), 0] := by
  have h := block_q (i 0) (i 1)
  rw [← at_q (F := F)] at h
  exact congrArg (fun n => ![n, 0]) h
/-- The block that window 6's index map names. -/
theorem map6 (i : grid0.Coords) : cc0_transform_6 k0_off1_inb numel1_S1 (tabs (F := F)) i = ![(i 0).val * 16 + qn (i 1), 0] := by
  have h := block_q (i 0) (i 1)
  rw [← at_q (F := F)] at h
  exact congrArg (fun n => ![n, 0]) h
/-- The block that window 5's index map names. -/
theorem map5 (i : grid0.Coords) : cc0_transform_5 k0_off1_inb numel1_S1 (tabs (F := F)) i = ![(i 0).val, 0, kn (i 1)] := by
  have h := at_k (F := F) i
  have hb := block_b (i 0)
  show ![(BitVec.ofNat 32 (i 0).val).toNat, 0, ((tabs (F := F)).at 1 (Rect.unit (s := S136) (k0_off1 i) S1.size (k0_off1_inb i)) numel1_S1).toNat] = _
  rw [h, hb]; rfl

/-- The bounds on the block numbers. -/
theorem kn_le : ∀ j : Fin 136, kn j ≤ qn j := by decide +kernel
/-- There are sixteen query blocks. -/
theorem qn_lt : ∀ j : Fin 136, qn j < 16 := by decide +kernel
/-- There are two batches. -/
theorem fst_lt (i : grid0.Coords) : (i 0).val < 2 := (i 0).isLt

/-- Every block the tables name lies inside its array. -/
theorem ok_tabs : ok0 (tabs (F := F)) := by
  unfold ok0
  refine ⟨?_, ?_, ?_, ?_, ?_, ?_, ?_⟩ <;> intro i <;> refine ⟨?_, Or.inl rfl⟩ <;>
    have h0 := fst_lt i <;> have h1 := qn_lt (i 1) <;> have h2 := kn_le (i 1) <;> intro a
  · rw [map0]; rcases a with ⟨_ | _ | n, hn⟩
    · show ((i 0).val * 16 + qn (i 1) + 1) * 512 ≤ 16384; omega
    · show (4 + 1) * 512 ≤ 4096; omega
    · exact absurd hn (by simp)
  · rw [map1]; rcases a with ⟨_ | _ | n, hn⟩
    · show ((i 0).val * 16 + kn (i 1) + 1) * 512 ≤ 16384; omega
    · show (5 + 1) * 512 ≤ 4096; omega
    · exact absurd hn (by simp)
  · rw [map2]; rcases a with ⟨_ | _ | n, hn⟩
    · show ((i 0).val * 16 + kn (i 1) + 1) * 512 ≤ 16384; omega
    · show (6 + 1) * 512 ≤ 4096; omega
    · exact absurd hn (by simp)
  · rw [map3]; rcases a with ⟨_ | _ | n, hn⟩
    · show ((i 0).val * 16 + qn (i 1) + 1) * 512 ≤ 16384; omega
    · show (7 + 1) * 512 ≤ 4096; omega
    · exact absurd hn (by simp)
  · rw [map4]; rcases a with ⟨_ | _ | n, hn⟩
    · show ((i 0).val * 16 + qn (i 1) + 1) * 512 ≤ 16384; omega
    · show (0 + 1) * 128 ≤ 128; omega
    · exact absurd hn (by simp)
  · rw [map5]; rcases a with ⟨_ | _ | _ | n, hn⟩
    · show ((i 0).val + 1) * 1 ≤ 2; omega
    · show (0 + 1) * 8 ≤ 8; omega
    · show (kn (i 1) + 1) * 512 ≤ 8192; omega
    · exact absurd hn (by simp)
  · rw [map6]; rcases a with ⟨_ | _ | n, hn⟩
    · show ((i 0).val * 16 + qn (i 1) + 1) * 512 ≤ 16384; omega
    · show (0 + 1) * 512 ≤ 512; omega
    · exact absurd hn (by simp)

/-- The tables' contents, with the fact that their blocks lie inside the arrays. -/
def adm : (pcfg0 (F := F)).Adm := ⟨tabs, ok_tabs⟩

/-- The pipeline at these contents. -/
abbrev cfgT : Pipeline.Cfg sig Λ₀ := cfg0 (adm (F := F))

/-- The words the body reads at coordinates `i`. -/
theorem word_q (c : Dev nD) (i : grid0.Coords) :
    word (F := F) c i (Memref.whole main_c) (tabs (F := F) 0) = lit0 (i 1) :=
  congrArg lit0 (Fin.ext (rowMajor_pos i))
/-- The key block that the body reads. -/
theorem word_k (c : Dev nD) (i : grid0.Coords) :
    word (F := F) c i (Memref.whole main_c_0) (tabs (F := F) 1) = lit1 (i 1) :=
  congrArg lit1 (Fin.ext (rowMajor_pos i))

/-- The three tests of the body at step `j`: first key block, below the diagonal, on the diagonal. -/
def isFirst (j : Fin 136) : Prop := Scalar.cmpi .ne (Scalar.extui (Scalar.cmpi .eq (lit1 j) 0#32)) 0#32 = 1#1
/-- The key block lies before the query block. -/
def isBelow (j : Fin 136) : Prop := Scalar.cmpi .ne (Scalar.extui (Scalar.cmpi .slt (lit1 j) (lit0 j))) 0#32 = 1#1
/-- The key block is the query block. -/
def isDiag (j : Fin 136) : Prop := k0_cond3 (lit0 j) (lit1 j) = 1#1
instance (j : Fin 136) : Decidable (isFirst j) := by unfold isFirst; infer_instance
instance (j : Fin 136) : Decidable (isBelow j) := by unfold isBelow; infer_instance
instance (j : Fin 136) : Decidable (isDiag j) := by unfold isDiag; infer_instance

/-- The tests, of the block numbers. -/
theorem isFirst_iff : ∀ j : Fin 136, isFirst j ↔ kn j = 0 := by decide +kernel
/-- In numbers: it lies before it. -/
theorem isBelow_iff : ∀ j : Fin 136, isBelow j ↔ kn j < qn j := by decide +kernel
/-- In numbers: they are equal. -/
theorem isDiag_iff : ∀ j : Fin 136, isDiag j ↔ kn j = qn j := by decide +kernel

/-- The second coordinate of point number `n`. -/
def jn (n : ℕ) : Fin 136 := ⟨n % 136, Nat.mod_lt _ (by decide)⟩
/-- The first coordinate of point number `n`. -/
def bn (n : ℕ) : ℕ := n / 136

/-- The coordinates of point `t`. -/
theorem coords_snd_val : ∀ t : Fin grid0.N, (grid0.coords t 1).val = t.val % 136 := by decide +kernel
/-- The second coordinate, as a position. -/
theorem coords_snd (t : Fin grid0.N) : grid0.coords t 1 = jn t.val := Fin.ext (coords_snd_val t)
/-- The first coordinate is the batch. -/
theorem coords_fst : ∀ t : Fin grid0.N, (grid0.coords t 0).val = bn t.val := by decide +kernel

/-- After a point off the diagonal comes the next key block of the same query block. -/
theorem next_below : ∀ t : Fin grid0.N, kn (jn t.val) < qn (jn t.val) →
    kn (jn (t.val + 1)) = kn (jn t.val) + 1 ∧ qn (jn (t.val + 1)) = qn (jn t.val) ∧ bn (t.val + 1) = bn t.val := by decide +kernel
/-- After a point on the diagonal comes a first key block. -/
theorem next_diag : ∀ t : Fin grid0.N, kn (jn t.val) = qn (jn t.val) → kn (jn (t.val + 1)) = 0 := by decide +kernel
/-- The first step takes a first key block. -/
theorem kn_zero : kn (jn 0) = 0 := by decide +kernel

end Cert.KernelIdeal.Fox

end
-- ==== Proof.IStep.lean ====
/-
  The attention body run at a grid point that takes a block of keys before the diagonal, not the first: what it leaves in the running maximum, the running sum and the accumulator, found by the run.
-/
module

public import proofs.«01_k».proof.Proof.Gen.KernelIdeal
public import proofs.«01_k».proof.Proof.Gen.KernelIdeal.Skeleton
public import Idealize.ShloMosaic.Lib.Tactic
public import proofs.«01_k».proof.Proof.IBase
public import Idealize.ShloMosaic.Lib.Pipeline.Kit

@[expose] public section

noncomputable section

namespace Cert.KernelIdeal.Fox

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body at a point that takes a block of keys before the diagonal, not the first: the contents it leaves, with the proof that it runs from the twelve buffers held whole and hands them back, the written ones at those contents. -/
noncomputable def stepRun (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7)
    (f9 : Bf (F := F) c M9) (f10 : Bf (F := F) c M10) (f11 : Bf (F := F) c M11)
    (hs : ¬(Scalar.cmpi .ne (Scalar.extui (Scalar.cmpi .eq (word c i M1 f1) 0#32)) 0#32 = 1#1))
    (hl : (Scalar.cmpi .ne (Scalar.extui (Scalar.cmpi .slt (word c i M1 f1) (word c i M0 f0))) 0#32 = 1#1))
    (hd : ¬(k0_cond3 (word c i M0 f0) (word c i M1 f1) = 1#1)) :
    { W : Bf (F := F) c M9 × Bf (F := F) c M10 × Bf (F := F) c M11 //
      ∀ (f8 : Bf (F := F) c M8) (q0 q1 : PosShare TreeShare) (Q : PUnit → sProp 𝕄),
        iprop(pt c M0 q0 f0 ∗ pt c M1 q1 f1 ∗ pt c M2 fullShare f2 ∗ pt c M3 fullShare f3 ∗ pt c M4 fullShare f4 ∗ pt c M5 fullShare f5 ∗ pt c M6 fullShare f6 ∗ pt c M7 fullShare f7 ∗ pt c M8 fullShare f8 ∗ pt c M9 fullShare f9 ∗ pt c M10 fullShare f10 ∗ pt c M11 fullShare f11
          ∗ (iprop(pt c M0 q0 f0 ∗ pt c M1 q1 f1 ∗ pt c M2 fullShare f2 ∗ pt c M3 fullShare f3 ∗ pt c M4 fullShare f4 ∗ pt c M5 fullShare f5 ∗ pt c M6 fullShare f6 ∗ pt c M7 fullShare f7 ∗ pt c M8 fullShare f8 ∗ pt c M9 fullShare W.1 ∗ pt c M10 fullShare W.2.1 ∗ pt c M11 fullShare W.2.2) -∗ Q ⟨⟩))
        ⊢ wp frame (wpE (defs₀ (F := F)) Variants.none c none) Set.univ
            (cc0_fox_prompt i M0 h0 M1 h1 M2 h2 M3 h3 M4 h4 M5 h5 M6 h6 M7 h7 M8 h8 M9 h9 M10 h10 M11 h11) Q } := by
  refine ⟨⟨?_, ?_, ?_⟩, fun f8 q0 q1 Q => ?run⟩
  case run =>
    iintro ⟨H0, H1, H2, H3, H4, H5, H6, H7, H8, H9, H10, H11, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Fox

end
-- ==== Proof.IFirst.lean ====
/-
  The attention body run at a grid point that takes the first block of keys, before the diagonal: what it leaves in the running maximum, the running sum and the accumulator, found by the run.
-/
module

public import proofs.«01_k».proof.Proof.Gen.KernelIdeal
public import proofs.«01_k».proof.Proof.Gen.KernelIdeal.Skeleton
public import Idealize.ShloMosaic.Lib.Tactic
public import proofs.«01_k».proof.Proof.IBase
public import Idealize.ShloMosaic.Lib.Pipeline.Kit

@[expose] public section

noncomputable section

namespace Cert.KernelIdeal.Fox

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body at a point that takes the first block of keys, before the diagonal: the contents it leaves, with the proof that it runs from the twelve buffers held whole and hands them back, the written ones at those contents. -/
noncomputable def firstRun (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7)
    (hs : (Scalar.cmpi .ne (Scalar.extui (Scalar.cmpi .eq (word c i M1 f1) 0#32)) 0#32 = 1#1))
    (hl : (Scalar.cmpi .ne (Scalar.extui (Scalar.cmpi .slt (word c i M1 f1) (word c i M0 f0))) 0#32 = 1#1))
    (hd : ¬(k0_cond3 (word c i M0 f0) (word c i M1 f1) = 1#1)) :
    { W : Bf (F := F) c M9 × Bf (F := F) c M10 × Bf (F := F) c M11 //
      ∀ (f8 : Bf (F := F) c M8) (f9 : Bf (F := F) c M9) (f10 : Bf (F := F) c M10) (f11 : Bf (F := F) c M11) (q0 q1 : PosShare TreeShare) (Q : PUnit → sProp 𝕄),
        iprop(pt c M0 q0 f0 ∗ pt c M1 q1 f1 ∗ pt c M2 fullShare f2 ∗ pt c M3 fullShare f3 ∗ pt c M4 fullShare f4 ∗ pt c M5 fullShare f5 ∗ pt c M6 fullShare f6 ∗ pt c M7 fullShare f7 ∗ pt c M8 fullShare f8 ∗ pt c M9 fullShare f9 ∗ pt c M10 fullShare f10 ∗ pt c M11 fullShare f11
          ∗ (iprop(pt c M0 q0 f0 ∗ pt c M1 q1 f1 ∗ pt c M2 fullShare f2 ∗ pt c M3 fullShare f3 ∗ pt c M4 fullShare f4 ∗ pt c M5 fullShare f5 ∗ pt c M6 fullShare f6 ∗ pt c M7 fullShare f7 ∗ pt c M8 fullShare f8 ∗ pt c M9 fullShare W.1 ∗ pt c M10 fullShare W.2.1 ∗ pt c M11 fullShare W.2.2) -∗ Q ⟨⟩))
        ⊢ wp frame (wpE (defs₀ (F := F)) Variants.none c none) Set.univ
            (cc0_fox_prompt i M0 h0 M1 h1 M2 h2 M3 h3 M4 h4 M5 h5 M6 h6 M7 h7 M8 h8 M9 h9 M10 h10 M11 h11) Q } := by
  refine ⟨⟨?_, ?_, ?_⟩, fun f8 f9 f10 f11 q0 q1 Q => ?run⟩
  case run =>
    iintro ⟨H0, H1, H2, H3, H4, H5, H6, H7, H8, H9, H10, H11, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Fox

end
-- ==== Proof.IDiag.lean ====
/-
  The attention body run at a grid point that takes the block of keys on the diagonal, not the first: what it leaves in the running maximum, the running sum and the accumulator, and in the output block, found by the run.
-/
module

public import proofs.«01_k».proof.Proof.Gen.KernelIdeal
public import proofs.«01_k».proof.Proof.Gen.KernelIdeal.Skeleton
public import Idealize.ShloMosaic.Lib.Tactic
public import proofs.«01_k».proof.Proof.IBase
public import Idealize.ShloMosaic.Lib.Pipeline.Kit

@[expose] public section

noncomputable section

namespace Cert.KernelIdeal.Fox

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body at a point that takes the block of keys on the diagonal, not the first: the contents it leaves, with the proof that it runs from the twelve buffers held whole and hands them back, the written ones at those contents. -/
noncomputable def diagRun (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7)
    (f9 : Bf (F := F) c M9) (f10 : Bf (F := F) c M10) (f11 : Bf (F := F) c M11)
    (hs : ¬(Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) :
    { W : Bf (F := F) c M8 × Bf (F := F) c M9 × Bf (F := F) c M10 × Bf (F := F) c M11 //
      ∀ (f8 : Bf (F := F) c M8) (q0 q1 : PosShare TreeShare) (Q : PUnit → sProp 𝕄),
        iprop(pt c M0 q0 f0 ∗ pt c M1 q1 f1 ∗ pt c M2 fullShare f2 ∗ pt c M3 fullShare f3 ∗ pt c M4 fullShare f4 ∗ pt c M5 fullShare f5 ∗ pt c M6 fullShare f6 ∗ pt c M7 fullShare f7 ∗ pt c M8 fullShare f8 ∗ pt c M9 fullShare f9 ∗ pt c M10 fullShare f10 ∗ pt c M11 fullShare f11
          ∗ (iprop(pt c M0 q0 f0 ∗ pt c M1 q1 f1 ∗ pt c M2 fullShare f2 ∗ pt c M3 fullShare f3 ∗ pt c M4 fullShare f4 ∗ pt c M5 fullShare f5 ∗ pt c M6 fullShare f6 ∗ pt c M7 fullShare f7 ∗ pt c M8 fullShare W.1 ∗ pt c M9 fullShare W.2.1 ∗ pt c M10 fullShare W.2.2.1 ∗ pt c M11 fullShare W.2.2.2) -∗ Q ⟨⟩))
        ⊢ wp frame (wpE (defs₀ (F := F)) Variants.none c none) Set.univ
            (cc0_fox_prompt i M0 h0 M1 h1 M2 h2 M3 h3 M4 h4 M5 h5 M6 h6 M7 h7 M8 h8 M9 h9 M10 h10 M11 h11) Q } := by
  refine ⟨⟨?_, ?_, ?_, ?_⟩, fun f8 q0 q1 Q => ?run⟩
  case run =>
    iintro ⟨H0, H1, H2, H3, H4, H5, H6, H7, H8, H9, H10, H11, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Fox

end
-- ==== Proof.IOne.lean ====
/-
  The attention body run at a grid point that takes the block of keys on the diagonal when it is the first: what it leaves in the running maximum, the running sum and the accumulator, and in the output block, found by the run.
-/
module

public import proofs.«01_k».proof.Proof.Gen.KernelIdeal
public import proofs.«01_k».proof.Proof.Gen.KernelIdeal.Skeleton
public import Idealize.ShloMosaic.Lib.Tactic
public import proofs.«01_k».proof.Proof.IBase
public import Idealize.ShloMosaic.Lib.Pipeline.Kit

@[expose] public section

noncomputable section

namespace Cert.KernelIdeal.Fox

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body at a point that takes the block of keys on the diagonal when it is the first: the contents it leaves, with the proof that it runs from the twelve buffers held whole and hands them back, the written ones at those contents. -/
noncomputable def oneRun (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7)
    (hs : (Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) :
    { W : Bf (F := F) c M8 × Bf (F := F) c M9 × Bf (F := F) c M10 × Bf (F := F) c M11 //
      ∀ (f8 : Bf (F := F) c M8) (f9 : Bf (F := F) c M9) (f10 : Bf (F := F) c M10) (f11 : Bf (F := F) c M11) (q0 q1 : PosShare TreeShare) (Q : PUnit → sProp 𝕄),
        iprop(pt c M0 q0 f0 ∗ pt c M1 q1 f1 ∗ pt c M2 fullShare f2 ∗ pt c M3 fullShare f3 ∗ pt c M4 fullShare f4 ∗ pt c M5 fullShare f5 ∗ pt c M6 fullShare f6 ∗ pt c M7 fullShare f7 ∗ pt c M8 fullShare f8 ∗ pt c M9 fullShare f9 ∗ pt c M10 fullShare f10 ∗ pt c M11 fullShare f11
          ∗ (iprop(pt c M0 q0 f0 ∗ pt c M1 q1 f1 ∗ pt c M2 fullShare f2 ∗ pt c M3 fullShare f3 ∗ pt c M4 fullShare f4 ∗ pt c M5 fullShare f5 ∗ pt c M6 fullShare f6 ∗ pt c M7 fullShare f7 ∗ pt c M8 fullShare W.1 ∗ pt c M9 fullShare W.2.1 ∗ pt c M10 fullShare W.2.2.1 ∗ pt c M11 fullShare W.2.2.2) -∗ Q ⟨⟩))
        ⊢ wp frame (wpE (defs₀ (F := F)) Variants.none c none) Set.univ
            (cc0_fox_prompt i M0 h0 M1 h1 M2 h2 M3 h3 M4 h4 M5 h5 M6 h6 M7 h7 M8 h8 M9 h9 M10 h10 M11 h11) Q } := by
  refine ⟨⟨?_, ?_, ?_, ?_⟩, fun f8 f9 f10 f11 q0 q1 Q => ?run⟩
  case run =>
    iintro ⟨H0, H1, H2, H3, H4, H5, H6, H7, H8, H9, H10, H11, Hk⟩
    sl_exec_parts!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.KernelIdeal.Fox

end
-- ==== Proof.ITrack.lean ====
/-
  The pipeline's proof data, for any facts kept of the three running buffers and of the block written: the body keeps them at every
  point if its four runs do.
-/
module

public import proofs.«01_k».proof.Proof.ISetup
public import proofs.«01_k».proof.Proof.IStep
public import proofs.«01_k».proof.Proof.IFirst
public import proofs.«01_k».proof.Proof.IDiag
public import proofs.«01_k».proof.Proof.IOne
public import Idealize.ShloMosaic.Lib.Pipeline.Frame
public import Idealize.ShloMosaic.Lib.Pipeline.FrameBody
public import Idealize.ShloMosaic.Lib.Pipeline.DatRel

@[expose] public section

set_option maxRecDepth 16384

noncomputable section

namespace Cert.KernelIdeal.Fox

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

variable (V : (c : Dev nD) → (b : Ref sig .tc) → Buf (Elt F) ((c.tc : Thread nD τ).loc b))

/-- Window `w`'s block at point `t`, read off the arrays' contents at entry. -/
abbrev blkOf (c : Dev nD) (w : Fin 7) (t : Fin grid0.N) : (((cfgT (F := F)).win w).xblock (grid0.coords t)).Idx → Elt F ((cfgT (F := F)).win w).elt :=
  (((cfgT (F := F)).win w).blk t).view.read (Elt F) (V c (arrRef spec0 w))

variable (F) in
/-- The facts kept: `I` of the three running buffers before point `n`, `O` of the block a diagonal point writes. -/
structure Keep where
  I : ℕ → (⟨S4x512x1, .f32⟩ : BufTy).Contents (Elt F) → (⟨S4x512x1, .f32⟩ : BufTy).Contents (Elt F) → (⟨S512x512, .f32⟩ : BufTy).Contents (Elt F) → Prop
  O : ℕ → (⟨S512x512, .f32⟩ : BufTy).Contents (Elt F) → Prop

/-- The body's four runs keep the facts `κ`. -/
structure Keeps (c : Dev nD) (κ : Keep F) : Prop where
  /-- Nothing is asked of the running buffers where a first key block is taken. -/
  fresh : ∀ n, kn (jn n) = 0 → ∀ (m : (⟨S4x512x1, .f32⟩ : BufTy).Contents (Elt F)) (l : (⟨S4x512x1, .f32⟩ : BufTy).Contents (Elt F)) (a : (⟨S512x512, .f32⟩ : BufTy).Contents (Elt F)), κ.I n m l a
  /-- A later key block below the diagonal. -/
  step : ∀ (t : Fin grid0.N) (M2 : Memref sig .tc .vmem S512x512 .f32) (h2 : M2.IsWhole) (M3 : Memref sig .tc .vmem S512x512 .f32) (h3 : M3.IsWhole) (M4 : Memref sig .tc .vmem S512x512 .f32) (h4 : M4.IsWhole) (M5 : Memref sig .tc .vmem S512x512 .f32) (h5 : M5.IsWhole) (M6 : Memref sig .tc .vmem S512x128 .f32) (h6 : M6.IsWhole) (M7 : Memref sig .tc .vmem S1x8x512 .f32) (h7 : M7.IsWhole) (M8 : Memref sig .tc .vmem S512x512 .f32) (h8 : M8.IsWhole) (f2 : Bf (F := F) c M2) (f3 : Bf (F := F) c M3) (f4 : Bf (F := F) c M4) (f5 : Bf (F := F) c M5) (f6 : Bf (F := F) c M6) (f7 : Bf (F := F) c M7) (m : (⟨S4x512x1, .f32⟩ : BufTy).Contents (Elt F)) (l : (⟨S4x512x1, .f32⟩ : BufTy).Contents (Elt F)) (a : (⟨S512x512, .f32⟩ : BufTy).Contents (Elt F))
    (hs : ¬(Scalar.cmpi .ne (Scalar.extui (Scalar.cmpi .eq (word (F := F) c (grid0.coords t) (Memref.whole main_c_0) (tabs (F := F) 1)) 0#32)) 0#32 = 1#1)) (hl : (Scalar.cmpi .ne (Scalar.extui (Scalar.cmpi .slt (word (F := F) c (grid0.coords t) (Memref.whole main_c_0) (tabs (F := F) 1)) (word (F := F) c (grid0.coords t) (Memref.whole main_c) (tabs (F := F) 0)))) 0#32 = 1#1)) (hd : ¬(k0_cond3 (word (F := F) c (grid0.coords t) (Memref.whole main_c) (tabs (F := F) 0)) (word (F := F) c (grid0.coords t) (Memref.whole main_c_0) (tabs (F := F) 1)) = 1#1)),
    M2.view.read (Elt F) f2 = blkOf V c 0 t → M3.view.read (Elt F) f3 = blkOf V c 1 t → M4.view.read (Elt F) f4 = blkOf V c 2 t → M5.view.read (Elt F) f5 = blkOf V c 3 t → M6.view.read (Elt F) f6 = blkOf V c 4 t → M7.view.read (Elt F) f7 = blkOf V c 5 t → κ.I t.val m l a →
    let W := (stepRun (F := F) c (grid0.coords t) (Memref.whole main_c) (Memref.isWhole_whole _) (Memref.whole main_c_0) (Memref.isWhole_whole _) M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (tabs (F := F) 0) (tabs (F := F) 1) f2 f3 f4 f5 f6 f7 m l a hs hl hd).1
    κ.I (t.val + 1) W.1 W.2.1 W.2.2
  /-- The first key block, below the diagonal. -/
  first : ∀ (t : Fin grid0.N) (M2 : Memref sig .tc .vmem S512x512 .f32) (h2 : M2.IsWhole) (M3 : Memref sig .tc .vmem S512x512 .f32) (h3 : M3.IsWhole) (M4 : Memref sig .tc .vmem S512x512 .f32) (h4 : M4.IsWhole) (M5 : Memref sig .tc .vmem S512x512 .f32) (h5 : M5.IsWhole) (M6 : Memref sig .tc .vmem S512x128 .f32) (h6 : M6.IsWhole) (M7 : Memref sig .tc .vmem S1x8x512 .f32) (h7 : M7.IsWhole) (M8 : Memref sig .tc .vmem S512x512 .f32) (h8 : M8.IsWhole) (f2 : Bf (F := F) c M2) (f3 : Bf (F := F) c M3) (f4 : Bf (F := F) c M4) (f5 : Bf (F := F) c M5) (f6 : Bf (F := F) c M6) (f7 : Bf (F := F) c M7)
    (hs : (Scalar.cmpi .ne (Scalar.extui (Scalar.cmpi .eq (word (F := F) c (grid0.coords t) (Memref.whole main_c_0) (tabs (F := F) 1)) 0#32)) 0#32 = 1#1)) (hl : (Scalar.cmpi .ne (Scalar.extui (Scalar.cmpi .slt (word (F := F) c (grid0.coords t) (Memref.whole main_c_0) (tabs (F := F) 1)) (word (F := F) c (grid0.coords t) (Memref.whole main_c) (tabs (F := F) 0)))) 0#32 = 1#1)) (hd : ¬(k0_cond3 (word (F := F) c (grid0.coords t) (Memref.whole main_c) (tabs (F := F) 0)) (word (F := F) c (grid0.coords t) (Memref.whole main_c_0) (tabs (F := F) 1)) = 1#1)),
    M2.view.read (Elt F) f2 = blkOf V c 0 t → M3.view.read (Elt F) f3 = blkOf V c 1 t → M4.view.read (Elt F) f4 = blkOf V c 2 t → M5.view.read (Elt F) f5 = blkOf V c 3 t → M6.view.read (Elt F) f6 = blkOf V c 4 t → M7.view.read (Elt F) f7 = blkOf V c 5 t →
    let W := (firstRun (F := F) c (grid0.coords t) (Memref.whole main_c) (Memref.isWhole_whole _) (Memref.whole main_c_0) (Memref.isWhole_whole _) M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (tabs (F := F) 0) (tabs (F := F) 1) f2 f3 f4 f5 f6 f7 hs hl hd).1
    κ.I (t.val + 1) W.1 W.2.1 W.2.2
  /-- The diagonal after other key blocks. -/
  diag : ∀ (t : Fin grid0.N) (M2 : Memref sig .tc .vmem S512x512 .f32) (h2 : M2.IsWhole) (M3 : Memref sig .tc .vmem S512x512 .f32) (h3 : M3.IsWhole) (M4 : Memref sig .tc .vmem S512x512 .f32) (h4 : M4.IsWhole) (M5 : Memref sig .tc .vmem S512x512 .f32) (h5 : M5.IsWhole) (M6 : Memref sig .tc .vmem S512x128 .f32) (h6 : M6.IsWhole) (M7 : Memref sig .tc .vmem S1x8x512 .f32) (h7 : M7.IsWhole) (M8 : Memref sig .tc .vmem S512x512 .f32) (h8 : M8.IsWhole) (f2 : Bf (F := F) c M2) (f3 : Bf (F := F) c M3) (f4 : Bf (F := F) c M4) (f5 : Bf (F := F) c M5) (f6 : Bf (F := F) c M6) (f7 : Bf (F := F) c M7) (m : (⟨S4x512x1, .f32⟩ : BufTy).Contents (Elt F)) (l : (⟨S4x512x1, .f32⟩ : BufTy).Contents (Elt F)) (a : (⟨S512x512, .f32⟩ : BufTy).Contents (Elt F))
    (hs : ¬(Scalar.cmpi .ne (Scalar.extui (Scalar.cmpi .eq (word (F := F) c (grid0.coords t) (Memref.whole main_c_0) (tabs (F := F) 1)) 0#32)) 0#32 = 1#1)) (hl : ¬(Scalar.cmpi .ne (Scalar.extui (Scalar.cmpi .slt (word (F := F) c (grid0.coords t) (Memref.whole main_c_0) (tabs (F := F) 1)) (word (F := F) c (grid0.coords t) (Memref.whole main_c) (tabs (F := F) 0)))) 0#32 = 1#1)) (hd : (k0_cond3 (word (F := F) c (grid0.coords t) (Memref.whole main_c) (tabs (F := F) 0)) (word (F := F) c (grid0.coords t) (Memref.whole main_c_0) (tabs (F := F) 1)) = 1#1)),
    M2.view.read (Elt F) f2 = blkOf V c 0 t → M3.view.read (Elt F) f3 = blkOf V c 1 t → M4.view.read (Elt F) f4 = blkOf V c 2 t → M5.view.read (Elt F) f5 = blkOf V c 3 t → M6.view.read (Elt F) f6 = blkOf V c 4 t → M7.view.read (Elt F) f7 = blkOf V c 5 t → κ.I t.val m l a →
    let W := (diagRun (F := F) c (grid0.coords t) (Memref.whole main_c) (Memref.isWhole_whole _) (Memref.whole main_c_0) (Memref.isWhole_whole _) M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (tabs (F := F) 0) (tabs (F := F) 1) f2 f3 f4 f5 f6 f7 m l a hs hl hd).1
    κ.O t.val (M8.view.read (Elt F) W.1)
  /-- The diagonal alone. -/
  one : ∀ (t : Fin grid0.N) (M2 : Memref sig .tc .vmem S512x512 .f32) (h2 : M2.IsWhole) (M3 : Memref sig .tc .vmem S512x512 .f32) (h3 : M3.IsWhole) (M4 : Memref sig .tc .vmem S512x512 .f32) (h4 : M4.IsWhole) (M5 : Memref sig .tc .vmem S512x512 .f32) (h5 : M5.IsWhole) (M6 : Memref sig .tc .vmem S512x128 .f32) (h6 : M6.IsWhole) (M7 : Memref sig .tc .vmem S1x8x512 .f32) (h7 : M7.IsWhole) (M8 : Memref sig .tc .vmem S512x512 .f32) (h8 : M8.IsWhole) (f2 : Bf (F := F) c M2) (f3 : Bf (F := F) c M3) (f4 : Bf (F := F) c M4) (f5 : Bf (F := F) c M5) (f6 : Bf (F := F) c M6) (f7 : Bf (F := F) c M7)
    (hs : (Scalar.cmpi .ne (Scalar.extui (Scalar.cmpi .eq (word (F := F) c (grid0.coords t) (Memref.whole main_c_0) (tabs (F := F) 1)) 0#32)) 0#32 = 1#1)) (hl : ¬(Scalar.cmpi .ne (Scalar.extui (Scalar.cmpi .slt (word (F := F) c (grid0.coords t) (Memref.whole main_c_0) (tabs (F := F) 1)) (word (F := F) c (grid0.coords t) (Memref.whole main_c) (tabs (F := F) 0)))) 0#32 = 1#1)) (hd : (k0_cond3 (word (F := F) c (grid0.coords t) (Memref.whole main_c) (tabs (F := F) 0)) (word (F := F) c (grid0.coords t) (Memref.whole main_c_0) (tabs (F := F) 1)) = 1#1)),
    M2.view.read (Elt F) f2 = blkOf V c 0 t → M3.view.read (Elt F) f3 = blkOf V c 1 t → M4.view.read (Elt F) f4 = blkOf V c 2 t → M5.view.read (Elt F) f5 = blkOf V c 3 t → M6.view.read (Elt F) f6 = blkOf V c 4 t → M7.view.read (Elt F) f7 = blkOf V c 5 t →
    let W := (oneRun (F := F) c (grid0.coords t) (Memref.whole main_c) (Memref.isWhole_whole _) (Memref.whole main_c_0) (Memref.isWhole_whole _) M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (tabs (F := F) 0) (tabs (F := F) 1) f2 f3 f4 f5 f6 f7 hs hl hd).1
    κ.O t.val (M8.view.read (Elt F) W.1)

/-- The invariant before point `n`: the tables, the generator register, and the running buffers with what is kept of them. -/
def phi (c : Dev nD) (κ : Keep F) (n : ℕ) : sProp 𝕄 :=
  iprop(pt c (Memref.whole main_c) fullShare.right (tabs (F := F) 0) ∗ pt c (Memref.whole main_c_0) fullShare.right (tabs (F := F) 1)
    ∗ (∃ r, prngReg c r)
    ∗ ∃ m, ∃ l, ∃ a, ⌜κ.I n m l a⌝ ∗ pt c (Memref.whole cc0_scratch0) fullShare m ∗ pt c (Memref.whole cc0_scratch1) fullShare l
        ∗ pt c (Memref.whole cc0_scratch2) fullShare a)

/-- A memref held whole at a buffer's contents owns what it reads of them. -/
theorem owns_of_pt (c : Dev nD) {sp : Space} {S : Shape} {e : EltTy} (M : Memref sig .tc sp S e) (h : M.IsWhole) (f : Bf (F := F) c M)
    (X : S.Idx → Elt F e) (hX : M.view.read (Elt F) f = X) :
    (pt c M fullShare f : sProp 𝕄) ⊢ owns (c : Thread nD τ) M fullShare X := by
  unfold owns
  rw [h.set_eq_univ]
  iintro H
  iexists f
  isplitr
  · ipureintro; exact hX
  · iexact H

/-- Owning what a whole memref reads is holding its buffer at contents that read so. -/
theorem owns_eq (c : Dev nD) {sp : Space} {S : Shape} {e : EltTy} (M : Memref sig .tc sp S e) (h : M.IsWhole)
    (X : S.Idx → Elt F e) :
    (owns (c : Thread nD τ) M fullShare X : sProp 𝕄) = iprop(∃ f : Bf (F := F) c M, ⌜M.view.read (Elt F) f = X⌝ ∗ pt c M fullShare f) := by
  unfold owns
  rw [h.set_eq_univ]

/-- A run of the body at point `t` from the buffers' contents, carried to what the buffers own and what is kept. -/
theorem body_of_run (c : Dev nD) (κ : Keep F) (t : Fin grid0.N) (R : sProp 𝕄) (M2 : Memref sig .tc .vmem S512x512 .f32) (h2 : M2.IsWhole) (M3 : Memref sig .tc .vmem S512x512 .f32) (h3 : M3.IsWhole) (M4 : Memref sig .tc .vmem S512x512 .f32) (h4 : M4.IsWhole) (M5 : Memref sig .tc .vmem S512x512 .f32) (h5 : M5.IsWhole) (M6 : Memref sig .tc .vmem S512x128 .f32) (h6 : M6.IsWhole) (M7 : Memref sig .tc .vmem S1x8x512 .f32) (h7 : M7.IsWhole) (M8 : Memref sig .tc .vmem S512x512 .f32) (h8 : M8.IsWhole) (f2 : Bf (F := F) c M2) (f3 : Bf (F := F) c M3) (f4 : Bf (F := F) c M4) (f5 : Bf (F := F) c M5) (f6 : Bf (F := F) c M6) (f7 : Bf (F := F) c M7) (f8 : Bf (F := F) c M8) (m : (⟨S4x512x1, .f32⟩ : BufTy).Contents (Elt F)) (l : (⟨S4x512x1, .f32⟩ : BufTy).Contents (Elt F)) (a : (⟨S512x512, .f32⟩ : BufTy).Contents (Elt F))
    (W8 : Bf (F := F) c M8) (m' : (⟨S4x512x1, .f32⟩ : BufTy).Contents (Elt F)) (l' : (⟨S4x512x1, .f32⟩ : BufTy).Contents (Elt F)) (a' : (⟨S512x512, .f32⟩ : BufTy).Contents (Elt F))
    (hrun : ∀ (q0 q1 : PosShare TreeShare) (Q : PUnit → sProp 𝕄),
      iprop(pt c (Memref.whole main_c) q0 (tabs (F := F) 0) ∗ pt c (Memref.whole main_c_0) q1 (tabs (F := F) 1) ∗ pt c M2 fullShare f2 ∗ pt c M3 fullShare f3 ∗ pt c M4 fullShare f4 ∗ pt c M5 fullShare f5 ∗ pt c M6 fullShare f6 ∗ pt c M7 fullShare f7 ∗ pt c M8 fullShare f8
          ∗ pt c (Memref.whole cc0_scratch0) fullShare m ∗ pt c (Memref.whole cc0_scratch1) fullShare l ∗ pt c (Memref.whole cc0_scratch2) fullShare a
          ∗ (iprop(pt c (Memref.whole main_c) q0 (tabs (F := F) 0) ∗ pt c (Memref.whole main_c_0) q1 (tabs (F := F) 1) ∗ pt c M2 fullShare f2 ∗ pt c M3 fullShare f3 ∗ pt c M4 fullShare f4 ∗ pt c M5 fullShare f5 ∗ pt c M6 fullShare f6 ∗ pt c M7 fullShare f7 ∗ pt c M8 fullShare W8
              ∗ pt c (Memref.whole cc0_scratch0) fullShare m' ∗ pt c (Memref.whole cc0_scratch1) fullShare l' ∗ pt c (Memref.whole cc0_scratch2) fullShare a') -∗ Q ⟨⟩))
        ⊢ wp frame (wpE (defs₀ (F := F)) Variants.none c none) Set.univ
            (cc0_fox_prompt (grid0.coords t) (Memref.whole main_c) (Memref.isWhole_whole _) (Memref.whole main_c_0) (Memref.isWhole_whole _) M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _)) Q)
    (e2 : M2.view.read (Elt F) f2 = blkOf V c 0 t) (e3 : M3.view.read (Elt F) f3 = blkOf V c 1 t) (e4 : M4.view.read (Elt F) f4 = blkOf V c 2 t) (e5 : M5.view.read (Elt F) f5 = blkOf V c 3 t) (e6 : M6.view.read (Elt F) f6 = blkOf V c 4 t) (e7 : M7.view.read (Elt F) f7 = blkOf V c 5 t)
    (hI' : κ.I (t.val + 1) m' l' a') (hO : kn (jn t.val) = qn (jn t.val) → κ.O t.val (M8.view.read (Elt F) W8)) :
    iprop(pt c (Memref.whole main_c) fullShare.right (tabs (F := F) 0) ∗ pt c (Memref.whole main_c_0) fullShare.right (tabs (F := F) 1)
        ∗ (∃ r, prngReg c r) ∗ pt c (Memref.whole cc0_scratch0) fullShare m ∗ pt c (Memref.whole cc0_scratch1) fullShare l
        ∗ pt c (Memref.whole cc0_scratch2) fullShare a ∗ R ∗ pt c M2 fullShare f2 ∗ pt c M3 fullShare f3 ∗ pt c M4 fullShare f4 ∗ pt c M5 fullShare f5 ∗ pt c M6 fullShare f6 ∗ pt c M7 fullShare f7 ∗ pt c M8 fullShare f8)
    ⊢ wp frame (wpE (defs₀ (F := F)) Variants.none c none) Set.univ
        (cc0_fox_prompt (grid0.coords t) (Memref.whole main_c) (Memref.isWhole_whole _) (Memref.whole main_c_0) (Memref.isWhole_whole _) M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _))
        fun _ => iprop(phi c κ (t.val + 1) ∗ R ∗ owns (c : Thread nD τ) M2 fullShare (blkOf V c 0 t) ∗ owns (c : Thread nD τ) M3 fullShare (blkOf V c 1 t) ∗ owns (c : Thread nD τ) M4 fullShare (blkOf V c 2 t) ∗ owns (c : Thread nD τ) M5 fullShare (blkOf V c 3 t) ∗ owns (c : Thread nD τ) M6 fullShare (blkOf V c 4 t) ∗ owns (c : Thread nD τ) M7 fullShare (blkOf V c 5 t)
          ∗ ∃ X, ⌜kn (jn t.val) = qn (jn t.val) → κ.O t.val X⌝ ∗ owns (c : Thread nD τ) M8 fullShare X) := by
  unfold phi
  simp only [owns_eq c M2 h2, owns_eq c M3 h3, owns_eq c M4 h4, owns_eq c M5 h5, owns_eq c M6 h6, owns_eq c M7 h7, owns_eq c M8 h8]
  iintro ⟨H0, H1, Hg, H9, H10, H11, Ho, H2, H3, H4, H5, H6, H7, H8⟩
  iapply (hrun fullShare.right fullShare.right _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [H0 H1 Hg H9 H10 H11]
  · isplitl [H0]; · iexact H0
    isplitl [H1]; · iexact H1
    isplitl [Hg]; · iexact Hg
    iexists m', l', a'
    isplitr
    · ipureintro; exact hI'
    isplitl [H9]; · iexact H9
    isplitl [H10]; · iexact H10
    iexact H11
  isplitl [Ho]; · iexact Ho
  isplitl [H2]; · iexists f2; isplitr; (ipureintro; exact e2); iexact H2
  isplitl [H3]; · iexists f3; isplitr; (ipureintro; exact e3); iexact H3
  isplitl [H4]; · iexists f4; isplitr; (ipureintro; exact e4); iexact H4
  isplitl [H5]; · iexists f5; isplitr; (ipureintro; exact e5); iexact H5
  isplitl [H6]; · iexists f6; isplitr; (ipureintro; exact e6); iexact H6
  isplitl [H7]; · iexists f7; isplitr; (ipureintro; exact e7); iexact H7
  iexists (M8.view.read (Elt F) W8)
  isplitr
  · ipureintro; exact hO
  · iexists W8; isplitr; (ipureintro; rfl); iexact H8

set_option maxHeartbeats 1000000 in
/-- The body at point `t`, on staging buffers that hold the point's blocks: it hands them back with the output block as kept. -/
theorem body_at (c : Dev nD) (κ : Keep F) (hκ : Keeps V c κ) (t : Fin grid0.N) (R : sProp 𝕄) (M2 : Memref sig .tc .vmem S512x512 .f32) (h2 : M2.IsWhole) (M3 : Memref sig .tc .vmem S512x512 .f32) (h3 : M3.IsWhole) (M4 : Memref sig .tc .vmem S512x512 .f32) (h4 : M4.IsWhole) (M5 : Memref sig .tc .vmem S512x512 .f32) (h5 : M5.IsWhole) (M6 : Memref sig .tc .vmem S512x128 .f32) (h6 : M6.IsWhole) (M7 : Memref sig .tc .vmem S1x8x512 .f32) (h7 : M7.IsWhole) (M8 : Memref sig .tc .vmem S512x512 .f32) (h8 : M8.IsWhole) :
    iprop(phi c κ t.val ∗ R ∗ owns (c : Thread nD τ) M2 fullShare (blkOf V c 0 t) ∗ owns (c : Thread nD τ) M3 fullShare (blkOf V c 1 t) ∗ owns (c : Thread nD τ) M4 fullShare (blkOf V c 2 t) ∗ owns (c : Thread nD τ) M5 fullShare (blkOf V c 3 t) ∗ owns (c : Thread nD τ) M6 fullShare (blkOf V c 4 t) ∗ owns (c : Thread nD τ) M7 fullShare (blkOf V c 5 t) ∗ ∃ Y, owns (c : Thread nD τ) M8 fullShare Y)
    ⊢ wp frame (wpE (defs₀ (F := F)) Variants.none c none) Set.univ
        (cc0_fox_prompt (grid0.coords t) (Memref.whole main_c) (Memref.isWhole_whole _) (Memref.whole main_c_0) (Memref.isWhole_whole _) M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _))
        fun _ => iprop(phi c κ (t.val + 1) ∗ R ∗ owns (c : Thread nD τ) M2 fullShare (blkOf V c 0 t) ∗ owns (c : Thread nD τ) M3 fullShare (blkOf V c 1 t) ∗ owns (c : Thread nD τ) M4 fullShare (blkOf V c 2 t) ∗ owns (c : Thread nD τ) M5 fullShare (blkOf V c 3 t) ∗ owns (c : Thread nD τ) M6 fullShare (blkOf V c 4 t) ∗ owns (c : Thread nD τ) M7 fullShare (blkOf V c 5 t)
          ∗ ∃ X, ⌜kn (jn t.val) = qn (jn t.val) → κ.O t.val X⌝ ∗ owns (c : Thread nD τ) M8 fullShare X) := by
  have hfst := isFirst_iff (jn t.val)
  have hbel := isBelow_iff (jn t.val)
  have hdia := isDiag_iff (jn t.val)
  unfold isFirst at hfst; unfold isBelow at hbel; unfold isDiag at hdia
  rw [← coords_snd t, ← word_q (F := F) c, ← word_k (F := F) c] at hbel hdia
  rw [← coords_snd t, ← word_k (F := F) c] at hfst
  rw [coords_snd t] at hfst hbel hdia
  have hle := kn_le (jn t.val)
  have hpre : iprop(phi c κ t.val ∗ R ∗ owns (c : Thread nD τ) M2 fullShare (blkOf V c 0 t) ∗ owns (c : Thread nD τ) M3 fullShare (blkOf V c 1 t) ∗ owns (c : Thread nD τ) M4 fullShare (blkOf V c 2 t) ∗ owns (c : Thread nD τ) M5 fullShare (blkOf V c 3 t) ∗ owns (c : Thread nD τ) M6 fullShare (blkOf V c 4 t) ∗ owns (c : Thread nD τ) M7 fullShare (blkOf V c 5 t) ∗ ∃ Y, owns (c : Thread nD τ) M8 fullShare Y)
      ⊢ iprop(∃ f2 f3 f4 f5 f6 f7 f8 m l a, ⌜κ.I t.val m l a ∧ M2.view.read (Elt F) f2 = blkOf V c 0 t ∧ M3.view.read (Elt F) f3 = blkOf V c 1 t ∧ M4.view.read (Elt F) f4 = blkOf V c 2 t ∧ M5.view.read (Elt F) f5 = blkOf V c 3 t ∧ M6.view.read (Elt F) f6 = blkOf V c 4 t ∧ M7.view.read (Elt F) f7 = blkOf V c 5 t⌝
        ∗ pt c (Memref.whole main_c) fullShare.right (tabs (F := F) 0) ∗ pt c (Memref.whole main_c_0) fullShare.right (tabs (F := F) 1)
        ∗ (∃ r, prngReg c r) ∗ pt c (Memref.whole cc0_scratch0) fullShare m ∗ pt c (Memref.whole cc0_scratch1) fullShare l
        ∗ pt c (Memref.whole cc0_scratch2) fullShare a ∗ R ∗ pt c M2 fullShare f2 ∗ pt c M3 fullShare f3 ∗ pt c M4 fullShare f4 ∗ pt c M5 fullShare f5 ∗ pt c M6 fullShare f6 ∗ pt c M7 fullShare f7 ∗ pt c M8 fullShare f8) := by
    unfold phi
    simp only [owns_eq c M2 h2, owns_eq c M3 h3, owns_eq c M4 h4, owns_eq c M5 h5, owns_eq c M6 h6, owns_eq c M7 h7, owns_eq c M8 h8]
    iintro ⟨⟨H0, H1, Hg, %m, %l, %a, %hI, H9, H10, H11⟩, Ho, ⟨%f2, %e2, H2⟩, ⟨%f3, %e3, H3⟩, ⟨%f4, %e4, H4⟩, ⟨%f5, %e5, H5⟩, ⟨%f6, %e6, H6⟩, ⟨%f7, %e7, H7⟩, %Y, %f8, %e8, H8⟩
    iexists f2, f3, f4, f5, f6, f7, f8, m, l, a
    isplitr
    · ipureintro; exact ⟨hI, e2, e3, e4, e5, e6, e7⟩
    isplitl [H0]; · iexact H0
    isplitl [H1]; · iexact H1
    isplitl [Hg]; · iexact Hg
    isplitl [H9]; · iexact H9
    isplitl [H10]; · iexact H10
    isplitl [H11]; · iexact H11
    isplitl [Ho]; · iexact Ho
    isplitl [H2]; · iexact H2
    isplitl [H3]; · iexact H3
    isplitl [H4]; · iexact H4
    isplitl [H5]; · iexact H5
    isplitl [H6]; · iexact H6
    isplitl [H7]; · iexact H7
    iexact H8
  refine hpre.trans ?_
  iintro ⟨%f2, %f3, %f4, %f5, %f6, %f7, %f8, %m, %l, %a, %hK, H⟩
  obtain ⟨hI, e2, e3, e4, e5, e6, e7⟩ := hK
  by_cases h0 : kn (jn t.val) = 0 <;> by_cases heq : kn (jn t.val) = qn (jn t.val)
  · have hs : (Scalar.cmpi .ne (Scalar.extui (Scalar.cmpi .eq (word (F := F) c (grid0.coords t) (Memref.whole main_c_0) (tabs (F := F) 1)) 0#32)) 0#32 = 1#1) := hfst.2 h0
    have hl : ¬(Scalar.cmpi .ne (Scalar.extui (Scalar.cmpi .slt (word (F := F) c (grid0.coords t) (Memref.whole main_c_0) (tabs (F := F) 1)) (word (F := F) c (grid0.coords t) (Memref.whole main_c) (tabs (F := F) 0)))) 0#32 = 1#1) := fun h => absurd (hbel.1 h) (by omega)
    have hd : (k0_cond3 (word (F := F) c (grid0.coords t) (Memref.whole main_c) (tabs (F := F) 0)) (word (F := F) c (grid0.coords t) (Memref.whole main_c_0) (tabs (F := F) 1)) = 1#1) := hdia.2 heq
    have K := hκ.one t M2 h2 M3 h3 M4 h4 M5 h5 M6 h6 M7 h7 M8 h8 f2 f3 f4 f5 f6 f7 hs hl hd e2 e3 e4 e5 e6 e7
    generalize oneRun (F := F) c (grid0.coords t) (Memref.whole main_c) (Memref.isWhole_whole _) (Memref.whole main_c_0) (Memref.isWhole_whole _) M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (tabs (F := F) 0) (tabs (F := F) 1) f2 f3 f4 f5 f6 f7 hs hl hd = r at K
    obtain ⟨W, hrun⟩ := r
    have K : κ.O t.val (M8.view.read (Elt F) W.1) := K
    iapply (body_of_run V c κ t R M2 h2 M3 h3 M4 h4 M5 h5 M6 h6 M7 h7 M8 h8 f2 f3 f4 f5 f6 f7 f8 m l a W.1 W.2.1 W.2.2.1 W.2.2.2 (hrun f8 m l a)
      e2 e3 e4 e5 e6 e7 (hκ.fresh _ (next_diag t heq) _ _ _) (fun _ => K))
    iexact H
  · have hs : (Scalar.cmpi .ne (Scalar.extui (Scalar.cmpi .eq (word (F := F) c (grid0.coords t) (Memref.whole main_c_0) (tabs (F := F) 1)) 0#32)) 0#32 = 1#1) := hfst.2 h0
    have hl : (Scalar.cmpi .ne (Scalar.extui (Scalar.cmpi .slt (word (F := F) c (grid0.coords t) (Memref.whole main_c_0) (tabs (F := F) 1)) (word (F := F) c (grid0.coords t) (Memref.whole main_c) (tabs (F := F) 0)))) 0#32 = 1#1) := hbel.2 (by omega)
    have hd : ¬(k0_cond3 (word (F := F) c (grid0.coords t) (Memref.whole main_c) (tabs (F := F) 0)) (word (F := F) c (grid0.coords t) (Memref.whole main_c_0) (tabs (F := F) 1)) = 1#1) := fun h => heq (hdia.1 h)
    have K := hκ.first t M2 h2 M3 h3 M4 h4 M5 h5 M6 h6 M7 h7 M8 h8 f2 f3 f4 f5 f6 f7 hs hl hd e2 e3 e4 e5 e6 e7
    generalize firstRun (F := F) c (grid0.coords t) (Memref.whole main_c) (Memref.isWhole_whole _) (Memref.whole main_c_0) (Memref.isWhole_whole _) M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (tabs (F := F) 0) (tabs (F := F) 1) f2 f3 f4 f5 f6 f7 hs hl hd = r at K
    obtain ⟨W, hrun⟩ := r
    have K : κ.I (t.val + 1) W.1 W.2.1 W.2.2 := K
    iapply (body_of_run V c κ t R M2 h2 M3 h3 M4 h4 M5 h5 M6 h6 M7 h7 M8 h8 f2 f3 f4 f5 f6 f7 f8 m l a f8 W.1 W.2.1 W.2.2 (hrun f8 m l a)
      e2 e3 e4 e5 e6 e7 K (fun h => absurd h heq))
    iexact H
  · have hs : ¬(Scalar.cmpi .ne (Scalar.extui (Scalar.cmpi .eq (word (F := F) c (grid0.coords t) (Memref.whole main_c_0) (tabs (F := F) 1)) 0#32)) 0#32 = 1#1) := fun h => h0 (hfst.1 h)
    have hl : ¬(Scalar.cmpi .ne (Scalar.extui (Scalar.cmpi .slt (word (F := F) c (grid0.coords t) (Memref.whole main_c_0) (tabs (F := F) 1)) (word (F := F) c (grid0.coords t) (Memref.whole main_c) (tabs (F := F) 0)))) 0#32 = 1#1) := fun h => absurd (hbel.1 h) (by omega)
    have hd : (k0_cond3 (word (F := F) c (grid0.coords t) (Memref.whole main_c) (tabs (F := F) 0)) (word (F := F) c (grid0.coords t) (Memref.whole main_c_0) (tabs (F := F) 1)) = 1#1) := hdia.2 heq
    have K := hκ.diag t M2 h2 M3 h3 M4 h4 M5 h5 M6 h6 M7 h7 M8 h8 f2 f3 f4 f5 f6 f7 m l a hs hl hd e2 e3 e4 e5 e6 e7 hI
    generalize diagRun (F := F) c (grid0.coords t) (Memref.whole main_c) (Memref.isWhole_whole _) (Memref.whole main_c_0) (Memref.isWhole_whole _) M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (tabs (F := F) 0) (tabs (F := F) 1) f2 f3 f4 f5 f6 f7 m l a hs hl hd = r at K
    obtain ⟨W, hrun⟩ := r
    have K : κ.O t.val (M8.view.read (Elt F) W.1) := K
    iapply (body_of_run V c κ t R M2 h2 M3 h3 M4 h4 M5 h5 M6 h6 M7 h7 M8 h8 f2 f3 f4 f5 f6 f7 f8 m l a W.1 W.2.1 W.2.2.1 W.2.2.2 (hrun f8)
      e2 e3 e4 e5 e6 e7 (hκ.fresh _ (next_diag t heq) _ _ _) (fun _ => K))
    iexact H
  · have hs : ¬(Scalar.cmpi .ne (Scalar.extui (Scalar.cmpi .eq (word (F := F) c (grid0.coords t) (Memref.whole main_c_0) (tabs (F := F) 1)) 0#32)) 0#32 = 1#1) := fun h => h0 (hfst.1 h)
    have hl : (Scalar.cmpi .ne (Scalar.extui (Scalar.cmpi .slt (word (F := F) c (grid0.coords t) (Memref.whole main_c_0) (tabs (F := F) 1)) (word (F := F) c (grid0.coords t) (Memref.whole main_c) (tabs (F := F) 0)))) 0#32 = 1#1) := hbel.2 (by omega)
    have hd : ¬(k0_cond3 (word (F := F) c (grid0.coords t) (Memref.whole main_c) (tabs (F := F) 0)) (word (F := F) c (grid0.coords t) (Memref.whole main_c_0) (tabs (F := F) 1)) = 1#1) := fun h => heq (hdia.1 h)
    have K := hκ.step t M2 h2 M3 h3 M4 h4 M5 h5 M6 h6 M7 h7 M8 h8 f2 f3 f4 f5 f6 f7 m l a hs hl hd e2 e3 e4 e5 e6 e7 hI
    generalize stepRun (F := F) c (grid0.coords t) (Memref.whole main_c) (Memref.isWhole_whole _) (Memref.whole main_c_0) (Memref.isWhole_whole _) M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (tabs (F := F) 0) (tabs (F := F) 1) f2 f3 f4 f5 f6 f7 m l a hs hl hd = r at K
    obtain ⟨W, hrun⟩ := r
    have K : κ.I (t.val + 1) W.1 W.2.1 W.2.2 := K
    iapply (body_of_run V c κ t R M2 h2 M3 h3 M4 h4 M5 h5 M6 h6 M7 h7 M8 h8 f2 f3 f4 f5 f6 f7 f8 m l a f8 W.1 W.2.1 W.2.2 (hrun f8)
      e2 e3 e4 e5 e6 e7 K (fun h => absurd h heq))
    iexact H

end Cert.KernelIdeal.Fox

end
-- ==== Proof.IOblig.lean ====
/-
  The pipeline's proof data and the body's obligation at every point, for any facts kept.
-/
module

public import proofs.«01_k».proof.Proof.ITrack
public import Idealize.ShloMosaic.Lib.Pipeline.Frame
public import Idealize.ShloMosaic.Lib.Pipeline.FrameBody
public import Idealize.ShloMosaic.Lib.Pipeline.DatRel

@[expose] public section

set_option maxRecDepth 16384

noncomputable section

namespace Cert.KernelIdeal.Fox

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

variable (V : (c : Dev nD) → (b : Ref sig .tc) → Buf (Elt F) ((c.tc : Thread nD τ).loc b))

/-- What the body leaves in each window that is not the output: the point's block. -/
def leaves (c : Dev nD) : (w : Fin 7) → Fin grid0.N → ((cfgT (F := F)).win w).block.Idx → Elt F ((cfgT (F := F)).win w).elt
  | ⟨0, _⟩ => fun t => blkOf V c 0 t
  | ⟨1, _⟩ => fun t => blkOf V c 1 t
  | ⟨2, _⟩ => fun t => blkOf V c 2 t
  | ⟨3, _⟩ => fun t => blkOf V c 3 t
  | ⟨4, _⟩ => fun t => blkOf V c 4 t
  | ⟨5, _⟩ => fun t => blkOf V c 5 t
  | ⟨6, _⟩ => fun _ => (fun _ => FloatOps.ofBits .f32 0)

/-- The invariant at a point's number. -/
def phiS (c : Dev nD) (κ : Keep F) (n : ℕ) (_ : n ≤ grid0.N) : sProp 𝕄 := phi c κ n

/-- A position stated at naturals, read after a point. -/
theorem at_succ {α : Sort _} {N : ℕ} (S : (n : ℕ) → n ≤ N → α) (t : Fin N) :
    S (Fin.succ t).val (Nat.le_of_lt_succ (Fin.succ t).isLt) = S (t.val + 1) t.isLt := rfl

/-- The proof data on core `c`. -/
def dat (κ : Keep F) (c : Dev nD) : Dat τ (Elt F) Unit ℕ (UR sig nD τ) ℕ (cfgT (F := F)) c where
  A w := V c (arrRef spec0 w)
  after w t := leaves V c w t
  Φ n := phiS c κ n.val (Nat.le_of_lt_succ n.isLt)
  q := shareOf spec0
  owed _ := 0

/-- The output window is held to what is kept of it. -/
def fgt : Fin 7 → Bool := fun w => w == 6
/-- What is kept of the output at a point on the diagonal. -/
def rel (κ : Keep F) : (w : Fin 7) → Fin grid0.N → (((cfgT (F := F)).win w).block.Idx → Elt F ((cfgT (F := F)).win w).elt) → Prop
  | ⟨6, _⟩ => fun t X => kn (jn t.val) = qn (jn t.val) → κ.O t.val X
  | _ => fun _ _ => True

/-- Window 0 is found at its block. -/
theorem before0 (κ : Keep F) (c : Dev nD) (t : Fin grid0.N) (d) : (dat V κ c).before 0 t d = blkOf V c 0 t :=
  Dat.before_in_eq_fetched (dat V κ c) 0 rfl (fun _ => rfl) (fun _ _ _ => rfl) (fun _ => rfl) t d
/-- Window 1 is found at its block. -/
theorem before1 (κ : Keep F) (c : Dev nD) (t : Fin grid0.N) (d) : (dat V κ c).before 1 t d = blkOf V c 1 t :=
  Dat.before_in_eq_fetched (dat V κ c) 1 rfl (fun _ => rfl) (fun _ _ _ => rfl) (fun _ => rfl) t d
/-- Window 2 is found at its block. -/
theorem before2 (κ : Keep F) (c : Dev nD) (t : Fin grid0.N) (d) : (dat V κ c).before 2 t d = blkOf V c 2 t :=
  Dat.before_in_eq_fetched (dat V κ c) 2 rfl (fun _ => rfl) (fun _ _ _ => rfl) (fun _ => rfl) t d
/-- Window 3 is found at its block. -/
theorem before3 (κ : Keep F) (c : Dev nD) (t : Fin grid0.N) (d) : (dat V κ c).before 3 t d = blkOf V c 3 t :=
  Dat.before_in_eq_fetched (dat V κ c) 3 rfl (fun _ => rfl) (fun _ _ _ => rfl) (fun _ => rfl) t d
/-- Window 4 is found at its block. -/
theorem before4 (κ : Keep F) (c : Dev nD) (t : Fin grid0.N) (d) : (dat V κ c).before 4 t d = blkOf V c 4 t :=
  Dat.before_in_eq_fetched (dat V κ c) 4 rfl (fun _ => rfl) (fun _ _ _ => rfl) (fun _ => rfl) t d
/-- Window 5 is found at its block. -/
theorem before5 (κ : Keep F) (c : Dev nD) (t : Fin grid0.N) (d) : (dat V κ c).before 5 t d = blkOf V c 5 t :=
  Dat.before_in_eq_fetched (dat V κ c) 5 rfl (fun _ => rfl) (fun _ _ _ => rfl) (fun _ => rfl) t d

/-- The invariant of the data, before and after a point. -/
theorem phi_castSucc (κ : Keep F) (c : Dev nD) (t : Fin grid0.N) : (dat V κ c).Φ t.castSucc = phi c κ t.val := by
  dsimp only [dat]; exact (Dat.Φ_castSucc (phiS c κ) t).trans rfl
/-- The invariant after a point. -/
theorem phi_succ (κ : Keep F) (c : Dev nD) (t : Fin grid0.N) : (dat V κ c).Φ t.succ = phi c κ (t.val + 1) := by
  dsimp only [dat]; exact (at_succ (phiS c κ) t).trans rfl
/-- No credit is owed at any point. -/
theorem owes_succ (κ : Keep F) (c : Dev nD) (t : Fin grid0.N) : (dat V κ c).owesAt () t.succ = (dat V κ c).owesAt () t.castSucc := rfl

/-- The body's obligation at every point. -/
theorem obligation (κ : Keep F) (c : Dev nD) (hκ : Keeps V c κ) :
    BodyObligationRel (dat V κ c) (defs₀ (F := F)) Variants.none () Set.univ fgt (rel κ) := by
  intro t
  refine triple_restated (body_at V c κ hκ t ((dat V κ c).owesAt () t.castSucc) (spec0_0.stage ((cfgT (F := F)).slots t 0)) (hstage0_0 (((cfgT (F := F)).slots t 0).cast nbuf0_0)) (spec0_1.stage ((cfgT (F := F)).slots t 1)) (hstage0_1 (((cfgT (F := F)).slots t 1).cast nbuf0_1)) (spec0_2.stage ((cfgT (F := F)).slots t 2)) (hstage0_2 (((cfgT (F := F)).slots t 2).cast nbuf0_2)) (spec0_3.stage ((cfgT (F := F)).slots t 3)) (hstage0_3 (((cfgT (F := F)).slots t 3).cast nbuf0_3)) (spec0_4.stage ((cfgT (F := F)).slots t 4)) (hstage0_4 (((cfgT (F := F)).slots t 4).cast nbuf0_4)) (spec0_5.stage ((cfgT (F := F)).slots t 5)) (hstage0_5 (((cfgT (F := F)).slots t 5).cast nbuf0_5)) (spec0_6.stage ((cfgT (F := F)).slots t 6)) (hstage0_6 (((cfgT (F := F)).slots t 6).cast nbuf0_6))) rfl ?_ (fun _ => ?_)
  · rw [bigSep_W0, phi_castSucc]
    refine sep_mono .rfl (sep_mono .rfl (sep_mono ?_ (sep_mono ?_ (sep_mono ?_ (sep_mono ?_ (sep_mono ?_ (sep_mono ?_ ?_)))))))
    · show (iprop(∃ d, owns (c : Thread nD τ) (spec0_0.stage ((cfgT (F := F)).slots t 0)) fullShare ((dat V κ c).before 0 t d)) : sProp 𝕄) ⊢ _
      iintro ⟨%d, H⟩; rw [before0]; iexact H
    · show (iprop(∃ d, owns (c : Thread nD τ) (spec0_1.stage ((cfgT (F := F)).slots t 1)) fullShare ((dat V κ c).before 1 t d)) : sProp 𝕄) ⊢ _
      iintro ⟨%d, H⟩; rw [before1]; iexact H
    · show (iprop(∃ d, owns (c : Thread nD τ) (spec0_2.stage ((cfgT (F := F)).slots t 2)) fullShare ((dat V κ c).before 2 t d)) : sProp 𝕄) ⊢ _
      iintro ⟨%d, H⟩; rw [before2]; iexact H
    · show (iprop(∃ d, owns (c : Thread nD τ) (spec0_3.stage ((cfgT (F := F)).slots t 3)) fullShare ((dat V κ c).before 3 t d)) : sProp 𝕄) ⊢ _
      iintro ⟨%d, H⟩; rw [before3]; iexact H
    · show (iprop(∃ d, owns (c : Thread nD τ) (spec0_4.stage ((cfgT (F := F)).slots t 4)) fullShare ((dat V κ c).before 4 t d)) : sProp 𝕄) ⊢ _
      iintro ⟨%d, H⟩; rw [before4]; iexact H
    · show (iprop(∃ d, owns (c : Thread nD τ) (spec0_5.stage ((cfgT (F := F)).slots t 5)) fullShare ((dat V κ c).before 5 t d)) : sProp 𝕄) ⊢ _
      iintro ⟨%d, H⟩; rw [before5]; iexact H
    · show (iprop(∃ Y, ⌜((dat V κ c).toRRel fgt (rel κ)).Finds 6 t Y⌝ ∗ owns (c : Thread nD τ) (spec0_6.stage ((cfgT (F := F)).slots t 6)) fullShare Y) : sProp 𝕄) ⊢ _
      iintro ⟨%Y, %hY, H⟩; iexists Y; iexact H
  · rw [bigSep_W0, phi_succ, owes_succ]
    refine sep_mono .rfl (sep_mono .rfl (sep_mono ?_ (sep_mono ?_ (sep_mono ?_ (sep_mono ?_ (sep_mono ?_ (sep_mono ?_ ?_)))))))
    · show _ ⊢ (owns (c : Thread nD τ) (spec0_0.stage ((cfgT (F := F)).slots t 0)) fullShare (blkOf V c 0 t) : sProp 𝕄)
      iintro H; iexact H
    · show _ ⊢ (owns (c : Thread nD τ) (spec0_1.stage ((cfgT (F := F)).slots t 1)) fullShare (blkOf V c 1 t) : sProp 𝕄)
      iintro H; iexact H
    · show _ ⊢ (owns (c : Thread nD τ) (spec0_2.stage ((cfgT (F := F)).slots t 2)) fullShare (blkOf V c 2 t) : sProp 𝕄)
      iintro H; iexact H
    · show _ ⊢ (owns (c : Thread nD τ) (spec0_3.stage ((cfgT (F := F)).slots t 3)) fullShare (blkOf V c 3 t) : sProp 𝕄)
      iintro H; iexact H
    · show _ ⊢ (owns (c : Thread nD τ) (spec0_4.stage ((cfgT (F := F)).slots t 4)) fullShare (blkOf V c 4 t) : sProp 𝕄)
      iintro H; iexact H
    · show _ ⊢ (owns (c : Thread nD τ) (spec0_5.stage ((cfgT (F := F)).slots t 5)) fullShare (blkOf V c 5 t) : sProp 𝕄)
      iintro H; iexact H
    · show _ ⊢ (iprop(∃ X, ⌜rel κ 6 t X⌝ ∗ owns (c : Thread nD τ) (spec0_6.stage ((cfgT (F := F)).slots t 6)) fullShare X) : sProp 𝕄)
      iintro ⟨%X, %hX, H⟩
      iexists X
      isplitr
      · ipureintro; exact hX
      · iexact H

end Cert.KernelIdeal.Fox

end
-- ==== Proof.ILaunch.lean ====
/-
  The launch: the host's operations, the pipeline at the tables' contents, and what every execution leaves.
-/
module

public import proofs.«01_k».proof.Proof.IOblig

@[expose] public section

set_option maxRecDepth 16384

noncomputable section

namespace Cert.KernelIdeal.Fox

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (g : Dev nD → PrngReg)

/-- The host's operations before the kernel. -/
abbrev hostOps : List (List (HloOp τ sig (Elt F))) := [hostOps0, hostOps0_1]

/-- The buffers' contents when the kernel is launched. -/
def entry (c : Dev nD) (b : Ref sig .tc) : Buf (Elt F) ((c.tc : Thread nD τ).loc b) :=
  StableHlo.after (hostOps (F := F)).flatten (fun b => m (c, b)) b

/-- The two tables conjoined. -/
theorem bigSep_tabs (Φ : Fin 2 → sProp 𝕄) : bigSep Finset.univ Φ = iprop(Φ 0 ∗ Φ 1) :=
  bigSep_univ_eq_bigSepL [(0 : Fin 2), (1 : Fin 2)] (by decide) (by decide) Φ

/-- At the launch the invariant is the scratch buffers, the register and the tables, nothing kept. -/
theorem phi_in (V : (c : Dev nD) → (b : Ref sig .tc) → Buf (Elt F) ((c.tc : Thread nD τ).loc b)) (κ : Keep F) (c : Dev nD) (hκ : Keeps V c κ) :
    iprop(ΦA spec0 c ∗ ΦT pre0 (tabs (F := F)) c) ⊢ phi c κ 0 := by
  unfold ΦA ΦT prefHeld phi
  rw [scopedRest0_eq, bigSep_tabs]
  iintro ⟨⟨⟨⟨%f0, H0⟩, ⟨%f1, H1⟩, ⟨%f2, H2⟩⟩, Hg⟩, Ht0, Ht1⟩
  isplitl [Ht0]; · iexact Ht0
  isplitl [Ht1]; · iexact Ht1
  isplitl [Hg]; · iexact Hg
  iexists f0, f1, f2
  isplitr
  · ipureintro; exact hκ.fresh 0 kn_zero _ _ _
  isplitl [H0]; · iexact H0
  isplitl [H1]; · iexact H1
  iexact H2

/-- At the end the invariant gives the scratch buffers and the register back. -/
theorem phi_out (κ : Keep F) (c : Dev nD) (n : ℕ) : (phi c κ n : sProp 𝕄) ⊢ ΦA spec0 c := by
  unfold ΦA phi
  rw [scopedRest0_eq]
  iintro ⟨-, -, Hg, %f0, %f1, %f2, -, H0, H1, H2⟩
  isplitl [H0 H1 H2]
  · isplitl [H0]; · iexists f0; iexact H0
    isplitl [H1]; · iexists f1; iexact H1
    iexists f2; iexact H2
  · iexact Hg

/-- The buffers at the launch: the tables hold their contents, the arguments theirs. -/
theorem entry_c (c : Dev nD) : entry m c main_c = tabs (F := F) 0 := by
  simp only [entry, hostOps, hostOps0, hostOps0_1, List.flatten_cons, List.flatten_nil, List.append_nil, List.cons_append, List.nil_append, StableHlo.TRef.binary, StableHlo.TRef.unary, StableHlo.TRef.toBuf, StableHlo.TRef.ofBuf, cast_eq]; after_results_simp <;> rfl
/-- The second table at the launch. -/
theorem entry_c0 (c : Dev nD) : entry m c main_c_0 = tabs (F := F) 1 := by
  simp only [entry, hostOps, hostOps0, hostOps0_1, List.flatten_cons, List.flatten_nil, List.append_nil, List.cons_append, List.nil_append, StableHlo.TRef.binary, StableHlo.TRef.unary, StableHlo.TRef.toBuf, StableHlo.TRef.ofBuf, cast_eq]; after_results_simp <;> rfl
/-- The first argument at the launch. -/
theorem entry_arg0 (c : Dev nD) : entry m c main_arg0 = m ((c.tc : Thread nD τ).loc main_arg0) := by
  simp only [entry, hostOps, hostOps0, hostOps0_1, List.flatten_cons, List.flatten_nil, List.append_nil, List.cons_append, List.nil_append, StableHlo.TRef.binary, StableHlo.TRef.unary, StableHlo.TRef.toBuf, StableHlo.TRef.ofBuf, cast_eq]; after_results_simp <;> rfl
/-- The second argument at the launch. -/
theorem entry_arg1 (c : Dev nD) : entry m c main_arg1 = m ((c.tc : Thread nD τ).loc main_arg1) := by
  simp only [entry, hostOps, hostOps0, hostOps0_1, List.flatten_cons, List.flatten_nil, List.append_nil, List.cons_append, List.nil_append, StableHlo.TRef.binary, StableHlo.TRef.unary, StableHlo.TRef.toBuf, StableHlo.TRef.ofBuf, cast_eq]; after_results_simp <;> rfl

/-- The keys' cumulated gates as the host lays them out: one row per head, the rows after the fourth filled. -/
def ctOf (x : (⟨S16384x128, .f32⟩ : BufTy).Contents (Elt F)) : (⟨S2x8x8192, .f32⟩ : BufTy).Contents (Elt F) :=
  pad S2x8x8192 ![0, 0, 0] ![0, 4, 0] ![0, 0, 0]
    (transpose S2x4x8192 [0, 2, 1] (shapeCast S2x8192x4 (extractStridedSlice S16384x4 ![0, 0] x slices_S16384x128_S16384x4_0_0) shapeCasts_S16384x4_S2x8192x4)
      transposes_S2x8192x4_S2x4x8192_0_2_1)
    (sitofp .f32 (constantI S_ 32 0#32)) pads_S2x4x8192_S2x8x8192_000_040_000 h_S_
/-- The keys' cumulated gates at the launch. -/
theorem entry_ct (c : Dev nD) : entry m c main_v3 = ctOf (m ((c.tc : Thread nD τ).loc main_arg1)) := by
  simp only [entry, hostOps, hostOps0, hostOps0_1, List.flatten_cons, List.flatten_nil, List.append_nil, List.cons_append, List.nil_append, StableHlo.TRef.binary, StableHlo.TRef.unary, StableHlo.TRef.toBuf, StableHlo.TRef.ofBuf, cast_eq]; after_results_simp <;> rfl

/-- The tables hold their contents at the launch. -/
theorem entry_tabs (c : Dev nD) : ∀ k, entry m c (pre0.ref k) = tabs (F := F) k := by
  rintro ⟨_ | _ | k, hk⟩
  · exact entry_c m c
  · exact entry_c0 m c
  · exact absurd hk (by simp)

set_option backward.isDefEq.respectTransparency.types false in
/-- Every execution ends, the arrays at what the pipeline's data say, every other buffer as at the launch, all counters zero. -/
theorem runs (κ : Keep F) (hκ : ∀ c, Keeps (entry m) c κ) :
    θ_run (defs (F := F)) (onTc main) ⟨m, fun _ => 0, g⟩
      (fun r => RDat.FramePost (cfgT (F := F)) (fun c => (dat (entry m) κ c).toRRel fgt (rel κ)) (entry m) r ∧ r.2.sem = fun _ => 0) :=
  RDat.θ_run_frameP_track_shared (pcfgs (F := F)) (fun _ => adm) 0 launch₀0 (defs₀ (F := F)) Variants.none
    (fun c => (dat (entry m) κ c).toRRel fgt (rel κ)) m g main
    (fun c => (obligation (entry m) κ c (hκ c)).toRRel)
    (fun c w _ => rfl) (fun c t => rfl) (entry m)
    (hmainP_prefixes (pcfgs (F := F)) 0 (defs₀ (F := F)) Variants.none m main hostOps
      ⟨hostOps0_sub, hostOps0_1_sub⟩ ⟨⟨rfl, rfl, rfl, rfl, rfl, rfl⟩, rfl, rfl⟩ main_chain)
    (fun c w => rfl) (fun c k => entry_tabs m c k)
    (fun c => phi_in (entry m) κ c (hκ c)) (fun c => phi_out κ c _)
    (Q' := _) (hQ' := fun _ h => h)

end Cert.KernelIdeal.Fox

end
-- ==== Proof.IFrame.lean ====
/-
  The frame: every execution ends with the arguments untouched and all counters at zero.
-/
module

public import proofs.«01_k».proof.Proof.ILaunch

@[expose] public section

set_option maxRecDepth 16384

noncomputable section

namespace Cert.KernelIdeal.Fox

open Cert.KernelIdeal Cert.KernelIdeal.Gen

open Idealize.ShloMosaic
open Idealize.ShloMosaic.TcCoe
open Idealize.SL.Sem
open Idealize.ShloMosaic.Pipeline

variable {F : FTy → Type} [FloatOps F]

/-- Nothing kept. -/
def keepNone : Keep F := ⟨fun _ _ _ _ => True, fun _ _ => True⟩

/-- The body keeps nothing, trivially. -/
theorem keeps_none (V : (c : Dev nD) → (b : Ref sig .tc) → Buf (Elt F) ((c.tc : Thread nD τ).loc b)) (c : Dev nD) : Keeps V c keepNone where
  fresh := by intros; trivial
  step := by intros; trivial
  first := by intros; trivial
  diag := by intros; trivial
  one := by intros; trivial

/-- The arguments at the end are the launch's. -/
theorem args_kept (m : (ℓ : Loc nD τ sig) → Buf (Elt F) ℓ) (κ : Keep F) (r : PUnit × MemSt nD τ sig (Elt F))
    (h : RDat.FramePost (cfgT (F := F)) (fun c => (dat (entry m) κ c).toRRel fgt (rel κ)) (entry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(h.arr_in c 0 rfl).trans (entry_arg0 m c), (h.arr_in c 4 rfl).trans (entry_arg1 m c)⟩

/-- Every execution ends with the arguments untouched and all counters at zero. -/
theorem frame_run (m : (ℓ : Loc nD τ sig) → Buf (Elt F) ℓ) (g : Dev nD → PrngReg) :
    θ_run (defs (F := F)) (onTc main) ⟨m, fun _ => 0, g⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run _ _ _).mono (fun r h => ⟨fun c => args_kept m keepNone r h.1 c, h.2⟩)
    (runs m g keepNone (fun c => keeps_none (entry m) c))

end Cert.KernelIdeal.Fox

end
-- ==== Proof.IHead.lean ====
/-
  One head's share of the attention body: its logits, its new maximum, weight and weighted sum, and the row it writes,
  as functions of the values loaded; and what each is at an index over the extended reals.
-/
module

public import proofs.«01_k».proof.Proof.Gen.KernelIdeal
public import proofs.«01_k».proof.Proof.Gen.KernelIdeal.Skeleton
public import Idealize.ShloMosaic.Lib.Pointwise
public import Idealize.ShloMosaic.Lib.WordCmp
public import Idealize.ShloMosaic.Lib.Pipeline.FrameBody
public import Idealize.ShloMosaic.PureOps.Ideal.Laws

@[expose] public section

set_option maxRecDepth 16384

noncomputable section

namespace Cert.KernelIdeal.Fox

open Cert.KernelIdeal Cert.KernelIdeal.Gen
open Idealize.ShloMosaic

variable {F : FTy → Type} [FloatOps F]

/-- The logits of a block of queries against a block of keys. -/
def lgt (q k : Vec F S512x128 .f32) (cq : Vec F S512x1 .f32) (ck : Vec F S1x1x512 .f32) : FVec F S512x512 .f32 :=
  addf (mulf (matmul dot_S512x128_S512x128_S512x512_1_1_0_0_n_n none (truncf .bf16 q bitsLt_bf16_f32) (truncf .bf16 k bitsLt_bf16_f32)
      (constant S512x512 .f32 0x00000000#32)) (broadcast S512x512 (Scalar.ofBits .f32 0x3DB504F3#32)))
    (subf (broadcastTo S512x512 cq broadcasts_S512x1_S512x512)
      (broadcastTo S512x512 (shapeCast S1x512 ck shapeCasts_S1x1x512_S1x512) broadcasts_S1x512_S512x512))

/-- The logits with the keys after each query masked. -/
def lgtD (q k : Vec F S512x128 .f32) (cq : Vec F S512x1 .f32) (ck : Vec F S1x1x512 .f32) : FVec F S512x512 .f32 :=
  select (cmpi .sge (iota .tc S512x512 32 [0] iota_S512x512_d0_w32) (iota .tc S512x512 32 [1] iota_S512x512_d1_w32))
    (lgt q k cq ck) (broadcast S512x512 (Scalar.ofBits .f32 0xFF800000#32))

/-- The new maximum. -/
def mx (lg : FVec F S512x512 .f32) (mp : Vec F S1x512x1 .f32) : FVec F S512x1 .f32 :=
  maximumf (shapeCast S512x1 mp shapeCasts_S1x512x1_S512x1 : FVec F S512x1 .f32)
    (shapeCast S512x1 (multiReduction .maximumf [1] S512 lg 0xFF800000#32 reduces_S512x512_S512 (.inl rfl) rfl) shapeCasts_S512_S512x1)

/-- The new maximum as it is stored. -/
def mst (lg : FVec F S512x512 .f32) (mp : Vec F S1x512x1 .f32) : FVec F S1x512x1 .f32 :=
  shapeCast S1x512x1 (mx lg mp) shapeCasts_S512x1_S1x512x1

/-- The factor that carries the sums over to the new maximum. -/
def al (lg : FVec F S512x512 .f32) (mp : Vec F S1x512x1 .f32) : FVec F S512x1 .f32 :=
  exp (subf (shapeCast S512x1 mp shapeCasts_S1x512x1_S512x1 : FVec F S512x1 .f32) (mx lg mp))

/-- The block's weights. -/
def pe (lg : FVec F S512x512 .f32) (mp : Vec F S1x512x1 .f32) : FVec F S512x512 .f32 :=
  exp (subf lg (broadcastTo S512x512 (mx lg mp) broadcasts_S512x1_S512x512))

/-- The new weight as it is stored. -/
def lst (lg : FVec F S512x512 .f32) (mp lp : Vec F S1x512x1 .f32) : FVec F S1x512x1 .f32 :=
  shapeCast S1x512x1 (addf (mulf (al lg mp) (shapeCast S512x1 lp shapeCasts_S1x512x1_S512x1 : FVec F S512x1 .f32))
    (shapeCast S512x1 (multiReduction .add [1] S512 (pe lg mp) 0x00000000#32 reduces_S512x512_S512 (.inl rfl) rfl) shapeCasts_S512_S512x1))
    shapeCasts_S512x1_S1x512x1

/-- The new weighted sum as it is stored. -/
def ast (lg : FVec F S512x512 .f32) (mp : Vec F S1x512x1 .f32) (ap v : Vec F S512x128 .f32) : FVec F S512x128 .f32 :=
  shapeCast S512x128 (addf (mulf (broadcastTo S512x128 (al lg mp) broadcasts_S512x1_S512x128) ap)
    (matmul dot_S512x512_S512x128_S512x128_1_0_0_1_n_n none (truncf .bf16 (pe lg mp) bitsLt_bf16_f32) (truncf .bf16 v bitsLt_bf16_f32)
      (constant S512x128 .f32 0x00000000#32))) shapeCasts_S512x128_S512x128

/-- The rows written: the weighted sum over the weight, times the gate. -/
def ost (a : Vec F S512x128 .f32) (l : Vec F S1x512x1 .f32) (g : Vec F S512x128 .f32) : FVec F S512x128 .f32 :=
  mulf (divf a (broadcastTo S512x128 (shapeCast S512x1 l shapeCasts_S1x512x1_S512x1 : FVec F S512x1 .f32) broadcasts_S512x1_S512x128))
    (mulf g (divf (broadcast S512x128 (Scalar.ofBits .f32 0x3F800000#32))
      (addf (broadcast S512x128 (Scalar.ofBits .f32 0x3F800000#32))
        (exp (subf (broadcast S512x128 (Scalar.ofBits .f32 0x00000000#32)) g)))))

/-! ## At an index -/

/-- The single-precision bits of minus infinity are the bottom. -/
theorem ninf : Ideal.ofBits .f32 0xFF800000#32 = ⊥ := by simp [Ideal.ofBits, Ideal.ieee]

/-- The scale both programs multiply the scores by. -/
def scale : EReal := Ideal.ofBits .f32 0x3DB504F3#32

/-- A logit of a block before the mask. -/
theorem lgt_apply (q k : Vec Ideal S512x128 .f32) (cq : Vec Ideal S512x1 .f32) (ck : Vec Ideal S1x1x512 .f32) (r j : Fin 512) :
    lgt q k cq ck (ix2 r j)
      = (∑ d : Fin 128, (q (ix2 r d) : EReal) * k (ix2 j d)) * scale + ((cq (ix2 r 0) : EReal) - ck (ix3 0 0 j)) := by
  pointwise [lgt, scale]

/-- The new maximum of a row. -/
theorem mx_apply (lg : FVec Ideal S512x512 .f32) (mp : Vec Ideal S1x512x1 .f32) (r : Fin 512) :
    mx lg mp (ix2 r 0) = max (mp (ix3 0 r 0) : EReal) (Finset.univ.sup fun j : Fin 512 => (lg (ix2 r j) : EReal)) := by
  pointwise [mx, ninf]
  rfl

/-- A logit of a diagonal block, masked above the diagonal. -/
theorem lgtD_apply (q k : Vec Ideal S512x128 .f32) (cq : Vec Ideal S512x1 .f32) (ck : Vec Ideal S1x1x512 .f32) (r j : Fin 512) :
    lgtD q k cq ck (ix2 r j) = if j.val ≤ r.val then lgt q k cq ck (ix2 r j) else (⊥ : EReal) := by
  unfold lgtD
  generalize lgt q k cq ck = g
  pointwise [ninf]
  have hr := r.isLt
  have hj := j.isLt
  rw [WordCmp.cmpi_sge_ofNat (by omega) (by omega), Scalar.select_decide]

/-- The maximum as it is stored. -/
theorem mst_apply (lg : FVec Ideal S512x512 .f32) (mp : Vec Ideal S1x512x1 .f32) (r : Fin 512) :
    mst lg mp (ix3 0 r 0) = mx lg mp (ix2 r 0) := by
  unfold mst
  generalize mx lg mp = g
  pointwise

/-- The factor that moves the old sums to the new maximum. -/
theorem al_apply (lg : FVec Ideal S512x512 .f32) (mp : Vec Ideal S1x512x1 .f32) (r : Fin 512) :
    al lg mp (ix2 r 0) = Ideal.exp ((mp (ix3 0 r 0) : EReal) - mx lg mp (ix2 r 0)) := by
  unfold al
  generalize mx lg mp = g
  pointwise

/-- A weight of a block. -/
theorem pe_apply (lg : FVec Ideal S512x512 .f32) (mp : Vec Ideal S1x512x1 .f32) (r j : Fin 512) :
    pe lg mp (ix2 r j) = Ideal.exp ((lg (ix2 r j) : EReal) - mx lg mp (ix2 r 0)) := by
  unfold pe
  generalize mx lg mp = g
  pointwise

/-- The new sum of weights. -/
theorem lst_apply (lg : FVec Ideal S512x512 .f32) (mp lp : Vec Ideal S1x512x1 .f32) (r : Fin 512) :
    lst lg mp lp (ix3 0 r 0) = (al lg mp (ix2 r 0) : EReal) * lp (ix3 0 r 0) + ∑ j : Fin 512, (pe lg mp (ix2 r j) : EReal) := by
  unfold lst
  generalize al lg mp = g
  generalize pe lg mp = g'
  pointwise

/-- The new weighted sum of values. -/
theorem ast_apply (lg : FVec Ideal S512x512 .f32) (mp : Vec Ideal S1x512x1 .f32) (ap v : Vec Ideal S512x128 .f32) (r : Fin 512) (d : Fin 128) :
    ast lg mp ap v (ix2 r d) = (al lg mp (ix2 r 0) : EReal) * ap (ix2 r d) + ∑ j : Fin 512, (pe lg mp (ix2 r j) : EReal) * v (ix2 j d) := by
  unfold ast
  generalize al lg mp = g
  generalize pe lg mp = g'
  pointwise

/-- The output: the quotient, times the gate. -/
theorem ost_apply (a : Vec Ideal S512x128 .f32) (l : Vec Ideal S1x512x1 .f32) (g : Vec Ideal S512x128 .f32) (r : Fin 512) (d : Fin 128) :
    ost a l g (ix2 r d) = Ideal.div (a (ix2 r d)) (l (ix3 0 r 0))
      * ((g (ix2 r d) : EReal) * Ideal.div 1 (1 + Ideal.exp (0 - (g (ix2 r d) : EReal)))) := by
  pointwise [ost]

end Cert.KernelIdeal.Fox

end
-- ==== Proof.Soft.lean ====
/-
  The running softmax on extended reals: the maximum, the weight and the weighted sum of the first `n` keys of a row,
  how a further block of keys changes them, and what their quotient is.
-/
module

public import Idealize.ShloMosaic.PureOps.Ideal
public import Idealize.ShloMosaic.PureOps.Ideal.Laws

@[expose] public section

noncomputable section

namespace Cert.Soft

open Idealize.ShloMosaic

/-- The largest of the first `n` logits. -/
def top (L : ℕ → EReal) (n : ℕ) : EReal := (Finset.range n).sup L

/-- The sum of the first `n` weights, taken against the largest of the first `n` logits. -/
def weight (L : ℕ → EReal) (n : ℕ) : EReal := ∑ s ∈ Finset.range n, Ideal.exp (L s - top L n)

/-- The weighted sum of the first `n` values. -/
def total (L V : ℕ → EReal) (n : ℕ) : EReal := ∑ s ∈ Finset.range n, Ideal.exp (L s - top L n) * V s

/-- The exponential is nowhere negative. -/
theorem exp_nonneg (x : EReal) : 0 ≤ Ideal.exp x := by
  induction x with
  | bot => simp
  | top => simp
  | coe r => rw [Ideal.exp_coe]; exact_mod_cast (Real.exp_pos r).le

/-- The exponential of a number below the top is below the top. -/
theorem exp_ne_top {x : EReal} (h : x ≠ ⊤) : Ideal.exp x ≠ ⊤ := by
  induction x with
  | bot => simp
  | top => exact absurd rfl h
  | coe r => rw [Ideal.exp_coe]; exact EReal.coe_ne_top _

/-- A difference is below the top if its first term is below the top and its second above the bottom. -/
theorem sub_ne_top {x y : EReal} (hx : x ≠ ⊤) (hy : y ≠ ⊥) : x - y ≠ ⊤ := by
  rw [sub_eq_add_neg]
  exact EReal.add_ne_top hx fun e => hy (EReal.neg_eq_top_iff.1 e)

/-- A finite nonnegative factor goes into a sum. -/
theorem mul_sum {ι : Type*} (s : Finset ι) (f : ι → EReal) {c : EReal} (h0 : 0 ≤ c) (ht : c ≠ ⊤) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- Moving a weight from one maximum to a later, finite one. -/
theorem shift {x M M' : EReal} (hx : x ≤ M) (hM : M ≤ M') (hb : M' ≠ ⊥) (ht : M' ≠ ⊤) :
    Ideal.exp (M - M') * Ideal.exp (x - M) = Ideal.exp (x - M') := by
  induction x with
  | bot => simp [sub_eq_add_neg]
  | top => exact absurd (top_le_iff.1 (hx.trans hM)) ht
  | coe r =>
    induction M with
    | bot => exact absurd (le_bot_iff.1 hx) (EReal.coe_ne_bot r)
    | top => exact absurd (top_le_iff.1 hM) ht
    | coe a =>
      induction M' with
      | bot => exact absurd rfl hb
      | top => exact absurd rfl ht
      | coe b =>
        rw [← EReal.coe_sub, ← EReal.coe_sub, ← EReal.coe_sub, Ideal.exp_coe, Ideal.exp_coe, Ideal.exp_coe,
          ← EReal.coe_mul, ← Real.exp_add]
        congr 2
        ring

/-- A logit among the first is at most their largest. -/
theorem le_top {L : ℕ → EReal} {n s : ℕ} (h : s < n) : L s ≤ top L n := Finset.le_sup (Finset.mem_range.2 h)

/-- The largest grows with the keys. -/
theorem top_mono (L : ℕ → EReal) {n k : ℕ} (h : n ≤ k) : top L n ≤ top L k :=
  Finset.sup_mono (Finset.range_mono h)

/-- The maximum of finitely many numbers below the top is below the top. -/
theorem top_ne_top {L : ℕ → EReal} (hL : ∀ s, L s ≠ ⊤) (n : ℕ) : top L n ≠ ⊤ := by
  have : top L n < ⊤ := (Finset.sup_lt_iff (by exact bot_lt_top)).2 fun s _ => lt_top_iff_ne_top.2 (hL s)
  exact this.ne

/-- The largest is above the bottom if some logit is. -/
theorem top_ne_bot {L : ℕ → EReal} {n s : ℕ} (h : s < n) (hs : L s ≠ ⊥) : top L n ≠ ⊥ :=
  fun e => hs (le_bot_iff.1 (e ▸ le_top h))

/-- The sum over the first `n + b` keys is the sum over the first `n` and over the `b` after them. -/
theorem sum_block (f : ℕ → EReal) (n b : ℕ) :
    ∑ s ∈ Finset.range (n + b), f s = ∑ s ∈ Finset.range n, f s + ∑ j : Fin b, f (n + j.val) := by
  rw [Finset.sum_range_add, Finset.sum_range (fun j => f (n + j))]

/-- The maximum over one more block of keys. -/
theorem top_block (L : ℕ → EReal) (n b : ℕ) :
    top L (n + b) = max (top L n) (Finset.univ.sup fun j : Fin b => L (n + j.val)) := by
  apply le_antisymm
  · refine Finset.sup_le fun s hs => ?_
    have hs := Finset.mem_range.1 hs
    by_cases h : s < n
    · exact (le_top h).trans (le_max_left _ _)
    · refine le_trans ?_ (le_max_right _ _)
      have := Finset.le_sup (f := fun j : Fin b => L (n + j.val)) (Finset.mem_univ ⟨s - n, by omega⟩)
      simpa [Nat.add_sub_cancel' (Nat.le_of_not_lt h)] using this
  · refine max_le (top_mono L (Nat.le_add_right n b)) (Finset.sup_le fun j _ => le_top ?_)
    have := j.isLt
    omega

/-- The weight over one more block of keys. -/
theorem weight_block {L : ℕ → EReal} (hL : ∀ s, L s ≠ ⊤) (n b : ℕ) (hb : top L (n + b) ≠ ⊥) :
    weight L (n + b) = Ideal.exp (top L n - top L (n + b)) * weight L n
      + ∑ j : Fin b, Ideal.exp (L (n + j.val) - top L (n + b)) := by
  have hle := top_mono L (Nat.le_add_right n b)
  have ht := top_ne_top hL (n + b)
  have htn := top_ne_top hL n
  unfold weight
  rw [sum_block, mul_sum _ _ (exp_nonneg _) (exp_ne_top (sub_ne_top htn hb))]
  congr 1
  exact Finset.sum_congr rfl fun s hs => (shift (le_top (Finset.mem_range.1 hs)) hle hb ht).symm

/-- The weighted sum over one more block of keys. -/
theorem total_block {L : ℕ → EReal} (V : ℕ → EReal) (hL : ∀ s, L s ≠ ⊤) (n b : ℕ) (hb : top L (n + b) ≠ ⊥) :
    total L V (n + b) = Ideal.exp (top L n - top L (n + b)) * total L V n
      + ∑ j : Fin b, Ideal.exp (L (n + j.val) - top L (n + b)) * V (n + j.val) := by
  have hle := top_mono L (Nat.le_add_right n b)
  have ht := top_ne_top hL (n + b)
  have htn := top_ne_top hL n
  unfold total
  rw [sum_block (fun s => Ideal.exp (L s - top L (n + b)) * V s),
    mul_sum _ _ (exp_nonneg _) (exp_ne_top (sub_ne_top htn hb))]
  congr 1
  exact Finset.sum_congr rfl fun s hs => by
    rw [← mul_assoc, shift (le_top (Finset.mem_range.1 hs)) hle hb ht]

/-- Before any key the maximum is the bottom and the sums are zero. -/
theorem top_zero (L : ℕ → EReal) : top L 0 = ⊥ := rfl
/-- No keys, no weight. -/
theorem weight_zero (L : ℕ → EReal) : weight L 0 = 0 := rfl
/-- No keys, no weighted sum. -/
theorem total_zero (L V : ℕ → EReal) : total L V 0 = 0 := rfl

/-- Keys that are all masked change the maximum not at all. -/
theorem top_masked {L : ℕ → EReal} {n k : ℕ} (h : n ≤ k) (hm : ∀ s, n ≤ s → L s = ⊥) : top L k = top L n := by
  apply le_antisymm
  · refine Finset.sup_le fun s _ => ?_
    by_cases hs : s < n
    · exact le_top hs
    · rw [hm s (Nat.le_of_not_lt hs)]; exact bot_le
  · exact top_mono L h

/-- Nor do they change the weight. -/
theorem weight_masked {L : ℕ → EReal} {n k : ℕ} (h : n ≤ k) (hm : ∀ s, n ≤ s → L s = ⊥) : weight L k = weight L n := by
  unfold weight
  rw [top_masked h hm]
  refine (Finset.sum_subset (Finset.range_mono h) fun s _ hs => ?_).symm
  rw [hm s (Nat.le_of_not_lt fun hlt => hs (Finset.mem_range.2 hlt))]
  simp [sub_eq_add_neg]

/-- Nor the weighted sum. -/
theorem total_masked {L : ℕ → EReal} (V : ℕ → EReal) {n k : ℕ} (h : n ≤ k) (hm : ∀ s, n ≤ s → L s = ⊥) :
    total L V k = total L V n := by
  unfold total
  rw [top_masked h hm]
  refine (Finset.sum_subset (Finset.range_mono h) fun s _ hs => ?_).symm
  rw [hm s (Nat.le_of_not_lt fun hlt => hs (Finset.mem_range.2 hlt))]
  simp [sub_eq_add_neg]

/-- A sum of finite nonnegative numbers is finite. -/
theorem sum_ne_top {ι : Type*} (s : Finset ι) (f : ι → EReal) (h0 : ∀ i, 0 ≤ f i) (ht : ∀ i ∈ s, f i ≠ ⊤) :
    ∑ i ∈ s, f i ≠ ⊤ := by
  classical
  induction s using Finset.induction_on with
  | empty => simp
  | insert a s ha ih =>
    rw [Finset.sum_insert ha]
    exact EReal.add_ne_top (ht a (Finset.mem_insert_self a s)) (ih fun i hi => ht i (Finset.mem_insert_of_mem hi))

/-- The weight is a positive real number if some logit is not the bottom. -/
theorem weight_real {L : ℕ → EReal} (hL : ∀ s, L s ≠ ⊤) {n s₀ : ℕ} (h : s₀ < n) (hs : L s₀ ≠ ⊥) :
    ∃ w : ℝ, 0 < w ∧ weight L n = (w : EReal) := by
  have hb := top_ne_bot h hs
  have ht := top_ne_top hL n
  obtain ⟨s₁, h₁, e₁⟩ := Finset.exists_mem_eq_sup (Finset.range n) ⟨s₀, Finset.mem_range.2 h⟩ L
  have one : Ideal.exp (L s₁ - top L n) = 1 := by
    have e : L s₁ = top L n := e₁.symm
    rw [e]
    obtain ⟨r, hr⟩ : ∃ r : ℝ, (r : EReal) = top L n := ⟨_, EReal.coe_toReal ht hb⟩
    rw [← hr, ← EReal.coe_sub, Ideal.exp_coe]
    simp
  have hpos : 1 ≤ weight L n := by
    rw [← one]
    exact Finset.single_le_sum (f := fun s => Ideal.exp (L s - top L n)) (fun i _ => exp_nonneg _) h₁
  have hfin : weight L n ≠ ⊤ :=
    sum_ne_top _ _ (fun i => exp_nonneg _) fun i _ => exp_ne_top (sub_ne_top (hL i) hb)
  have hnb : weight L n ≠ ⊥ := fun e => by rw [e] at hpos; exact absurd (le_bot_iff.1 hpos) (by exact_mod_cast EReal.coe_ne_bot 1)
  refine ⟨(weight L n).toReal, ?_, (EReal.coe_toReal hfin hnb).symm⟩
  have : (1 : EReal) ≤ ((weight L n).toReal : EReal) := by rw [EReal.coe_toReal hfin hnb]; exact hpos
  have h1 : (1 : ℝ) ≤ (weight L n).toReal := by exact_mod_cast this
  linarith

/-- Dividing the weighted sum by the weight is weighting by the divided weights. -/
theorem div_total {L : ℕ → EReal} (V : ℕ → EReal) (hL : ∀ s, L s ≠ ⊤) {n s₀ : ℕ} (h : s₀ < n) (hs : L s₀ ≠ ⊥) :
    Ideal.div (total L V n) (weight L n)
      = ∑ s ∈ Finset.range n, V s * Ideal.div (Ideal.exp (L s - top L n)) (weight L n) := by
  obtain ⟨w, hw, e⟩ := weight_real hL h hs
  rw [e, Ideal.div_coe hw.ne', mul_comm]
  unfold total
  have h0 : (0 : EReal) ≤ ((1 / w : ℝ) : EReal) := by exact_mod_cast (one_div_pos.2 hw).le
  rw [mul_sum _ _ h0 (EReal.coe_ne_top _)]
  refine Finset.sum_congr rfl fun s _ => ?_
  rw [Ideal.div_coe hw.ne', mul_comm (V s), mul_assoc, mul_comm _ (V s), ← mul_assoc, mul_comm _ (Ideal.exp _)]

end Cert.Soft

end
-- ==== Proof.Model.lean ====
/-
  The attention in the plain: logits, values and results as functions of positions.
-/
module

public import proofs.«01_k».proof.Proof.IHead
public import proofs.«01_k».proof.Proof.Soft

@[expose] public section

noncomputable section

namespace Cert.KernelIdeal.Fox

open Idealize.ShloMosaic

/-- An array's element at two positions, zero outside. -/
def at2 {n m : ℕ} (x : (⟨2, ![n, m]⟩ : Shape).Idx → EReal) (i j : ℕ) : EReal :=
  if h : i < n ∧ j < m then x (ix2 ⟨i, h.1⟩ ⟨j, h.2⟩) else 0

/-- Inside the array it is the array's element. -/
theorem at2_of_lt {n m : ℕ} (x : (⟨2, ![n, m]⟩ : Shape).Idx → EReal) (i j : ℕ) (hi : i < n) (hj : j < m) :
    at2 x i j = x (ix2 ⟨i, hi⟩ ⟨j, hj⟩) := dif_pos ⟨hi, hj⟩

variable (P C : ℕ → ℕ → EReal)

/-- The logit of query `t` and key `s` of head `h` of batch `b`, before the mask. -/
def logit (b h t s : ℕ) : EReal :=
  (∑ d : Fin 128, P (8192 * b + t) (2048 + (128 * h + d.val)) * P (8192 * b + s) (2560 + (128 * h + d.val))) * scale
    + (C (8192 * b + t) h - C (8192 * b + s) h)

/-- The logit, the keys after the query masked. -/
def masked (b h t s : ℕ) : EReal := if s ≤ t then logit P C b h t s else ⊥

/-- Lane `d` of the value at key `s`. -/
def value (b h d s : ℕ) : EReal := P (8192 * b + s) (3072 + (128 * h + d))

/-- Lane `d` of the gate at query `t`, times its logistic function. -/
def gate (b h d t : ℕ) : EReal :=
  P (8192 * b + t) (3584 + (128 * h + d)) * Ideal.div 1 (1 + Ideal.exp (0 - P (8192 * b + t) (3584 + (128 * h + d))))

/-- The result at query `t`, from the first `n` keys. -/
def result (n b h d t : ℕ) : EReal :=
  Ideal.div (Soft.total (masked P C b h t) (value P b h d) n) (Soft.weight (masked P C b h t) n) * gate P b h d t

/-- The result array's element at row `i`, lane `e`. -/
def res (i e : ℕ) : EReal := result P C 8192 (i / 8192) (e / 128) (e % 128) (i % 8192)

/-- What is known of the inputs: the queries, the keys and the cumulated log forget values are real numbers. -/
structure Real2 : Prop where
  q : ∀ i d, d < 512 → P i (2048 + d) ≠ ⊤ ∧ P i (2048 + d) ≠ ⊥
  k : ∀ i d, d < 512 → P i (2560 + d) ≠ ⊤ ∧ P i (2560 + d) ≠ ⊥
  c : ∀ i h, h < 4 → C i h ≠ ⊤ ∧ C i h ≠ ⊥

/-- A sum of reals is a real. -/
theorem sum_real {ι : Type*} (s : Finset ι) (f : ι → EReal) (hf : ∀ i ∈ s, f i ≠ ⊤ ∧ f i ≠ ⊥) :
    ∑ i ∈ s, f i ≠ ⊤ ∧ ∑ i ∈ s, f i ≠ ⊥ := by
  classical
  induction s using Finset.induction_on with
  | empty => simp
  | insert a s ha ih =>
    rw [Finset.sum_insert ha]
    have h1 := hf a (Finset.mem_insert_self a s)
    have h2 := ih fun i hi => hf i (Finset.mem_insert_of_mem hi)
    exact ⟨EReal.add_ne_top h1.1 h2.1, by simp [EReal.add_eq_bot_iff, h1.2, h2.2]⟩

/-- A product of reals is a real. -/
theorem mul_real {x y : EReal} (hx : x ≠ ⊤ ∧ x ≠ ⊥) (hy : y ≠ ⊤ ∧ y ≠ ⊥) : x * y ≠ ⊤ ∧ x * y ≠ ⊥ := by
  lift x to ℝ using hx
  lift y to ℝ using hy
  rw [← EReal.coe_mul]
  exact ⟨EReal.coe_ne_top _, EReal.coe_ne_bot _⟩

/-- The scale is a real number. -/
theorem scale_real : scale ≠ ⊤ ∧ scale ≠ ⊥ := by
  have e : scale = ((11863283 * (2 ^ 27)⁻¹ : ℝ) : EReal) := by simp [scale, Ideal.ofBits, Ideal.ieee]
  rw [e]
  exact ⟨EReal.coe_ne_top _, EReal.coe_ne_bot _⟩

variable {P C}

/-- The scaled product of a query and a key is a real number. -/
theorem dot_real (H : Real2 P C) (b h t s : ℕ) (hh : h < 4) :
    (∑ d : Fin 128, P (8192 * b + t) (2048 + (128 * h + d.val)) * P (8192 * b + s) (2560 + (128 * h + d.val))) * scale ≠ ⊤
      ∧ (∑ d : Fin 128, P (8192 * b + t) (2048 + (128 * h + d.val)) * P (8192 * b + s) (2560 + (128 * h + d.val))) * scale ≠ ⊥ :=
  mul_real (sum_real _ _ fun d _ => mul_real (H.q _ _ (by have := d.isLt; omega)) (H.k _ _ (by have := d.isLt; omega))) scale_real

/-- A logit is a real number. -/
theorem logit_real (H : Real2 P C) (b h t s : ℕ) (hh : h < 4) : logit P C b h t s ≠ ⊤ ∧ logit P C b h t s ≠ ⊥ := by
  have h0 := dot_real H b h t s hh
  have h1 := H.c (8192 * b + t) h hh
  have h2 := H.c (8192 * b + s) h hh
  unfold logit
  generalize (∑ d : Fin 128, P (8192 * b + t) (2048 + (128 * h + d.val)) * P (8192 * b + s) (2560 + (128 * h + d.val))) * scale = x at *
  generalize C (8192 * b + t) h = y at *
  generalize C (8192 * b + s) h = z at *
  lift x to ℝ using h0
  lift y to ℝ using h1
  lift z to ℝ using h2
  rw [← EReal.coe_sub, ← EReal.coe_add]
  exact ⟨EReal.coe_ne_top _, EReal.coe_ne_bot _⟩

/-- The sum in the other order: the query's cumulated gate added first. -/
theorem logit_eq (H : Real2 P C) (b h t s : ℕ) (hh : h < 4) :
    (∑ d : Fin 128, P (8192 * b + t) (2048 + (128 * h + d.val)) * P (8192 * b + s) (2560 + (128 * h + d.val))) * scale
      + C (8192 * b + t) h - C (8192 * b + s) h = logit P C b h t s := by
  have h0 := dot_real H b h t s hh
  have h1 := H.c (8192 * b + t) h hh
  have h2 := H.c (8192 * b + s) h hh
  unfold logit
  generalize (∑ d : Fin 128, P (8192 * b + t) (2048 + (128 * h + d.val)) * P (8192 * b + s) (2560 + (128 * h + d.val))) * scale = x at *
  generalize C (8192 * b + t) h = y at *
  generalize C (8192 * b + s) h = z at *
  lift x to ℝ using h0
  lift y to ℝ using h1
  lift z to ℝ using h2
  rw [← EReal.coe_sub, ← EReal.coe_add, ← EReal.coe_add, ← EReal.coe_sub]
  congr 1
  ring

/-- No masked logit is the top. -/
theorem masked_ne_top (H : Real2 P C) (b h t : ℕ) (hh : h < 4) (s : ℕ) : masked P C b h t s ≠ ⊤ := by
  unfold masked
  split
  · exact (logit_real H b h t s hh).1
  · exact bot_ne_top

/-- The first key is never masked. -/
theorem masked_zero (H : Real2 P C) (b h t : ℕ) (hh : h < 4) : masked P C b h t 0 ≠ ⊥ := by
  unfold masked
  rw [if_pos (Nat.zero_le t)]
  exact (logit_real H b h t 0 hh).2

/-- Past the query every key is masked. -/
theorem masked_after (b h t n : ℕ) (hn : t < n) (s : ℕ) (hs : n ≤ s) : masked P C b h t s = ⊥ := by
  unfold masked
  exact if_neg (by omega)

/-- Every key past the query may be left out. -/
theorem result_cut (b h d t n k : ℕ) (hn : t < n) (hk : n ≤ k) : result P C k b h d t = result P C n b h d t := by
  have hm := masked_after (P := P) (C := C) b h t n hn
  unfold result
  rw [Soft.total_masked _ hk hm, Soft.weight_masked hk hm]

end Cert.KernelIdeal.Fox

end
-- ==== Proof.IBlocks.lean ====
/-
  The blocks the body is given, as elements of the argument arrays.
-/
module

public import proofs.«01_k».proof.Proof.ILaunch
public import proofs.«01_k».proof.Proof.Model
public import Idealize.ShloMosaic.Lib.Pipeline.ValueKit
public import Idealize.ShloMosaic.Lib.Pointwise

@[expose] public section

set_option maxRecDepth 16384

noncomputable section

namespace Cert.KernelIdeal.Fox

open Cert.KernelIdeal Cert.KernelIdeal.Gen
open Idealize.ShloMosaic Idealize.ShloMosaic.Pipeline
open Idealize.ShloMosaic.TcCoe

variable (m : (ℓ : Loc nD τ sig) → Buf (Elt Ideal) ℓ)

/-- The first argument and the second, at positions. -/
def PP (c : Dev nD) : ℕ → ℕ → EReal := at2 (n := 16384) (m := 4096) (m ((c.tc : Thread nD τ).loc main_arg0))
/-- The second argument, at positions. -/
def CC (c : Dev nD) : ℕ → ℕ → EReal := at2 (n := 16384) (m := 128) (m ((c.tc : Thread nD τ).loc main_arg1))

/-- The batch's number is zero or one. -/
theorem bn_lt (t : Fin grid0.N) : bn t.val < 2 := by rw [← coords_fst]; exact (grid0.coords t 0).isLt

/-- Where each window's block lies at point `t`. -/
theorem index0 (t : Fin grid0.N) : ((cfgT (F := Ideal)).win 0).index t = ![bn t.val * 16 + qn (jn t.val), 4] := by
  rw [← coords_fst, ← coords_snd]; exact map0 (grid0.coords t)
/-- Where window 1's block lies at point `t`. -/
theorem index1 (t : Fin grid0.N) : ((cfgT (F := Ideal)).win 1).index t = ![bn t.val * 16 + kn (jn t.val), 5] := by
  rw [← coords_fst, ← coords_snd]; exact map1 (grid0.coords t)
/-- Where window 2's block lies at point `t`. -/
theorem index2 (t : Fin grid0.N) : ((cfgT (F := Ideal)).win 2).index t = ![bn t.val * 16 + kn (jn t.val), 6] := by
  rw [← coords_fst, ← coords_snd]; exact map2 (grid0.coords t)
/-- Where window 3's block lies at point `t`. -/
theorem index3 (t : Fin grid0.N) : ((cfgT (F := Ideal)).win 3).index t = ![bn t.val * 16 + qn (jn t.val), 7] := by
  rw [← coords_fst, ← coords_snd]; exact map3 (grid0.coords t)
/-- Where window 4's block lies at point `t`. -/
theorem index4 (t : Fin grid0.N) : ((cfgT (F := Ideal)).win 4).index t = ![bn t.val * 16 + qn (jn t.val), 0] := by
  rw [← coords_fst, ← coords_snd]; exact map4 (grid0.coords t)
/-- Where window 5's block lies at point `t`. -/
theorem index5 (t : Fin grid0.N) : ((cfgT (F := Ideal)).win 5).index t = ![bn t.val, 0, kn (jn t.val)] := by
  rw [← coords_fst, ← coords_snd]; exact map5 (grid0.coords t)
/-- Where window 6's block lies at point `t`. -/
theorem index6 (t : Fin grid0.N) : ((cfgT (F := Ideal)).win 6).index t = ![bn t.val * 16 + qn (jn t.val), 0] := by
  rw [← coords_fst, ← coords_snd]; exact map6 (grid0.coords t)

/-- The query rows of point `t`. -/
theorem blk0 (c : Dev nD) (t : Fin grid0.N) (r j : Fin 512) :
    blkOf (entry m) c 0 t (ix2 r j) = PP m c (8192 * bn t.val + (512 * qn (jn t.val) + r.val)) (2048 + j.val) := by
  have h0 := bn_lt t
  have h1 := qn_lt (jn t.val)
  have h2 := r.isLt
  have h3 := j.isLt
  unfold PP
  rw [at2_of_lt _ _ _ (by omega) (by omega)]
  show entry m c main_arg0 ((((cfgT (F := Ideal)).win 0).rect t).emb (ix2 r j)) = _
  rw [entry_arg0]
  refine congrArg (m ((c.tc : Thread nD τ).loc main_arg0)) (Shape.idx_ext₂ ?_ ?_)
  · rw [Window.rect_emb_val ((cfgT (F := Ideal)).win 0) t _ _ rfl, index0]
    show (bn t.val * 16 + qn (jn t.val)) * 512 + r.val = 8192 * bn t.val + (512 * qn (jn t.val) + r.val)
    omega
  · rw [Window.rect_emb_val ((cfgT (F := Ideal)).win 0) t _ _ rfl, index0]
    show 4 * 512 + j.val = 2048 + j.val
    omega

/-- The key rows of point `t`. -/
theorem blk1 (c : Dev nD) (t : Fin grid0.N) (r j : Fin 512) :
    blkOf (entry m) c 1 t (ix2 r j) = PP m c (8192 * bn t.val + (512 * kn (jn t.val) + r.val)) (2560 + j.val) := by
  have h0 := bn_lt t
  have h1 := qn_lt (jn t.val)
  have h4 := kn_le (jn t.val)
  have h2 := r.isLt
  have h3 := j.isLt
  unfold PP
  rw [at2_of_lt _ _ _ (by omega) (by omega)]
  show entry m c main_arg0 ((((cfgT (F := Ideal)).win 1).rect t).emb (ix2 r j)) = _
  rw [entry_arg0]
  refine congrArg (m ((c.tc : Thread nD τ).loc main_arg0)) (Shape.idx_ext₂ ?_ ?_)
  · rw [Window.rect_emb_val ((cfgT (F := Ideal)).win 1) t _ _ rfl, index1]
    show (bn t.val * 16 + kn (jn t.val)) * 512 + r.val = 8192 * bn t.val + (512 * kn (jn t.val) + r.val)
    omega
  · rw [Window.rect_emb_val ((cfgT (F := Ideal)).win 1) t _ _ rfl, index1]
    show 5 * 512 + j.val = 2560 + j.val
    omega

/-- The value rows of point `t`. -/
theorem blk2 (c : Dev nD) (t : Fin grid0.N) (r j : Fin 512) :
    blkOf (entry m) c 2 t (ix2 r j) = PP m c (8192 * bn t.val + (512 * kn (jn t.val) + r.val)) (3072 + j.val) := by
  have h0 := bn_lt t
  have h1 := qn_lt (jn t.val)
  have h4 := kn_le (jn t.val)
  have h2 := r.isLt
  have h3 := j.isLt
  unfold PP
  rw [at2_of_lt _ _ _ (by omega) (by omega)]
  show entry m c main_arg0 ((((cfgT (F := Ideal)).win 2).rect t).emb (ix2 r j)) = _
  rw [entry_arg0]
  refine congrArg (m ((c.tc : Thread nD τ).loc main_arg0)) (Shape.idx_ext₂ ?_ ?_)
  · rw [Window.rect_emb_val ((cfgT (F := Ideal)).win 2) t _ _ rfl, index2]
    show (bn t.val * 16 + kn (jn t.val)) * 512 + r.val = 8192 * bn t.val + (512 * kn (jn t.val) + r.val)
    omega
  · rw [Window.rect_emb_val ((cfgT (F := Ideal)).win 2) t _ _ rfl, index2]
    show 6 * 512 + j.val = 3072 + j.val
    omega

/-- The gate rows of point `t`. -/
theorem blk3 (c : Dev nD) (t : Fin grid0.N) (r j : Fin 512) :
    blkOf (entry m) c 3 t (ix2 r j) = PP m c (8192 * bn t.val + (512 * qn (jn t.val) + r.val)) (3584 + j.val) := by
  have h0 := bn_lt t
  have h1 := qn_lt (jn t.val)
  have h2 := r.isLt
  have h3 := j.isLt
  unfold PP
  rw [at2_of_lt _ _ _ (by omega) (by omega)]
  show entry m c main_arg0 ((((cfgT (F := Ideal)).win 3).rect t).emb (ix2 r j)) = _
  rw [entry_arg0]
  refine congrArg (m ((c.tc : Thread nD τ).loc main_arg0)) (Shape.idx_ext₂ ?_ ?_)
  · rw [Window.rect_emb_val ((cfgT (F := Ideal)).win 3) t _ _ rfl, index3]
    show (bn t.val * 16 + qn (jn t.val)) * 512 + r.val = 8192 * bn t.val + (512 * qn (jn t.val) + r.val)
    omega
  · rw [Window.rect_emb_val ((cfgT (F := Ideal)).win 3) t _ _ rfl, index3]
    show 7 * 512 + j.val = 3584 + j.val
    omega

/-- The queries' cumulated gates of point `t`. -/
theorem blk4 (c : Dev nD) (t : Fin grid0.N) (r : Fin 512) (j : Fin 128) :
    blkOf (entry m) c 4 t (ix2 r j) = CC m c (8192 * bn t.val + (512 * qn (jn t.val) + r.val)) j.val := by
  have h0 := bn_lt t
  have h1 := qn_lt (jn t.val)
  have h2 := r.isLt
  have h3 := j.isLt
  unfold CC
  rw [at2_of_lt _ _ _ (by omega) (by omega)]
  show entry m c main_arg1 ((((cfgT (F := Ideal)).win 4).rect t).emb (ix2 r j)) = _
  rw [entry_arg1]
  refine congrArg (m ((c.tc : Thread nD τ).loc main_arg1)) (Shape.idx_ext₂ ?_ ?_)
  · rw [Window.rect_emb_val ((cfgT (F := Ideal)).win 4) t _ _ rfl, index4]
    show (bn t.val * 16 + qn (jn t.val)) * 512 + r.val = 8192 * bn t.val + (512 * qn (jn t.val) + r.val)
    omega
  · rw [Window.rect_emb_val ((cfgT (F := Ideal)).win 4) t _ _ rfl, index4]
    show 0 * 128 + j.val = j.val
    omega

/-- The keys' cumulated gates, read at a head. -/
theorem ctOf_apply (x : (⟨S16384x128, .f32⟩ : BufTy).Contents (Elt Ideal)) (b : Fin 2) (h : Fin 8) (hh : h.val < 4) (s : Fin 8192) :
    ctOf x (ix3 b h s) = x (ix2 ⟨8192 * b.val + s.val, by have := b.isLt; have := s.isLt; omega⟩ ⟨h.val, by omega⟩) := by
  pointwise [ctOf]
  rw [dif_pos hh]
  refine congrArg x (Shape.idx_ext₂ ?_ rfl)
  show b.val * 8192 + s.val = 8192 * b.val + s.val
  omega

/-- The keys' cumulated gates of point `t`. -/
theorem blk5 (c : Dev nD) (t : Fin grid0.N) (h : Fin 8) (hh : h.val < 4) (j : Fin 512) :
    blkOf (entry m) c 5 t (ix3 0 h j) = CC m c (8192 * bn t.val + (512 * kn (jn t.val) + j.val)) h.val := by
  have h0 := bn_lt t
  have h1 := qn_lt (jn t.val)
  have h4 := kn_le (jn t.val)
  have h3 := j.isLt
  unfold CC
  rw [at2_of_lt _ _ _ (by omega) (by omega)]
  show entry m c main_v3 ((((cfgT (F := Ideal)).win 5).rect t).emb (ix3 0 h j)) = _
  rw [entry_ct]
  have e : (((cfgT (F := Ideal)).win 5).rect t).emb (ix3 0 h j) = ix3 (⟨bn t.val, h0⟩ : Fin 2) h (⟨512 * kn (jn t.val) + j.val, by omega⟩ : Fin 8192) := by
    funext a
    apply Fin.ext
    rw [Window.rect_emb_val ((cfgT (F := Ideal)).win 5) t _ _ rfl, index5]
    match a with
    | ⟨0, _⟩ => show bn t.val * 1 + 0 = bn t.val; omega
    | ⟨1, _⟩ => show 0 * 8 + h.val = h.val; omega
    | ⟨2, _⟩ => show kn (jn t.val) * 512 + j.val = 512 * kn (jn t.val) + j.val; omega
  rw [e, ctOf_apply _ _ _ hh]

end Cert.KernelIdeal.Fox

end
-- ==== Proof.IRead.lean ====
/-
  Reading the attention body's buffers at an index: a piece of a written list, a load, and one head's step from the
  buffers before it to the buffers after it.
-/
module

public import proofs.«01_k».proof.Proof.IHead
public import Idealize.ShloMosaic.Lib.Pipeline.Value

@[expose] public section

set_option maxRecDepth 16384

noncomputable section

namespace Cert.KernelIdeal.Fox

open Cert.KernelIdeal Cert.KernelIdeal.Gen
open Idealize.ShloMosaic Idealize.ShloMosaic.View

/-- Lane `d` of head `h` among the 512 lanes. -/
def col (h : Fin 4) (d : Fin 128) : Fin 512 := ⟨128 * h.val + d.val, by have := h.isLt; have := d.isLt; omega⟩

/-- A head's written rows read as written. -/
theorem canon3_hit (h : Fin 4) (n : ℕ) (hn : h.val = n) (inb : ∀ a, (![n, 0, 0] : Fin 3 → ℕ) a + S1x512x1.size a ≤ S4x512x1.size a)
    (w : (Rect.unit (s := S4x512x1) ![n, 0, 0] S1x512x1.size inb).shape.Idx → Elt Ideal .f32) (L : List (Piece (Elt Ideal) S4x512x1 .f32)) (r : Fin 512) :
    canon (⟨Rect.unit (s := S4x512x1) ![n, 0, 0] S1x512x1.size inb, w⟩ :: L) (ix3 h r 0) = w (ix3 0 r 0) := by
  have e : (ix3 h r 0 : S4x512x1.Idx) = (Rect.unit (s := S4x512x1) ![n, 0, 0] S1x512x1.size inb).emb (ix3 0 r 0) := by
    funext a
    apply Fin.ext
    fin_cases a <;> simp [Rect.emb, Rect.unit, hn]
  rw [e, canon_cons_emb]

/-- Another head's written rows are passed over. -/
theorem canon3_miss (h : Fin 4) (n : ℕ) (hn : h.val ≠ n) (inb : ∀ a, (![n, 0, 0] : Fin 3 → ℕ) a + S1x512x1.size a ≤ S4x512x1.size a)
    (w : (Rect.unit (s := S4x512x1) ![n, 0, 0] S1x512x1.size inb).shape.Idx → Elt Ideal .f32) (L : List (Piece (Elt Ideal) S4x512x1 .f32)) (r : Fin 512) :
    canon (⟨Rect.unit (s := S4x512x1) ![n, 0, 0] S1x512x1.size inb, w⟩ :: L) (ix3 h r 0) = canon L (ix3 h r 0) := by
  apply canon_cons_of_not_mem
  rw [Rect.mem_set_unit]
  intro hh
  have := hh 0
  simp at this
  omega

/-- The same of the accumulator, whose heads lie side by side. -/
theorem canon2_hit (h : Fin 4) (n : ℕ) (hn : 128 * h.val = n) (inb : ∀ a, (![0, n] : Fin 2 → ℕ) a + S512x128.size a ≤ S512x512.size a)
    (w : (Rect.unit (s := S512x512) ![0, n] S512x128.size inb).shape.Idx → Elt Ideal .f32) (L : List (Piece (Elt Ideal) S512x512 .f32)) (r : Fin 512) (d : Fin 128) :
    canon (⟨Rect.unit (s := S512x512) ![0, n] S512x128.size inb, w⟩ :: L) (ix2 r (col h d)) = w (ix2 r d) := by
  have e : (ix2 r (col h d) : S512x512.Idx) = (Rect.unit (s := S512x512) ![0, n] S512x128.size inb).emb (ix2 r d) := by
    funext a
    apply Fin.ext
    fin_cases a <;> simp [Rect.emb, Rect.unit, col, hn]
  rw [e, canon_cons_emb]

/-- A piece of lanes is not seen by a later store to other lanes. -/
theorem canon2_miss (h : Fin 4) (n : ℕ) (hn : 128 * h.val + 128 ≤ n ∨ n + 128 ≤ 128 * h.val) (inb : ∀ a, (![0, n] : Fin 2 → ℕ) a + S512x128.size a ≤ S512x512.size a)
    (w : (Rect.unit (s := S512x512) ![0, n] S512x128.size inb).shape.Idx → Elt Ideal .f32) (L : List (Piece (Elt Ideal) S512x512 .f32)) (r : Fin 512) (d : Fin 128) :
    canon (⟨Rect.unit (s := S512x512) ![0, n] S512x128.size inb, w⟩ :: L) (ix2 r (col h d)) = canon L (ix2 r (col h d)) := by
  apply canon_cons_of_not_mem
  rw [Rect.mem_set_unit]
  intro hh
  have h1 : n ≤ 128 * h.val + d.val ∧ 128 * h.val + d.val < n + 128 := hh 1
  have := d.isLt
  omega

/-- A load of one head's rows. -/
theorem load3 {sp : Space} (v : View sig .tc sp S4x512x1 .f32) (f) (h : Fin 4) (n : ℕ) (hn : h.val = n) (inb : ∀ a, (![n, 0, 0] : Fin 3 → ℕ) a + S1x512x1.size a ≤ S4x512x1.size a) (r : Fin 512) :
    View.readAt (Elt Ideal) v (Rect.unit (s := S4x512x1) ![n, 0, 0] S1x512x1.size inb).toLoadRect f (ix3 0 r 0) = v.read (Elt Ideal) f (ix3 h r 0) := by
  show v.read (Elt Ideal) f _ = _
  congr 1
  funext a
  apply Fin.ext
  fin_cases a <;> simp [Rect.emb, Rect.unit, Rect.toLoadRect, LoadRect.idx, hn]

/-- A load of one head's lanes. -/
theorem load2 {sp : Space} (v : View sig .tc sp S512x512 .f32) (f) (h : Fin 4) (n : ℕ) (hn : 128 * h.val = n) (inb : ∀ a, (![0, n] : Fin 2 → ℕ) a + S512x128.size a ≤ S512x512.size a) (r : Fin 512) (d : Fin 128) :
    View.readAt (Elt Ideal) v (Rect.unit (s := S512x512) ![0, n] S512x128.size inb).toLoadRect f (ix2 r d) = v.read (Elt Ideal) f (ix2 r (col h d)) := by
  show v.read (Elt Ideal) f _ = _
  congr 1
  funext a
  apply Fin.ext
  fin_cases a <;> simp [Rect.emb, Rect.unit, Rect.toLoadRect, LoadRect.idx, col, hn]

/-- A load of one head's cumulated log forget column. -/
theorem loadC {sp : Space} (v : View sig .tc sp S512x128 .f32) (f) (h : Fin 128) (n : ℕ) (hn : h.val = n) (inb : ∀ a, (![0, n] : Fin 2 → ℕ) a + S512x1.size a ≤ S512x128.size a) (r : Fin 512) :
    View.readAt (Elt Ideal) v (Rect.unit (s := S512x128) ![0, n] S512x1.size inb).toLoadRect f (ix2 r 0) = v.read (Elt Ideal) f (ix2 r h) := by
  show v.read (Elt Ideal) f _ = _
  congr 1
  funext a
  apply Fin.ext
  fin_cases a <;> simp [Rect.emb, Rect.unit, Rect.toLoadRect, LoadRect.idx, hn]

/-- A load of one head's row of the transposed cumulated log forgets. -/
theorem loadT {sp : Space} (v : View sig .tc sp S1x8x512 .f32) (f) (h : Fin 8) (n : ℕ) (hn : h.val = n) (inb : ∀ a, (![0, n, 0] : Fin 3 → ℕ) a + S1x1x512.size a ≤ S1x8x512.size a) (j : Fin 512) :
    View.readAt (Elt Ideal) v (Rect.unit (s := S1x8x512) ![0, n, 0] S1x1x512.size inb).toLoadRect f (ix3 0 0 j) = v.read (Elt Ideal) f (ix3 0 h j) := by
  show v.read (Elt Ideal) f _ = _
  congr 1
  funext a
  apply Fin.ext
  fin_cases a <;> simp [Rect.emb, Rect.unit, Rect.toLoadRect, LoadRect.idx, hn]

/-- A load of one head's rows from a written list. -/
theorem cov3 {sp : Space} (v : View sig .tc sp S4x512x1 .f32) (L : List (Piece (Elt Ideal) S4x512x1 .f32)) (h : Fin 4) (n : ℕ) (hn : h.val = n) (inb : ∀ a, (![n, 0, 0] : Fin 3 → ℕ) a + S1x512x1.size a ≤ S4x512x1.size a) (r : Fin 512) :
    v.readCov L (Rect.unit (s := S4x512x1) ![n, 0, 0] S1x512x1.size inb).toLoadRect (ix3 0 r 0) = canon L (ix3 h r 0) := by
  rw [readCov_eq_canon']
  show canon L _ = _
  congr 1
  funext a
  apply Fin.ext
  fin_cases a <;> simp [Rect.emb, Rect.unit, Rect.toLoadRect, LoadRect.idx, hn]

/-- A load of one head's lanes from a written list. -/
theorem cov2 {sp : Space} (v : View sig .tc sp S512x512 .f32) (L : List (Piece (Elt Ideal) S512x512 .f32)) (h : Fin 4) (n : ℕ) (hn : 128 * h.val = n) (inb : ∀ a, (![0, n] : Fin 2 → ℕ) a + S512x128.size a ≤ S512x512.size a) (r : Fin 512) (d : Fin 128) :
    v.readCov L (Rect.unit (s := S512x512) ![0, n] S512x128.size inb).toLoadRect (ix2 r d) = canon L (ix2 r (col h d)) := by
  rw [readCov_eq_canon']
  show canon L _ = _
  congr 1
  funext a
  apply Fin.ext
  fin_cases a <;> simp [Rect.emb, Rect.unit, Rect.toLoadRect, LoadRect.idx, col, hn]

/-- The buffers' first filling, read back. -/
theorem fill3 (w : S4x512x1.Idx → Elt Ideal .f32) (inb : ∀ a, (![0, 0, 0] : Fin 3 → ℕ) a + S4x512x1.size a ≤ S4x512x1.size a) :
    canon [(⟨Rect.unit (s := S4x512x1) ![0, 0, 0] S4x512x1.size inb, w⟩ : Piece (Elt Ideal) S4x512x1 .f32)] = w :=
  canon_unit_zero (by funext a; fin_cases a <;> rfl) inb w

/-- A store of a whole block leaves the block. -/
theorem fill2 (w : S512x512.Idx → Elt Ideal .f32) (inb : ∀ a, (![0, 0] : Fin 2 → ℕ) a + S512x512.size a ≤ S512x512.size a) :
    canon [(⟨Rect.unit (s := S512x512) ![0, 0] S512x512.size inb, w⟩ : Piece (Elt Ideal) S512x512 .f32)] = w :=
  canon_unit_zero (by funext a; fin_cases a <;> rfl) inb w

/-- The scratch maxima start at minus infinity. -/
theorem pay1_apply (i : S4x512x1.Idx) : k0_pay1 (F := Ideal) i = (⊥ : EReal) := by pointwise [k0_pay1, ninf]
/-- The scratch sums start at zero. -/
theorem pay2_apply (i : S4x512x1.Idx) : k0_pay2 (F := Ideal) i = (0 : EReal) := by pointwise [k0_pay2]
/-- The scratch weighted sums start at zero. -/
theorem pay3_apply (i : S512x512.Idx) : k0_pay3 (F := Ideal) i = (0 : EReal) := by pointwise [k0_pay3]

/-- One row of one head, from the buffers `m l a` to `m' l' a'`, over logits `lg` and values `v`. -/
def UpdAt (lg : Fin 512 → EReal) (v : S512x512.Idx → EReal) (m l : S4x512x1.Idx → EReal) (a : S512x512.Idx → EReal)
    (m' l' : S4x512x1.Idx → EReal) (a' : S512x512.Idx → EReal) (h : Fin 4) (r : Fin 512) : Prop :=
  m' (ix3 h r 0) = max (m (ix3 h r 0)) (Finset.univ.sup lg)
    ∧ l' (ix3 h r 0) = Ideal.exp (m (ix3 h r 0) - m' (ix3 h r 0)) * l (ix3 h r 0) + ∑ j, Ideal.exp (lg j - m' (ix3 h r 0))
    ∧ ∀ d : Fin 128, a' (ix2 r (col h d)) = Ideal.exp (m (ix3 h r 0) - m' (ix3 h r 0)) * a (ix2 r (col h d))
        + ∑ j, Ideal.exp (lg j - m' (ix3 h r 0)) * v (ix2 j (col h d))

/-- One head's stores make that step. -/
theorem upd_of_head (lg : FVec Ideal S512x512 .f32) (mp lp : Vec Ideal S1x512x1 .f32) (ap vh : Vec Ideal S512x128 .f32)
    (LG : Fin 512 → EReal) (v : S512x512.Idx → EReal) (m l : S4x512x1.Idx → EReal) (a : S512x512.Idx → EReal)
    (m' l' : S4x512x1.Idx → EReal) (a' : S512x512.Idx → EReal) (h : Fin 4) (r : Fin 512)
    (hlg : ∀ j, lg (ix2 r j) = LG j) (hmp : mp (ix3 0 r 0) = m (ix3 h r 0)) (hlp : lp (ix3 0 r 0) = l (ix3 h r 0))
    (hap : ∀ d, ap (ix2 r d) = a (ix2 r (col h d))) (hv : ∀ j d, vh (ix2 j d) = v (ix2 j (col h d)))
    (hm' : m' (ix3 h r 0) = mst lg mp (ix3 0 r 0)) (hl' : l' (ix3 h r 0) = lst lg mp lp (ix3 0 r 0))
    (ha' : ∀ d, a' (ix2 r (col h d)) = ast lg mp ap vh (ix2 r d)) : UpdAt LG v m l a m' l' a' h r := by
  have hlg' : LG = fun j => lg (ix2 r j) := funext fun j => (hlg j).symm
  have e := (hm'.trans (mst_apply lg mp r)).symm
  unfold UpdAt
  rw [hlg']
  refine ⟨?_, ?_, fun d => ?_⟩
  · rw [hm', mst_apply, mx_apply, hmp]
  · rw [hl', lst_apply, al_apply, hmp, hlp, e]
    congr 1
    exact Finset.sum_congr rfl fun j _ => by rw [pe_apply, e]
  · rw [ha', ast_apply, al_apply, hmp, hap, e]
    congr 1
    exact Finset.sum_congr rfl fun j _ => by rw [pe_apply, e, hv]

/-- Lane `d` of head `h` of the row written: the weighted sum over the weight, times the gate. -/
def outAt (g : S512x512.Idx → EReal) (l : S4x512x1.Idx → EReal) (a : S512x512.Idx → EReal) (h : Fin 4) (r : Fin 512) (d : Fin 128) : EReal :=
  Ideal.div (a (ix2 r (col h d))) (l (ix3 h r 0))
    * (g (ix2 r (col h d)) * Ideal.div 1 (1 + Ideal.exp (0 - g (ix2 r (col h d)))))

/-- The logits of row `r` of head `h` over the five blocks. -/
def LG (q k : S512x512.Idx → EReal) (cc : S512x128.Idx → EReal) (ct : S1x8x512.Idx → EReal) (h : Fin 4) (r j : Fin 512) : EReal :=
  (∑ d : Fin 128, q (ix2 r (col h d)) * k (ix2 j (col h d))) * scale
    + (cc (ix2 r ⟨h.val, by have := h.isLt; omega⟩) - ct (ix3 0 ⟨h.val, by have := h.isLt; omega⟩ j))

/-- The same with the keys after each query masked. -/
def LGD (q k : S512x512.Idx → EReal) (cc : S512x128.Idx → EReal) (ct : S1x8x512.Idx → EReal) (h : Fin 4) (r j : Fin 512) : EReal :=
  if j.val ≤ r.val then LG q k cc ct h r j else ⊥

/-- A head's logits from the four blocks. -/
theorem lgt_LG (q k : S512x512.Idx → EReal) (cc : S512x128.Idx → EReal) (ct : S1x8x512.Idx → EReal) (h : Fin 4) (r j : Fin 512)
    (qh kh : Vec Ideal S512x128 .f32) (ch : Vec Ideal S512x1 .f32) (th : Vec Ideal S1x1x512 .f32)
    (hq : ∀ r d, qh (ix2 r d) = q (ix2 r (col h d))) (hk : ∀ r d, kh (ix2 r d) = k (ix2 r (col h d)))
    (hc : ∀ r, ch (ix2 r 0) = cc (ix2 r ⟨h.val, by have := h.isLt; omega⟩))
    (ht : ∀ j, th (ix3 0 0 j) = ct (ix3 0 ⟨h.val, by have := h.isLt; omega⟩ j)) :
    lgt qh kh ch th (ix2 r j) = LG q k cc ct h r j := by
  rw [lgt_apply, hc, ht]
  unfold LG
  congr 2
  exact Finset.sum_congr rfl fun d _ => by rw [hq, hk]

/-- A head's masked logits from the four blocks. -/
theorem lgtD_LGD (q k : S512x512.Idx → EReal) (cc : S512x128.Idx → EReal) (ct : S1x8x512.Idx → EReal) (h : Fin 4) (r j : Fin 512)
    (qh kh : Vec Ideal S512x128 .f32) (ch : Vec Ideal S512x1 .f32) (th : Vec Ideal S1x1x512 .f32)
    (hq : ∀ r d, qh (ix2 r d) = q (ix2 r (col h d))) (hk : ∀ r d, kh (ix2 r d) = k (ix2 r (col h d)))
    (hc : ∀ r, ch (ix2 r 0) = cc (ix2 r ⟨h.val, by have := h.isLt; omega⟩))
    (ht : ∀ j, th (ix3 0 0 j) = ct (ix3 0 ⟨h.val, by have := h.isLt; omega⟩ j)) :
    lgtD qh kh ch th (ix2 r j) = LGD q k cc ct h r j := by
  rw [lgtD_apply, lgt_LG q k cc ct h r j qh kh ch th hq hk hc ht]
  rfl

end Cert.KernelIdeal.Fox

end
-- ==== Proof.IStepVal.lean ====
/-
  The attention body's stores at a point that takes a block of keys before the diagonal, not the first, head by head, in the values loaded.
-/
module

public import proofs.«01_k».proof.Proof.IRead
public import proofs.«01_k».proof.Proof.IStep

@[expose] public section

set_option maxRecDepth 16384

noncomputable section

namespace Cert.KernelIdeal.Fox

open Cert.KernelIdeal Cert.KernelIdeal.Gen
open Idealize.ShloMosaic Idealize.ShloMosaic.View
open Idealize.ShloMosaic.TcCoe

/-- Head 0: its stores to the running buffers. -/
theorem step_upd0 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (f9 : Bf (F := Ideal) c M9) (f10 : Bf (F := Ideal) c M10) (f11 : Bf (F := Ideal) c M11)
    (hs : ¬(Scalar.cmpi .ne (Scalar.extui (Scalar.cmpi .eq (word c i M1 f1) 0#32)) 0#32 = 1#1))
    (hl : (Scalar.cmpi .ne (Scalar.extui (Scalar.cmpi .slt (word c i M1 f1) (word c i M0 f0))) 0#32 = 1#1))
    (hd : ¬(k0_cond3 (word c i M0 f0) (word c i M1 f1) = 1#1)) (r : Fin 512) :
    UpdAt (LG (M2.view.read (Elt Ideal) f2) (M3.view.read (Elt Ideal) f3) (M6.view.read (Elt Ideal) f6) (M7.view.read (Elt Ideal) f7) 0 r) (M4.view.read (Elt Ideal) f4) (M9.view.read (Elt Ideal) f9) (M10.view.read (Elt Ideal) f10) (M11.view.read (Elt Ideal) f11)
      (canon (stepRun.sl.H9_4 (F := Ideal) c M2 M3 M6 M7 M9 f2 f3 f6 f7 f9)) (canon (stepRun.sl.H10_4 (F := Ideal) c M2 M3 M6 M7 M9 M10 f2 f3 f6 f7 f9 f10)) (canon (stepRun.sl.H11_4 (F := Ideal) c M2 M3 M4 M6 M7 M9 M11 f2 f3 f4 f6 f7 f9 f11)) 0 r :=
  upd_of_head (lgt (View.readAt (Elt Ideal) M2.view (Rect.unit (s := S512x512) ![0, 0] S512x128.size inb_S512x512_S512x128_0_0).toLoadRect f2) (View.readAt (Elt Ideal) M3.view (Rect.unit (s := S512x512) ![0, 0] S512x128.size inb_S512x512_S512x128_0_0).toLoadRect f3) (View.readAt (Elt Ideal) M6.view (Rect.unit (s := S512x128) ![0, 0] S512x1.size inb_S512x128_S512x1_0_0).toLoadRect f6) (View.readAt (Elt Ideal) M7.view (Rect.unit (s := S1x8x512) ![0, 0, 0] S1x1x512.size inb_S1x8x512_S1x1x512_0_0_0).toLoadRect f7))
    (View.readAt (Elt Ideal) M9.view (Rect.unit (s := S4x512x1) ![0, 0, 0] S1x512x1.size inb_S4x512x1_S1x512x1_0_0_0).toLoadRect f9) (View.readAt (Elt Ideal) M10.view (Rect.unit (s := S4x512x1) ![0, 0, 0] S1x512x1.size inb_S4x512x1_S1x512x1_0_0_0).toLoadRect f10)
    (View.readAt (Elt Ideal) M11.view (Rect.unit (s := S512x512) ![0, 0] S512x128.size inb_S512x512_S512x128_0_0).toLoadRect f11) (View.readAt (Elt Ideal) M4.view (Rect.unit (s := S512x512) ![0, 0] S512x128.size inb_S512x512_S512x128_0_0).toLoadRect f4) _ _ _ _ _ _ _ _ 0 r
    (fun j => lgt_LG _ _ _ _ 0 r j _ _ _ _ (fun r d => load2 M2.view f2 0 0 rfl _ r d) (fun r d => load2 M3.view f3 0 0 rfl _ r d)
      (fun r => loadC M6.view f6 _ 0 rfl _ r) (fun j => loadT M7.view f7 _ 0 rfl _ j))
    (load3 M9.view f9 0 0 rfl _ r)
    (load3 M10.view f10 0 0 rfl _ r)
    (fun d => load2 M11.view f11 0 0 rfl _ r d)
    (fun j d => load2 M4.view f4 0 0 rfl _ j d)
    (by unfold stepRun.sl.H9_4 stepRun.sl.H9_2 stepRun.sl.H9_1; rw [canon3_miss 0 3 (by decide), canon3_miss 0 2 (by decide), canon3_miss 0 1 (by decide), canon3_hit 0 0 rfl]; rfl)
    (by unfold stepRun.sl.H10_4 stepRun.sl.H10_3 stepRun.sl.H10_2 stepRun.sl.H10_1; rw [canon3_miss 0 3 (by decide), canon3_miss 0 2 (by decide), canon3_miss 0 1 (by decide), canon3_hit 0 0 rfl]; rfl)
    (fun d => by unfold stepRun.sl.H11_4 stepRun.sl.H11_3 stepRun.sl.H11_2 stepRun.sl.H11_1; rw [canon2_miss 0 384 (by decide), canon2_miss 0 256 (by decide), canon2_miss 0 128 (by decide), canon2_hit 0 0 rfl]; rfl)

/-- Head 1: its stores to the running buffers. -/
theorem step_upd1 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (f9 : Bf (F := Ideal) c M9) (f10 : Bf (F := Ideal) c M10) (f11 : Bf (F := Ideal) c M11)
    (hs : ¬(Scalar.cmpi .ne (Scalar.extui (Scalar.cmpi .eq (word c i M1 f1) 0#32)) 0#32 = 1#1))
    (hl : (Scalar.cmpi .ne (Scalar.extui (Scalar.cmpi .slt (word c i M1 f1) (word c i M0 f0))) 0#32 = 1#1))
    (hd : ¬(k0_cond3 (word c i M0 f0) (word c i M1 f1) = 1#1)) (r : Fin 512) :
    UpdAt (LG (M2.view.read (Elt Ideal) f2) (M3.view.read (Elt Ideal) f3) (M6.view.read (Elt Ideal) f6) (M7.view.read (Elt Ideal) f7) 1 r) (M4.view.read (Elt Ideal) f4) (M9.view.read (Elt Ideal) f9) (M10.view.read (Elt Ideal) f10) (M11.view.read (Elt Ideal) f11)
      (canon (stepRun.sl.H9_4 (F := Ideal) c M2 M3 M6 M7 M9 f2 f3 f6 f7 f9)) (canon (stepRun.sl.H10_4 (F := Ideal) c M2 M3 M6 M7 M9 M10 f2 f3 f6 f7 f9 f10)) (canon (stepRun.sl.H11_4 (F := Ideal) c M2 M3 M4 M6 M7 M9 M11 f2 f3 f4 f6 f7 f9 f11)) 1 r :=
  upd_of_head (lgt (View.readAt (Elt Ideal) M2.view (Rect.unit (s := S512x512) ![0, 128] S512x128.size inb_S512x512_S512x128_0_128).toLoadRect f2) (View.readAt (Elt Ideal) M3.view (Rect.unit (s := S512x512) ![0, 128] S512x128.size inb_S512x512_S512x128_0_128).toLoadRect f3) (View.readAt (Elt Ideal) M6.view (Rect.unit (s := S512x128) ![0, 1] S512x1.size inb_S512x128_S512x1_0_1).toLoadRect f6) (View.readAt (Elt Ideal) M7.view (Rect.unit (s := S1x8x512) ![0, 1, 0] S1x1x512.size inb_S1x8x512_S1x1x512_0_1_0).toLoadRect f7))
    (View.readAt (Elt Ideal) M9.view (Rect.unit (s := S4x512x1) ![1, 0, 0] S1x512x1.size inb_S4x512x1_S1x512x1_1_0_0).toLoadRect f9) (View.readAt (Elt Ideal) M10.view (Rect.unit (s := S4x512x1) ![1, 0, 0] S1x512x1.size inb_S4x512x1_S1x512x1_1_0_0).toLoadRect f10)
    (View.readAt (Elt Ideal) M11.view (Rect.unit (s := S512x512) ![0, 128] S512x128.size inb_S512x512_S512x128_0_128).toLoadRect f11) (View.readAt (Elt Ideal) M4.view (Rect.unit (s := S512x512) ![0, 128] S512x128.size inb_S512x512_S512x128_0_128).toLoadRect f4) _ _ _ _ _ _ _ _ 1 r
    (fun j => lgt_LG _ _ _ _ 1 r j _ _ _ _ (fun r d => load2 M2.view f2 1 128 rfl _ r d) (fun r d => load2 M3.view f3 1 128 rfl _ r d)
      (fun r => loadC M6.view f6 _ 1 rfl _ r) (fun j => loadT M7.view f7 _ 1 rfl _ j))
    (load3 M9.view f9 1 1 rfl _ r)
    (load3 M10.view f10 1 1 rfl _ r)
    (fun d => load2 M11.view f11 1 128 rfl _ r d)
    (fun j d => load2 M4.view f4 1 128 rfl _ j d)
    (by unfold stepRun.sl.H9_4 stepRun.sl.H9_2 stepRun.sl.H9_1; rw [canon3_miss 1 3 (by decide), canon3_miss 1 2 (by decide), canon3_hit 1 1 rfl]; rfl)
    (by unfold stepRun.sl.H10_4 stepRun.sl.H10_3 stepRun.sl.H10_2 stepRun.sl.H10_1; rw [canon3_miss 1 3 (by decide), canon3_miss 1 2 (by decide), canon3_hit 1 1 rfl]; rfl)
    (fun d => by unfold stepRun.sl.H11_4 stepRun.sl.H11_3 stepRun.sl.H11_2 stepRun.sl.H11_1; rw [canon2_miss 1 384 (by decide), canon2_miss 1 256 (by decide), canon2_hit 1 128 rfl]; rfl)

/-- Head 2: its stores to the running buffers. -/
theorem step_upd2 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (f9 : Bf (F := Ideal) c M9) (f10 : Bf (F := Ideal) c M10) (f11 : Bf (F := Ideal) c M11)
    (hs : ¬(Scalar.cmpi .ne (Scalar.extui (Scalar.cmpi .eq (word c i M1 f1) 0#32)) 0#32 = 1#1))
    (hl : (Scalar.cmpi .ne (Scalar.extui (Scalar.cmpi .slt (word c i M1 f1) (word c i M0 f0))) 0#32 = 1#1))
    (hd : ¬(k0_cond3 (word c i M0 f0) (word c i M1 f1) = 1#1)) (r : Fin 512) :
    UpdAt (LG (M2.view.read (Elt Ideal) f2) (M3.view.read (Elt Ideal) f3) (M6.view.read (Elt Ideal) f6) (M7.view.read (Elt Ideal) f7) 2 r) (M4.view.read (Elt Ideal) f4) (M9.view.read (Elt Ideal) f9) (M10.view.read (Elt Ideal) f10) (M11.view.read (Elt Ideal) f11)
      (canon (stepRun.sl.H9_4 (F := Ideal) c M2 M3 M6 M7 M9 f2 f3 f6 f7 f9)) (canon (stepRun.sl.H10_4 (F := Ideal) c M2 M3 M6 M7 M9 M10 f2 f3 f6 f7 f9 f10)) (canon (stepRun.sl.H11_4 (F := Ideal) c M2 M3 M4 M6 M7 M9 M11 f2 f3 f4 f6 f7 f9 f11)) 2 r :=
  upd_of_head (lgt (View.readAt (Elt Ideal) M2.view (Rect.unit (s := S512x512) ![0, 256] S512x128.size inb_S512x512_S512x128_0_256).toLoadRect f2) (View.readAt (Elt Ideal) M3.view (Rect.unit (s := S512x512) ![0, 256] S512x128.size inb_S512x512_S512x128_0_256).toLoadRect f3) (View.readAt (Elt Ideal) M6.view (Rect.unit (s := S512x128) ![0, 2] S512x1.size inb_S512x128_S512x1_0_2).toLoadRect f6) (View.readAt (Elt Ideal) M7.view (Rect.unit (s := S1x8x512) ![0, 2, 0] S1x1x512.size inb_S1x8x512_S1x1x512_0_2_0).toLoadRect f7))
    (View.readAt (Elt Ideal) M9.view (Rect.unit (s := S4x512x1) ![2, 0, 0] S1x512x1.size inb_S4x512x1_S1x512x1_2_0_0).toLoadRect f9) (View.readAt (Elt Ideal) M10.view (Rect.unit (s := S4x512x1) ![2, 0, 0] S1x512x1.size inb_S4x512x1_S1x512x1_2_0_0).toLoadRect f10)
    (View.readAt (Elt Ideal) M11.view (Rect.unit (s := S512x512) ![0, 256] S512x128.size inb_S512x512_S512x128_0_256).toLoadRect f11) (View.readAt (Elt Ideal) M4.view (Rect.unit (s := S512x512) ![0, 256] S512x128.size inb_S512x512_S512x128_0_256).toLoadRect f4) _ _ _ _ _ _ _ _ 2 r
    (fun j => lgt_LG _ _ _ _ 2 r j _ _ _ _ (fun r d => load2 M2.view f2 2 256 rfl _ r d) (fun r d => load2 M3.view f3 2 256 rfl _ r d)
      (fun r => loadC M6.view f6 _ 2 rfl _ r) (fun j => loadT M7.view f7 _ 2 rfl _ j))
    (load3 M9.view f9 2 2 rfl _ r)
    (load3 M10.view f10 2 2 rfl _ r)
    (fun d => load2 M11.view f11 2 256 rfl _ r d)
    (fun j d => load2 M4.view f4 2 256 rfl _ j d)
    (by unfold stepRun.sl.H9_4 stepRun.sl.H9_2 stepRun.sl.H9_1; rw [canon3_miss 2 3 (by decide), canon3_hit 2 2 rfl]; rfl)
    (by unfold stepRun.sl.H10_4 stepRun.sl.H10_3 stepRun.sl.H10_2 stepRun.sl.H10_1; rw [canon3_miss 2 3 (by decide), canon3_hit 2 2 rfl]; rfl)
    (fun d => by unfold stepRun.sl.H11_4 stepRun.sl.H11_3 stepRun.sl.H11_2 stepRun.sl.H11_1; rw [canon2_miss 2 384 (by decide), canon2_hit 2 256 rfl]; rfl)

/-- Head 3: its stores to the running buffers. -/
theorem step_upd3 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (f9 : Bf (F := Ideal) c M9) (f10 : Bf (F := Ideal) c M10) (f11 : Bf (F := Ideal) c M11)
    (hs : ¬(Scalar.cmpi .ne (Scalar.extui (Scalar.cmpi .eq (word c i M1 f1) 0#32)) 0#32 = 1#1))
    (hl : (Scalar.cmpi .ne (Scalar.extui (Scalar.cmpi .slt (word c i M1 f1) (word c i M0 f0))) 0#32 = 1#1))
    (hd : ¬(k0_cond3 (word c i M0 f0) (word c i M1 f1) = 1#1)) (r : Fin 512) :
    UpdAt (LG (M2.view.read (Elt Ideal) f2) (M3.view.read (Elt Ideal) f3) (M6.view.read (Elt Ideal) f6) (M7.view.read (Elt Ideal) f7) 3 r) (M4.view.read (Elt Ideal) f4) (M9.view.read (Elt Ideal) f9) (M10.view.read (Elt Ideal) f10) (M11.view.read (Elt Ideal) f11)
      (canon (stepRun.sl.H9_4 (F := Ideal) c M2 M3 M6 M7 M9 f2 f3 f6 f7 f9)) (canon (stepRun.sl.H10_4 (F := Ideal) c M2 M3 M6 M7 M9 M10 f2 f3 f6 f7 f9 f10)) (canon (stepRun.sl.H11_4 (F := Ideal) c M2 M3 M4 M6 M7 M9 M11 f2 f3 f4 f6 f7 f9 f11)) 3 r :=
  upd_of_head (lgt (View.readAt (Elt Ideal) M2.view (Rect.unit (s := S512x512) ![0, 384] S512x128.size inb_S512x512_S512x128_0_384).toLoadRect f2) (View.readAt (Elt Ideal) M3.view (Rect.unit (s := S512x512) ![0, 384] S512x128.size inb_S512x512_S512x128_0_384).toLoadRect f3) (View.readAt (Elt Ideal) M6.view (Rect.unit (s := S512x128) ![0, 3] S512x1.size inb_S512x128_S512x1_0_3).toLoadRect f6) (View.readAt (Elt Ideal) M7.view (Rect.unit (s := S1x8x512) ![0, 3, 0] S1x1x512.size inb_S1x8x512_S1x1x512_0_3_0).toLoadRect f7))
    (View.readAt (Elt Ideal) M9.view (Rect.unit (s := S4x512x1) ![3, 0, 0] S1x512x1.size inb_S4x512x1_S1x512x1_3_0_0).toLoadRect f9) (View.readAt (Elt Ideal) M10.view (Rect.unit (s := S4x512x1) ![3, 0, 0] S1x512x1.size inb_S4x512x1_S1x512x1_3_0_0).toLoadRect f10)
    (View.readAt (Elt Ideal) M11.view (Rect.unit (s := S512x512) ![0, 384] S512x128.size inb_S512x512_S512x128_0_384).toLoadRect f11) (View.readAt (Elt Ideal) M4.view (Rect.unit (s := S512x512) ![0, 384] S512x128.size inb_S512x512_S512x128_0_384).toLoadRect f4) _ _ _ _ _ _ _ _ 3 r
    (fun j => lgt_LG _ _ _ _ 3 r j _ _ _ _ (fun r d => load2 M2.view f2 3 384 rfl _ r d) (fun r d => load2 M3.view f3 3 384 rfl _ r d)
      (fun r => loadC M6.view f6 _ 3 rfl _ r) (fun j => loadT M7.view f7 _ 3 rfl _ j))
    (load3 M9.view f9 3 3 rfl _ r)
    (load3 M10.view f10 3 3 rfl _ r)
    (fun d => load2 M11.view f11 3 384 rfl _ r d)
    (fun j d => load2 M4.view f4 3 384 rfl _ j d)
    (by unfold stepRun.sl.H9_4 stepRun.sl.H9_2 stepRun.sl.H9_1; rw [canon3_hit 3 3 rfl]; rfl)
    (by unfold stepRun.sl.H10_4 stepRun.sl.H10_3 stepRun.sl.H10_2 stepRun.sl.H10_1; rw [canon3_hit 3 3 rfl]; rfl)
    (fun d => by unfold stepRun.sl.H11_4 stepRun.sl.H11_3 stepRun.sl.H11_2 stepRun.sl.H11_1; rw [canon2_hit 3 384 rfl]; rfl)

set_option maxHeartbeats 4000000 in
/-- What the body leaves in its running buffers at such a point. -/
theorem step_upd (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (f9 : Bf (F := Ideal) c M9) (f10 : Bf (F := Ideal) c M10) (f11 : Bf (F := Ideal) c M11)
    (hs : ¬(Scalar.cmpi .ne (Scalar.extui (Scalar.cmpi .eq (word c i M1 f1) 0#32)) 0#32 = 1#1))
    (hl : (Scalar.cmpi .ne (Scalar.extui (Scalar.cmpi .slt (word c i M1 f1) (word c i M0 f0))) 0#32 = 1#1))
    (hd : ¬(k0_cond3 (word c i M0 f0) (word c i M1 f1) = 1#1)) (h : Fin 4) (r : Fin 512) :
    UpdAt (LG (M2.view.read (Elt Ideal) f2) (M3.view.read (Elt Ideal) f3) (M6.view.read (Elt Ideal) f6) (M7.view.read (Elt Ideal) f7) h r) (M4.view.read (Elt Ideal) f4) (M9.view.read (Elt Ideal) f9) (M10.view.read (Elt Ideal) f10) (M11.view.read (Elt Ideal) f11)
      (M9.view.read (Elt Ideal) (stepRun (F := Ideal) c i M0 h0 M1 h1 M2 h2 M3 h3 M4 h4 M5 h5 M6 h6 M7 h7 M8 h8 M9 h9 M10 h10 M11 h11 f0 f1 f2 f3 f4 f5 f6 f7 f9 f10 f11 hs hl hd).1.1) (M10.view.read (Elt Ideal) (stepRun (F := Ideal) c i M0 h0 M1 h1 M2 h2 M3 h3 M4 h4 M5 h5 M6 h6 M7 h7 M8 h8 M9 h9 M10 h10 M11 h11 f0 f1 f2 f3 f4 f5 f6 f7 f9 f10 f11 hs hl hd).1.2.1) (M11.view.read (Elt Ideal) (stepRun (F := Ideal) c i M0 h0 M1 h1 M2 h2 M3 h3 M4 h4 M5 h5 M6 h6 M7 h7 M8 h8 M9 h9 M10 h10 M11 h11 f0 f1 f2 f3 f4 f5 f6 f7 f9 f10 f11 hs hl hd).1.2.2) h r := by
  have e9 : M9.view.read (Elt Ideal) (stepRun (F := Ideal) c i M0 h0 M1 h1 M2 h2 M3 h3 M4 h4 M5 h5 M6 h6 M7 h7 M8 h8 M9 h9 M10 h10 M11 h11 f0 f1 f2 f3 f4 f5 f6 f7 f9 f10 f11 hs hl hd).1.1 = canon (stepRun.sl.H9_4 (F := Ideal) c M2 M3 M6 M7 M9 f2 f3 f6 f7 f9) := read_writes_junk_eq_canon _ _
  have e10 : M10.view.read (Elt Ideal) (stepRun (F := Ideal) c i M0 h0 M1 h1 M2 h2 M3 h3 M4 h4 M5 h5 M6 h6 M7 h7 M8 h8 M9 h9 M10 h10 M11 h11 f0 f1 f2 f3 f4 f5 f6 f7 f9 f10 f11 hs hl hd).1.2.1 = canon (stepRun.sl.H10_4 (F := Ideal) c M2 M3 M6 M7 M9 M10 f2 f3 f6 f7 f9 f10) := read_writes_junk_eq_canon _ _
  have e11 : M11.view.read (Elt Ideal) (stepRun (F := Ideal) c i M0 h0 M1 h1 M2 h2 M3 h3 M4 h4 M5 h5 M6 h6 M7 h7 M8 h8 M9 h9 M10 h10 M11 h11 f0 f1 f2 f3 f4 f5 f6 f7 f9 f10 f11 hs hl hd).1.2.2 = canon (stepRun.sl.H11_4 (F := Ideal) c M2 M3 M4 M6 M7 M9 M11 f2 f3 f4 f6 f7 f9 f11) := read_writes_junk_eq_canon _ _
  rw [e9, e10, e11]
  fin_cases h
  · exact step_upd0 c i M0 h0 M1 h1 M2 h2 M3 h3 M4 h4 M5 h5 M6 h6 M7 h7 M8 h8 M9 h9 M10 h10 M11 h11 f0 f1 f2 f3 f4 f5 f6 f7 f9 f10 f11 hs hl hd r
  · exact step_upd1 c i M0 h0 M1 h1 M2 h2 M3 h3 M4 h4 M5 h5 M6 h6 M7 h7 M8 h8 M9 h9 M10 h10 M11 h11 f0 f1 f2 f3 f4 f5 f6 f7 f9 f10 f11 hs hl hd r
  · exact step_upd2 c i M0 h0 M1 h1 M2 h2 M3 h3 M4 h4 M5 h5 M6 h6 M7 h7 M8 h8 M9 h9 M10 h10 M11 h11 f0 f1 f2 f3 f4 f5 f6 f7 f9 f10 f11 hs hl hd r
  · exact step_upd3 c i M0 h0 M1 h1 M2 h2 M3 h3 M4 h4 M5 h5 M6 h6 M7 h7 M8 h8 M9 h9 M10 h10 M11 h11 f0 f1 f2 f3 f4 f5 f6 f7 f9 f10 f11 hs hl hd r

end Cert.KernelIdeal.Fox

end
-- ==== Proof.IFirstVal.lean ====
/-
  The attention body's stores at a point that takes the first block of keys, before the diagonal, head by head, in the values loaded.
-/
module

public import proofs.«01_k».proof.Proof.IRead
public import proofs.«01_k».proof.Proof.IFirst

@[expose] public section

set_option maxRecDepth 16384

noncomputable section

namespace Cert.KernelIdeal.Fox

open Cert.KernelIdeal Cert.KernelIdeal.Gen
open Idealize.ShloMosaic Idealize.ShloMosaic.View
open Idealize.ShloMosaic.TcCoe

/-- Head 0: its stores to the running buffers. -/
theorem first_upd0 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (hs : (Scalar.cmpi .ne (Scalar.extui (Scalar.cmpi .eq (word c i M1 f1) 0#32)) 0#32 = 1#1))
    (hl : (Scalar.cmpi .ne (Scalar.extui (Scalar.cmpi .slt (word c i M1 f1) (word c i M0 f0))) 0#32 = 1#1))
    (hd : ¬(k0_cond3 (word c i M0 f0) (word c i M1 f1) = 1#1)) (r : Fin 512) :
    UpdAt (LG (M2.view.read (Elt Ideal) f2) (M3.view.read (Elt Ideal) f3) (M6.view.read (Elt Ideal) f6) (M7.view.read (Elt Ideal) f7) 0 r) (M4.view.read (Elt Ideal) f4) (fun _ => ⊥) (fun _ => 0) (fun _ => 0)
      (canon (firstRun.sl.H9_5 (F := Ideal) c M2 M3 M6 M7 M9 f2 f3 f6 f7)) (canon (firstRun.sl.H10_5 (F := Ideal) c M2 M3 M6 M7 M9 M10 f2 f3 f6 f7)) (canon (firstRun.sl.H11_5 (F := Ideal) c M2 M3 M4 M6 M7 M9 M11 f2 f3 f4 f6 f7)) 0 r :=
  upd_of_head (lgt (View.readAt (Elt Ideal) M2.view (Rect.unit (s := S512x512) ![0, 0] S512x128.size inb_S512x512_S512x128_0_0).toLoadRect f2) (View.readAt (Elt Ideal) M3.view (Rect.unit (s := S512x512) ![0, 0] S512x128.size inb_S512x512_S512x128_0_0).toLoadRect f3) (View.readAt (Elt Ideal) M6.view (Rect.unit (s := S512x128) ![0, 0] S512x1.size inb_S512x128_S512x1_0_0).toLoadRect f6) (View.readAt (Elt Ideal) M7.view (Rect.unit (s := S1x8x512) ![0, 0, 0] S1x1x512.size inb_S1x8x512_S1x1x512_0_0_0).toLoadRect f7))
    (firstRun.sl.v27 (F := Ideal) M9) (firstRun.sl.v37 (F := Ideal) M10)
    (firstRun.sl.v46 (F := Ideal) M11) (View.readAt (Elt Ideal) M4.view (Rect.unit (s := S512x512) ![0, 0] S512x128.size inb_S512x512_S512x128_0_0).toLoadRect f4) _ _ _ _ _ _ _ _ 0 r
    (fun j => lgt_LG _ _ _ _ 0 r j _ _ _ _ (fun r d => load2 M2.view f2 0 0 rfl _ r d) (fun r d => load2 M3.view f3 0 0 rfl _ r d)
      (fun r => loadC M6.view f6 _ 0 rfl _ r) (fun j => loadT M7.view f7 _ 0 rfl _ j))
    (by unfold firstRun.sl.v27 firstRun.sl.H9_1; rw [cov3 _ _ 0 0 rfl, fill3, pay1_apply])
    (by unfold firstRun.sl.v37 firstRun.sl.H10_1; rw [cov3 _ _ 0 0 rfl, fill3, pay2_apply])
    (fun d => by unfold firstRun.sl.v46 firstRun.sl.H11_1; rw [cov2 _ _ 0 0 rfl, fill2, pay3_apply])
    (fun j d => load2 M4.view f4 0 0 rfl _ j d)
    (by unfold firstRun.sl.H9_5 firstRun.sl.H9_4 firstRun.sl.H9_3 firstRun.sl.H9_2 firstRun.sl.H9_1; rw [canon3_miss 0 3 (by decide), canon3_miss 0 2 (by decide), canon3_miss 0 1 (by decide), canon3_hit 0 0 rfl]; rfl)
    (by unfold firstRun.sl.H10_5 firstRun.sl.H10_4 firstRun.sl.H10_3 firstRun.sl.H10_2 firstRun.sl.H10_1; rw [canon3_miss 0 3 (by decide), canon3_miss 0 2 (by decide), canon3_miss 0 1 (by decide), canon3_hit 0 0 rfl]; rfl)
    (fun d => by unfold firstRun.sl.H11_5 firstRun.sl.H11_4 firstRun.sl.H11_3 firstRun.sl.H11_2 firstRun.sl.H11_1; rw [canon2_miss 0 384 (by decide), canon2_miss 0 256 (by decide), canon2_miss 0 128 (by decide), canon2_hit 0 0 rfl]; rfl)

/-- Head 1: its stores to the running buffers. -/
theorem first_upd1 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (hs : (Scalar.cmpi .ne (Scalar.extui (Scalar.cmpi .eq (word c i M1 f1) 0#32)) 0#32 = 1#1))
    (hl : (Scalar.cmpi .ne (Scalar.extui (Scalar.cmpi .slt (word c i M1 f1) (word c i M0 f0))) 0#32 = 1#1))
    (hd : ¬(k0_cond3 (word c i M0 f0) (word c i M1 f1) = 1#1)) (r : Fin 512) :
    UpdAt (LG (M2.view.read (Elt Ideal) f2) (M3.view.read (Elt Ideal) f3) (M6.view.read (Elt Ideal) f6) (M7.view.read (Elt Ideal) f7) 1 r) (M4.view.read (Elt Ideal) f4) (fun _ => ⊥) (fun _ => 0) (fun _ => 0)
      (canon (firstRun.sl.H9_5 (F := Ideal) c M2 M3 M6 M7 M9 f2 f3 f6 f7)) (canon (firstRun.sl.H10_5 (F := Ideal) c M2 M3 M6 M7 M9 M10 f2 f3 f6 f7)) (canon (firstRun.sl.H11_5 (F := Ideal) c M2 M3 M4 M6 M7 M9 M11 f2 f3 f4 f6 f7)) 1 r :=
  upd_of_head (lgt (View.readAt (Elt Ideal) M2.view (Rect.unit (s := S512x512) ![0, 128] S512x128.size inb_S512x512_S512x128_0_128).toLoadRect f2) (View.readAt (Elt Ideal) M3.view (Rect.unit (s := S512x512) ![0, 128] S512x128.size inb_S512x512_S512x128_0_128).toLoadRect f3) (View.readAt (Elt Ideal) M6.view (Rect.unit (s := S512x128) ![0, 1] S512x1.size inb_S512x128_S512x1_0_1).toLoadRect f6) (View.readAt (Elt Ideal) M7.view (Rect.unit (s := S1x8x512) ![0, 1, 0] S1x1x512.size inb_S1x8x512_S1x1x512_0_1_0).toLoadRect f7))
    (firstRun.sl.v74 (F := Ideal) c M2 M3 M6 M7 M9 f2 f3 f6 f7) (firstRun.sl.v84 (F := Ideal) c M2 M3 M6 M7 M9 M10 f2 f3 f6 f7)
    (firstRun.sl.v93 (F := Ideal) c M2 M3 M4 M6 M7 M9 M11 f2 f3 f4 f6 f7) (View.readAt (Elt Ideal) M4.view (Rect.unit (s := S512x512) ![0, 128] S512x128.size inb_S512x512_S512x128_0_128).toLoadRect f4) _ _ _ _ _ _ _ _ 1 r
    (fun j => lgt_LG _ _ _ _ 1 r j _ _ _ _ (fun r d => load2 M2.view f2 1 128 rfl _ r d) (fun r d => load2 M3.view f3 1 128 rfl _ r d)
      (fun r => loadC M6.view f6 _ 1 rfl _ r) (fun j => loadT M7.view f7 _ 1 rfl _ j))
    (by unfold firstRun.sl.v74 firstRun.sl.H9_2 firstRun.sl.H9_1; rw [cov3 _ _ 1 1 rfl, canon3_miss 1 0 (by decide), fill3, pay1_apply])
    (by unfold firstRun.sl.v84 firstRun.sl.H10_2 firstRun.sl.H10_1; rw [cov3 _ _ 1 1 rfl, canon3_miss 1 0 (by decide), fill3, pay2_apply])
    (fun d => by unfold firstRun.sl.v93 firstRun.sl.H11_2 firstRun.sl.H11_1; rw [cov2 _ _ 1 128 rfl, canon2_miss 1 0 (by decide), fill2, pay3_apply])
    (fun j d => load2 M4.view f4 1 128 rfl _ j d)
    (by unfold firstRun.sl.H9_5 firstRun.sl.H9_4 firstRun.sl.H9_3 firstRun.sl.H9_2 firstRun.sl.H9_1; rw [canon3_miss 1 3 (by decide), canon3_miss 1 2 (by decide), canon3_hit 1 1 rfl]; rfl)
    (by unfold firstRun.sl.H10_5 firstRun.sl.H10_4 firstRun.sl.H10_3 firstRun.sl.H10_2 firstRun.sl.H10_1; rw [canon3_miss 1 3 (by decide), canon3_miss 1 2 (by decide), canon3_hit 1 1 rfl]; rfl)
    (fun d => by unfold firstRun.sl.H11_5 firstRun.sl.H11_4 firstRun.sl.H11_3 firstRun.sl.H11_2 firstRun.sl.H11_1; rw [canon2_miss 1 384 (by decide), canon2_miss 1 256 (by decide), canon2_hit 1 128 rfl]; rfl)

/-- Head 2: its stores to the running buffers. -/
theorem first_upd2 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (hs : (Scalar.cmpi .ne (Scalar.extui (Scalar.cmpi .eq (word c i M1 f1) 0#32)) 0#32 = 1#1))
    (hl : (Scalar.cmpi .ne (Scalar.extui (Scalar.cmpi .slt (word c i M1 f1) (word c i M0 f0))) 0#32 = 1#1))
    (hd : ¬(k0_cond3 (word c i M0 f0) (word c i M1 f1) = 1#1)) (r : Fin 512) :
    UpdAt (LG (M2.view.read (Elt Ideal) f2) (M3.view.read (Elt Ideal) f3) (M6.view.read (Elt Ideal) f6) (M7.view.read (Elt Ideal) f7) 2 r) (M4.view.read (Elt Ideal) f4) (fun _ => ⊥) (fun _ => 0) (fun _ => 0)
      (canon (firstRun.sl.H9_5 (F := Ideal) c M2 M3 M6 M7 M9 f2 f3 f6 f7)) (canon (firstRun.sl.H10_5 (F := Ideal) c M2 M3 M6 M7 M9 M10 f2 f3 f6 f7)) (canon (firstRun.sl.H11_5 (F := Ideal) c M2 M3 M4 M6 M7 M9 M11 f2 f3 f4 f6 f7)) 2 r :=
  upd_of_head (lgt (View.readAt (Elt Ideal) M2.view (Rect.unit (s := S512x512) ![0, 256] S512x128.size inb_S512x512_S512x128_0_256).toLoadRect f2) (View.readAt (Elt Ideal) M3.view (Rect.unit (s := S512x512) ![0, 256] S512x128.size inb_S512x512_S512x128_0_256).toLoadRect f3) (View.readAt (Elt Ideal) M6.view (Rect.unit (s := S512x128) ![0, 2] S512x1.size inb_S512x128_S512x1_0_2).toLoadRect f6) (View.readAt (Elt Ideal) M7.view (Rect.unit (s := S1x8x512) ![0, 2, 0] S1x1x512.size inb_S1x8x512_S1x1x512_0_2_0).toLoadRect f7))
    (firstRun.sl.v121 (F := Ideal) c M2 M3 M6 M7 M9 f2 f3 f6 f7) (firstRun.sl.v131 (F := Ideal) c M2 M3 M6 M7 M9 M10 f2 f3 f6 f7)
    (firstRun.sl.v140 (F := Ideal) c M2 M3 M4 M6 M7 M9 M11 f2 f3 f4 f6 f7) (View.readAt (Elt Ideal) M4.view (Rect.unit (s := S512x512) ![0, 256] S512x128.size inb_S512x512_S512x128_0_256).toLoadRect f4) _ _ _ _ _ _ _ _ 2 r
    (fun j => lgt_LG _ _ _ _ 2 r j _ _ _ _ (fun r d => load2 M2.view f2 2 256 rfl _ r d) (fun r d => load2 M3.view f3 2 256 rfl _ r d)
      (fun r => loadC M6.view f6 _ 2 rfl _ r) (fun j => loadT M7.view f7 _ 2 rfl _ j))
    (by unfold firstRun.sl.v121 firstRun.sl.H9_3 firstRun.sl.H9_2 firstRun.sl.H9_1; rw [cov3 _ _ 2 2 rfl, canon3_miss 2 1 (by decide), canon3_miss 2 0 (by decide), fill3, pay1_apply])
    (by unfold firstRun.sl.v131 firstRun.sl.H10_3 firstRun.sl.H10_2 firstRun.sl.H10_1; rw [cov3 _ _ 2 2 rfl, canon3_miss 2 1 (by decide), canon3_miss 2 0 (by decide), fill3, pay2_apply])
    (fun d => by unfold firstRun.sl.v140 firstRun.sl.H11_3 firstRun.sl.H11_2 firstRun.sl.H11_1; rw [cov2 _ _ 2 256 rfl, canon2_miss 2 128 (by decide), canon2_miss 2 0 (by decide), fill2, pay3_apply])
    (fun j d => load2 M4.view f4 2 256 rfl _ j d)
    (by unfold firstRun.sl.H9_5 firstRun.sl.H9_4 firstRun.sl.H9_3 firstRun.sl.H9_2 firstRun.sl.H9_1; rw [canon3_miss 2 3 (by decide), canon3_hit 2 2 rfl]; rfl)
    (by unfold firstRun.sl.H10_5 firstRun.sl.H10_4 firstRun.sl.H10_3 firstRun.sl.H10_2 firstRun.sl.H10_1; rw [canon3_miss 2 3 (by decide), canon3_hit 2 2 rfl]; rfl)
    (fun d => by unfold firstRun.sl.H11_5 firstRun.sl.H11_4 firstRun.sl.H11_3 firstRun.sl.H11_2 firstRun.sl.H11_1; rw [canon2_miss 2 384 (by decide), canon2_hit 2 256 rfl]; rfl)

/-- Head 3: its stores to the running buffers. -/
theorem first_upd3 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (hs : (Scalar.cmpi .ne (Scalar.extui (Scalar.cmpi .eq (word c i M1 f1) 0#32)) 0#32 = 1#1))
    (hl : (Scalar.cmpi .ne (Scalar.extui (Scalar.cmpi .slt (word c i M1 f1) (word c i M0 f0))) 0#32 = 1#1))
    (hd : ¬(k0_cond3 (word c i M0 f0) (word c i M1 f1) = 1#1)) (r : Fin 512) :
    UpdAt (LG (M2.view.read (Elt Ideal) f2) (M3.view.read (Elt Ideal) f3) (M6.view.read (Elt Ideal) f6) (M7.view.read (Elt Ideal) f7) 3 r) (M4.view.read (Elt Ideal) f4) (fun _ => ⊥) (fun _ => 0) (fun _ => 0)
      (canon (firstRun.sl.H9_5 (F := Ideal) c M2 M3 M6 M7 M9 f2 f3 f6 f7)) (canon (firstRun.sl.H10_5 (F := Ideal) c M2 M3 M6 M7 M9 M10 f2 f3 f6 f7)) (canon (firstRun.sl.H11_5 (F := Ideal) c M2 M3 M4 M6 M7 M9 M11 f2 f3 f4 f6 f7)) 3 r :=
  upd_of_head (lgt (View.readAt (Elt Ideal) M2.view (Rect.unit (s := S512x512) ![0, 384] S512x128.size inb_S512x512_S512x128_0_384).toLoadRect f2) (View.readAt (Elt Ideal) M3.view (Rect.unit (s := S512x512) ![0, 384] S512x128.size inb_S512x512_S512x128_0_384).toLoadRect f3) (View.readAt (Elt Ideal) M6.view (Rect.unit (s := S512x128) ![0, 3] S512x1.size inb_S512x128_S512x1_0_3).toLoadRect f6) (View.readAt (Elt Ideal) M7.view (Rect.unit (s := S1x8x512) ![0, 3, 0] S1x1x512.size inb_S1x8x512_S1x1x512_0_3_0).toLoadRect f7))
    (firstRun.sl.v168 (F := Ideal) c M2 M3 M6 M7 M9 f2 f3 f6 f7) (firstRun.sl.v178 (F := Ideal) c M2 M3 M6 M7 M9 M10 f2 f3 f6 f7)
    (firstRun.sl.v187 (F := Ideal) c M2 M3 M4 M6 M7 M9 M11 f2 f3 f4 f6 f7) (View.readAt (Elt Ideal) M4.view (Rect.unit (s := S512x512) ![0, 384] S512x128.size inb_S512x512_S512x128_0_384).toLoadRect f4) _ _ _ _ _ _ _ _ 3 r
    (fun j => lgt_LG _ _ _ _ 3 r j _ _ _ _ (fun r d => load2 M2.view f2 3 384 rfl _ r d) (fun r d => load2 M3.view f3 3 384 rfl _ r d)
      (fun r => loadC M6.view f6 _ 3 rfl _ r) (fun j => loadT M7.view f7 _ 3 rfl _ j))
    (by unfold firstRun.sl.v168 firstRun.sl.H9_4 firstRun.sl.H9_3 firstRun.sl.H9_2 firstRun.sl.H9_1; rw [cov3 _ _ 3 3 rfl, canon3_miss 3 2 (by decide), canon3_miss 3 1 (by decide), canon3_miss 3 0 (by decide), fill3, pay1_apply])
    (by unfold firstRun.sl.v178 firstRun.sl.H10_4 firstRun.sl.H10_3 firstRun.sl.H10_2 firstRun.sl.H10_1; rw [cov3 _ _ 3 3 rfl, canon3_miss 3 2 (by decide), canon3_miss 3 1 (by decide), canon3_miss 3 0 (by decide), fill3, pay2_apply])
    (fun d => by unfold firstRun.sl.v187 firstRun.sl.H11_4 firstRun.sl.H11_3 firstRun.sl.H11_2 firstRun.sl.H11_1; rw [cov2 _ _ 3 384 rfl, canon2_miss 3 256 (by decide), canon2_miss 3 128 (by decide), canon2_miss 3 0 (by decide), fill2, pay3_apply])
    (fun j d => load2 M4.view f4 3 384 rfl _ j d)
    (by unfold firstRun.sl.H9_5 firstRun.sl.H9_4 firstRun.sl.H9_3 firstRun.sl.H9_2 firstRun.sl.H9_1; rw [canon3_hit 3 3 rfl]; rfl)
    (by unfold firstRun.sl.H10_5 firstRun.sl.H10_4 firstRun.sl.H10_3 firstRun.sl.H10_2 firstRun.sl.H10_1; rw [canon3_hit 3 3 rfl]; rfl)
    (fun d => by unfold firstRun.sl.H11_5 firstRun.sl.H11_4 firstRun.sl.H11_3 firstRun.sl.H11_2 firstRun.sl.H11_1; rw [canon2_hit 3 384 rfl]; rfl)

set_option maxHeartbeats 4000000 in
/-- What the body leaves in its running buffers at such a point. -/
theorem first_upd (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (hs : (Scalar.cmpi .ne (Scalar.extui (Scalar.cmpi .eq (word c i M1 f1) 0#32)) 0#32 = 1#1))
    (hl : (Scalar.cmpi .ne (Scalar.extui (Scalar.cmpi .slt (word c i M1 f1) (word c i M0 f0))) 0#32 = 1#1))
    (hd : ¬(k0_cond3 (word c i M0 f0) (word c i M1 f1) = 1#1)) (h : Fin 4) (r : Fin 512) :
    UpdAt (LG (M2.view.read (Elt Ideal) f2) (M3.view.read (Elt Ideal) f3) (M6.view.read (Elt Ideal) f6) (M7.view.read (Elt Ideal) f7) h r) (M4.view.read (Elt Ideal) f4) (fun _ => ⊥) (fun _ => 0) (fun _ => 0)
      (M9.view.read (Elt Ideal) (firstRun (F := Ideal) c i M0 h0 M1 h1 M2 h2 M3 h3 M4 h4 M5 h5 M6 h6 M7 h7 M8 h8 M9 h9 M10 h10 M11 h11 f0 f1 f2 f3 f4 f5 f6 f7 hs hl hd).1.1) (M10.view.read (Elt Ideal) (firstRun (F := Ideal) c i M0 h0 M1 h1 M2 h2 M3 h3 M4 h4 M5 h5 M6 h6 M7 h7 M8 h8 M9 h9 M10 h10 M11 h11 f0 f1 f2 f3 f4 f5 f6 f7 hs hl hd).1.2.1) (M11.view.read (Elt Ideal) (firstRun (F := Ideal) c i M0 h0 M1 h1 M2 h2 M3 h3 M4 h4 M5 h5 M6 h6 M7 h7 M8 h8 M9 h9 M10 h10 M11 h11 f0 f1 f2 f3 f4 f5 f6 f7 hs hl hd).1.2.2) h r := by
  have e9 : M9.view.read (Elt Ideal) (firstRun (F := Ideal) c i M0 h0 M1 h1 M2 h2 M3 h3 M4 h4 M5 h5 M6 h6 M7 h7 M8 h8 M9 h9 M10 h10 M11 h11 f0 f1 f2 f3 f4 f5 f6 f7 hs hl hd).1.1 = canon (firstRun.sl.H9_5 (F := Ideal) c M2 M3 M6 M7 M9 f2 f3 f6 f7) := read_writes_junk_eq_canon _ _
  have e10 : M10.view.read (Elt Ideal) (firstRun (F := Ideal) c i M0 h0 M1 h1 M2 h2 M3 h3 M4 h4 M5 h5 M6 h6 M7 h7 M8 h8 M9 h9 M10 h10 M11 h11 f0 f1 f2 f3 f4 f5 f6 f7 hs hl hd).1.2.1 = canon (firstRun.sl.H10_5 (F := Ideal) c M2 M3 M6 M7 M9 M10 f2 f3 f6 f7) := read_writes_junk_eq_canon _ _
  have e11 : M11.view.read (Elt Ideal) (firstRun (F := Ideal) c i M0 h0 M1 h1 M2 h2 M3 h3 M4 h4 M5 h5 M6 h6 M7 h7 M8 h8 M9 h9 M10 h10 M11 h11 f0 f1 f2 f3 f4 f5 f6 f7 hs hl hd).1.2.2 = canon (firstRun.sl.H11_5 (F := Ideal) c M2 M3 M4 M6 M7 M9 M11 f2 f3 f4 f6 f7) := read_writes_junk_eq_canon _ _
  rw [e9, e10, e11]
  fin_cases h
  · exact first_upd0 c i M0 h0 M1 h1 M2 h2 M3 h3 M4 h4 M5 h5 M6 h6 M7 h7 M8 h8 M9 h9 M10 h10 M11 h11 f0 f1 f2 f3 f4 f5 f6 f7 hs hl hd r
  · exact first_upd1 c i M0 h0 M1 h1 M2 h2 M3 h3 M4 h4 M5 h5 M6 h6 M7 h7 M8 h8 M9 h9 M10 h10 M11 h11 f0 f1 f2 f3 f4 f5 f6 f7 hs hl hd r
  · exact first_upd2 c i M0 h0 M1 h1 M2 h2 M3 h3 M4 h4 M5 h5 M6 h6 M7 h7 M8 h8 M9 h9 M10 h10 M11 h11 f0 f1 f2 f3 f4 f5 f6 f7 hs hl hd r
  · exact first_upd3 c i M0 h0 M1 h1 M2 h2 M3 h3 M4 h4 M5 h5 M6 h6 M7 h7 M8 h8 M9 h9 M10 h10 M11 h11 f0 f1 f2 f3 f4 f5 f6 f7 hs hl hd r

end Cert.KernelIdeal.Fox

end
-- ==== Proof.IDiagVal.lean ====
/-
  The attention body's stores at a point that takes the diagonal block after others, head by head, in the values loaded.
-/
module

public import proofs.«01_k».proof.Proof.IRead
public import proofs.«01_k».proof.Proof.IDiag

@[expose] public section

set_option maxRecDepth 16384

noncomputable section

namespace Cert.KernelIdeal.Fox

open Cert.KernelIdeal Cert.KernelIdeal.Gen
open Idealize.ShloMosaic Idealize.ShloMosaic.View
open Idealize.ShloMosaic.TcCoe

/-- Head 0: its stores to the running buffers. -/
theorem diag_upd0 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (f9 : Bf (F := Ideal) c M9) (f10 : Bf (F := Ideal) c M10) (f11 : Bf (F := Ideal) c M11)
    (hs : ¬(Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) (r : Fin 512) :
    UpdAt (LGD (M2.view.read (Elt Ideal) f2) (M3.view.read (Elt Ideal) f3) (M6.view.read (Elt Ideal) f6) (M7.view.read (Elt Ideal) f7) 0 r) (M4.view.read (Elt Ideal) f4) (M9.view.read (Elt Ideal) f9) (M10.view.read (Elt Ideal) f10) (M11.view.read (Elt Ideal) f11)
      (canon (diagRun.sl.H9_4 (F := Ideal) c M2 M3 M6 M7 M9 f2 f3 f6 f7 f9)) (canon (diagRun.sl.H10_4 (F := Ideal) c M2 M3 M6 M7 M9 M10 f2 f3 f6 f7 f9 f10)) (canon (diagRun.sl.H11_4 (F := Ideal) c M2 M3 M4 M6 M7 M9 M11 f2 f3 f4 f6 f7 f9 f11)) 0 r :=
  upd_of_head (lgtD (View.readAt (Elt Ideal) M2.view (Rect.unit (s := S512x512) ![0, 0] S512x128.size inb_S512x512_S512x128_0_0).toLoadRect f2) (View.readAt (Elt Ideal) M3.view (Rect.unit (s := S512x512) ![0, 0] S512x128.size inb_S512x512_S512x128_0_0).toLoadRect f3) (View.readAt (Elt Ideal) M6.view (Rect.unit (s := S512x128) ![0, 0] S512x1.size inb_S512x128_S512x1_0_0).toLoadRect f6) (View.readAt (Elt Ideal) M7.view (Rect.unit (s := S1x8x512) ![0, 0, 0] S1x1x512.size inb_S1x8x512_S1x1x512_0_0_0).toLoadRect f7))
    (View.readAt (Elt Ideal) M9.view (Rect.unit (s := S4x512x1) ![0, 0, 0] S1x512x1.size inb_S4x512x1_S1x512x1_0_0_0).toLoadRect f9) (View.readAt (Elt Ideal) M10.view (Rect.unit (s := S4x512x1) ![0, 0, 0] S1x512x1.size inb_S4x512x1_S1x512x1_0_0_0).toLoadRect f10)
    (View.readAt (Elt Ideal) M11.view (Rect.unit (s := S512x512) ![0, 0] S512x128.size inb_S512x512_S512x128_0_0).toLoadRect f11) (View.readAt (Elt Ideal) M4.view (Rect.unit (s := S512x512) ![0, 0] S512x128.size inb_S512x512_S512x128_0_0).toLoadRect f4) _ _ _ _ _ _ _ _ 0 r
    (fun j => lgtD_LGD _ _ _ _ 0 r j _ _ _ _ (fun r d => load2 M2.view f2 0 0 rfl _ r d) (fun r d => load2 M3.view f3 0 0 rfl _ r d)
      (fun r => loadC M6.view f6 _ 0 rfl _ r) (fun j => loadT M7.view f7 _ 0 rfl _ j))
    (load3 M9.view f9 0 0 rfl _ r)
    (load3 M10.view f10 0 0 rfl _ r)
    (fun d => load2 M11.view f11 0 0 rfl _ r d)
    (fun j d => load2 M4.view f4 0 0 rfl _ j d)
    (by unfold diagRun.sl.H9_4 diagRun.sl.H9_3 diagRun.sl.H9_2 diagRun.sl.H9_1; rw [canon3_miss 0 3 (by decide), canon3_miss 0 2 (by decide), canon3_miss 0 1 (by decide), canon3_hit 0 0 rfl]; rfl)
    (by unfold diagRun.sl.H10_4 diagRun.sl.H10_3 diagRun.sl.H10_2 diagRun.sl.H10_1; rw [canon3_miss 0 3 (by decide), canon3_miss 0 2 (by decide), canon3_miss 0 1 (by decide), canon3_hit 0 0 rfl]; rfl)
    (fun d => by unfold diagRun.sl.H11_4 diagRun.sl.H11_3 diagRun.sl.H11_2 diagRun.sl.H11_1; rw [canon2_miss 0 384 (by decide), canon2_miss 0 256 (by decide), canon2_miss 0 128 (by decide), canon2_hit 0 0 rfl]; rfl)

/-- Head 1: its stores to the running buffers. -/
theorem diag_upd1 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (f9 : Bf (F := Ideal) c M9) (f10 : Bf (F := Ideal) c M10) (f11 : Bf (F := Ideal) c M11)
    (hs : ¬(Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) (r : Fin 512) :
    UpdAt (LGD (M2.view.read (Elt Ideal) f2) (M3.view.read (Elt Ideal) f3) (M6.view.read (Elt Ideal) f6) (M7.view.read (Elt Ideal) f7) 1 r) (M4.view.read (Elt Ideal) f4) (M9.view.read (Elt Ideal) f9) (M10.view.read (Elt Ideal) f10) (M11.view.read (Elt Ideal) f11)
      (canon (diagRun.sl.H9_4 (F := Ideal) c M2 M3 M6 M7 M9 f2 f3 f6 f7 f9)) (canon (diagRun.sl.H10_4 (F := Ideal) c M2 M3 M6 M7 M9 M10 f2 f3 f6 f7 f9 f10)) (canon (diagRun.sl.H11_4 (F := Ideal) c M2 M3 M4 M6 M7 M9 M11 f2 f3 f4 f6 f7 f9 f11)) 1 r :=
  upd_of_head (lgtD (View.readAt (Elt Ideal) M2.view (Rect.unit (s := S512x512) ![0, 128] S512x128.size inb_S512x512_S512x128_0_128).toLoadRect f2) (View.readAt (Elt Ideal) M3.view (Rect.unit (s := S512x512) ![0, 128] S512x128.size inb_S512x512_S512x128_0_128).toLoadRect f3) (View.readAt (Elt Ideal) M6.view (Rect.unit (s := S512x128) ![0, 1] S512x1.size inb_S512x128_S512x1_0_1).toLoadRect f6) (View.readAt (Elt Ideal) M7.view (Rect.unit (s := S1x8x512) ![0, 1, 0] S1x1x512.size inb_S1x8x512_S1x1x512_0_1_0).toLoadRect f7))
    (View.readAt (Elt Ideal) M9.view (Rect.unit (s := S4x512x1) ![1, 0, 0] S1x512x1.size inb_S4x512x1_S1x512x1_1_0_0).toLoadRect f9) (View.readAt (Elt Ideal) M10.view (Rect.unit (s := S4x512x1) ![1, 0, 0] S1x512x1.size inb_S4x512x1_S1x512x1_1_0_0).toLoadRect f10)
    (View.readAt (Elt Ideal) M11.view (Rect.unit (s := S512x512) ![0, 128] S512x128.size inb_S512x512_S512x128_0_128).toLoadRect f11) (View.readAt (Elt Ideal) M4.view (Rect.unit (s := S512x512) ![0, 128] S512x128.size inb_S512x512_S512x128_0_128).toLoadRect f4) _ _ _ _ _ _ _ _ 1 r
    (fun j => lgtD_LGD _ _ _ _ 1 r j _ _ _ _ (fun r d => load2 M2.view f2 1 128 rfl _ r d) (fun r d => load2 M3.view f3 1 128 rfl _ r d)
      (fun r => loadC M6.view f6 _ 1 rfl _ r) (fun j => loadT M7.view f7 _ 1 rfl _ j))
    (load3 M9.view f9 1 1 rfl _ r)
    (load3 M10.view f10 1 1 rfl _ r)
    (fun d => load2 M11.view f11 1 128 rfl _ r d)
    (fun j d => load2 M4.view f4 1 128 rfl _ j d)
    (by unfold diagRun.sl.H9_4 diagRun.sl.H9_3 diagRun.sl.H9_2 diagRun.sl.H9_1; rw [canon3_miss 1 3 (by decide), canon3_miss 1 2 (by decide), canon3_hit 1 1 rfl]; rfl)
    (by unfold diagRun.sl.H10_4 diagRun.sl.H10_3 diagRun.sl.H10_2 diagRun.sl.H10_1; rw [canon3_miss 1 3 (by decide), canon3_miss 1 2 (by decide), canon3_hit 1 1 rfl]; rfl)
    (fun d => by unfold diagRun.sl.H11_4 diagRun.sl.H11_3 diagRun.sl.H11_2 diagRun.sl.H11_1; rw [canon2_miss 1 384 (by decide), canon2_miss 1 256 (by decide), canon2_hit 1 128 rfl]; rfl)

/-- Head 2: its stores to the running buffers. -/
theorem diag_upd2 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (f9 : Bf (F := Ideal) c M9) (f10 : Bf (F := Ideal) c M10) (f11 : Bf (F := Ideal) c M11)
    (hs : ¬(Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) (r : Fin 512) :
    UpdAt (LGD (M2.view.read (Elt Ideal) f2) (M3.view.read (Elt Ideal) f3) (M6.view.read (Elt Ideal) f6) (M7.view.read (Elt Ideal) f7) 2 r) (M4.view.read (Elt Ideal) f4) (M9.view.read (Elt Ideal) f9) (M10.view.read (Elt Ideal) f10) (M11.view.read (Elt Ideal) f11)
      (canon (diagRun.sl.H9_4 (F := Ideal) c M2 M3 M6 M7 M9 f2 f3 f6 f7 f9)) (canon (diagRun.sl.H10_4 (F := Ideal) c M2 M3 M6 M7 M9 M10 f2 f3 f6 f7 f9 f10)) (canon (diagRun.sl.H11_4 (F := Ideal) c M2 M3 M4 M6 M7 M9 M11 f2 f3 f4 f6 f7 f9 f11)) 2 r :=
  upd_of_head (lgtD (View.readAt (Elt Ideal) M2.view (Rect.unit (s := S512x512) ![0, 256] S512x128.size inb_S512x512_S512x128_0_256).toLoadRect f2) (View.readAt (Elt Ideal) M3.view (Rect.unit (s := S512x512) ![0, 256] S512x128.size inb_S512x512_S512x128_0_256).toLoadRect f3) (View.readAt (Elt Ideal) M6.view (Rect.unit (s := S512x128) ![0, 2] S512x1.size inb_S512x128_S512x1_0_2).toLoadRect f6) (View.readAt (Elt Ideal) M7.view (Rect.unit (s := S1x8x512) ![0, 2, 0] S1x1x512.size inb_S1x8x512_S1x1x512_0_2_0).toLoadRect f7))
    (View.readAt (Elt Ideal) M9.view (Rect.unit (s := S4x512x1) ![2, 0, 0] S1x512x1.size inb_S4x512x1_S1x512x1_2_0_0).toLoadRect f9) (View.readAt (Elt Ideal) M10.view (Rect.unit (s := S4x512x1) ![2, 0, 0] S1x512x1.size inb_S4x512x1_S1x512x1_2_0_0).toLoadRect f10)
    (View.readAt (Elt Ideal) M11.view (Rect.unit (s := S512x512) ![0, 256] S512x128.size inb_S512x512_S512x128_0_256).toLoadRect f11) (View.readAt (Elt Ideal) M4.view (Rect.unit (s := S512x512) ![0, 256] S512x128.size inb_S512x512_S512x128_0_256).toLoadRect f4) _ _ _ _ _ _ _ _ 2 r
    (fun j => lgtD_LGD _ _ _ _ 2 r j _ _ _ _ (fun r d => load2 M2.view f2 2 256 rfl _ r d) (fun r d => load2 M3.view f3 2 256 rfl _ r d)
      (fun r => loadC M6.view f6 _ 2 rfl _ r) (fun j => loadT M7.view f7 _ 2 rfl _ j))
    (load3 M9.view f9 2 2 rfl _ r)
    (load3 M10.view f10 2 2 rfl _ r)
    (fun d => load2 M11.view f11 2 256 rfl _ r d)
    (fun j d => load2 M4.view f4 2 256 rfl _ j d)
    (by unfold diagRun.sl.H9_4 diagRun.sl.H9_3 diagRun.sl.H9_2 diagRun.sl.H9_1; rw [canon3_miss 2 3 (by decide), canon3_hit 2 2 rfl]; rfl)
    (by unfold diagRun.sl.H10_4 diagRun.sl.H10_3 diagRun.sl.H10_2 diagRun.sl.H10_1; rw [canon3_miss 2 3 (by decide), canon3_hit 2 2 rfl]; rfl)
    (fun d => by unfold diagRun.sl.H11_4 diagRun.sl.H11_3 diagRun.sl.H11_2 diagRun.sl.H11_1; rw [canon2_miss 2 384 (by decide), canon2_hit 2 256 rfl]; rfl)

/-- Head 3: its stores to the running buffers. -/
theorem diag_upd3 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (f9 : Bf (F := Ideal) c M9) (f10 : Bf (F := Ideal) c M10) (f11 : Bf (F := Ideal) c M11)
    (hs : ¬(Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) (r : Fin 512) :
    UpdAt (LGD (M2.view.read (Elt Ideal) f2) (M3.view.read (Elt Ideal) f3) (M6.view.read (Elt Ideal) f6) (M7.view.read (Elt Ideal) f7) 3 r) (M4.view.read (Elt Ideal) f4) (M9.view.read (Elt Ideal) f9) (M10.view.read (Elt Ideal) f10) (M11.view.read (Elt Ideal) f11)
      (canon (diagRun.sl.H9_4 (F := Ideal) c M2 M3 M6 M7 M9 f2 f3 f6 f7 f9)) (canon (diagRun.sl.H10_4 (F := Ideal) c M2 M3 M6 M7 M9 M10 f2 f3 f6 f7 f9 f10)) (canon (diagRun.sl.H11_4 (F := Ideal) c M2 M3 M4 M6 M7 M9 M11 f2 f3 f4 f6 f7 f9 f11)) 3 r :=
  upd_of_head (lgtD (View.readAt (Elt Ideal) M2.view (Rect.unit (s := S512x512) ![0, 384] S512x128.size inb_S512x512_S512x128_0_384).toLoadRect f2) (View.readAt (Elt Ideal) M3.view (Rect.unit (s := S512x512) ![0, 384] S512x128.size inb_S512x512_S512x128_0_384).toLoadRect f3) (View.readAt (Elt Ideal) M6.view (Rect.unit (s := S512x128) ![0, 3] S512x1.size inb_S512x128_S512x1_0_3).toLoadRect f6) (View.readAt (Elt Ideal) M7.view (Rect.unit (s := S1x8x512) ![0, 3, 0] S1x1x512.size inb_S1x8x512_S1x1x512_0_3_0).toLoadRect f7))
    (View.readAt (Elt Ideal) M9.view (Rect.unit (s := S4x512x1) ![3, 0, 0] S1x512x1.size inb_S4x512x1_S1x512x1_3_0_0).toLoadRect f9) (View.readAt (Elt Ideal) M10.view (Rect.unit (s := S4x512x1) ![3, 0, 0] S1x512x1.size inb_S4x512x1_S1x512x1_3_0_0).toLoadRect f10)
    (View.readAt (Elt Ideal) M11.view (Rect.unit (s := S512x512) ![0, 384] S512x128.size inb_S512x512_S512x128_0_384).toLoadRect f11) (View.readAt (Elt Ideal) M4.view (Rect.unit (s := S512x512) ![0, 384] S512x128.size inb_S512x512_S512x128_0_384).toLoadRect f4) _ _ _ _ _ _ _ _ 3 r
    (fun j => lgtD_LGD _ _ _ _ 3 r j _ _ _ _ (fun r d => load2 M2.view f2 3 384 rfl _ r d) (fun r d => load2 M3.view f3 3 384 rfl _ r d)
      (fun r => loadC M6.view f6 _ 3 rfl _ r) (fun j => loadT M7.view f7 _ 3 rfl _ j))
    (load3 M9.view f9 3 3 rfl _ r)
    (load3 M10.view f10 3 3 rfl _ r)
    (fun d => load2 M11.view f11 3 384 rfl _ r d)
    (fun j d => load2 M4.view f4 3 384 rfl _ j d)
    (by unfold diagRun.sl.H9_4 diagRun.sl.H9_3 diagRun.sl.H9_2 diagRun.sl.H9_1; rw [canon3_hit 3 3 rfl]; rfl)
    (by unfold diagRun.sl.H10_4 diagRun.sl.H10_3 diagRun.sl.H10_2 diagRun.sl.H10_1; rw [canon3_hit 3 3 rfl]; rfl)
    (fun d => by unfold diagRun.sl.H11_4 diagRun.sl.H11_3 diagRun.sl.H11_2 diagRun.sl.H11_1; rw [canon2_hit 3 384 rfl]; rfl)

/-- Head 0: the lanes it writes. -/
theorem diag_out0 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (f9 : Bf (F := Ideal) c M9) (f10 : Bf (F := Ideal) c M10) (f11 : Bf (F := Ideal) c M11)
    (hs : ¬(Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) (r : Fin 512) (d : Fin 128) :
    canon (diagRun.sl.H8_4 (F := Ideal) c M2 M3 M4 M5 M6 M7 M9 M10 M11 f2 f3 f4 f5 f6 f7 f9 f10 f11) (ix2 r (col 0 d)) = outAt (M5.view.read (Elt Ideal) f5) (canon (diagRun.sl.H10_4 (F := Ideal) c M2 M3 M6 M7 M9 M10 f2 f3 f6 f7 f9 f10)) (canon (diagRun.sl.H11_4 (F := Ideal) c M2 M3 M4 M6 M7 M9 M11 f2 f3 f4 f6 f7 f9 f11)) 0 r d := by
  have e : canon (diagRun.sl.H8_4 (F := Ideal) c M2 M3 M4 M5 M6 M7 M9 M10 M11 f2 f3 f4 f5 f6 f7 f9 f10 f11) (ix2 r (col 0 d))
      = ost (diagRun.sl.v212 (F := Ideal) c M2 M3 M4 M6 M7 M9 M11 f2 f3 f4 f6 f7 f9 f11) (diagRun.sl.v213 (F := Ideal) c M2 M3 M6 M7 M9 M10 f2 f3 f6 f7 f9 f10) (View.readAt (Elt Ideal) M5.view (Rect.unit (s := S512x512) ![0, 0] S512x128.size inb_S512x512_S512x128_0_0).toLoadRect f5) (ix2 r d) := by
    unfold diagRun.sl.H8_4; rw [canon2_miss 0 384 (by decide), canon2_miss 0 256 (by decide), canon2_miss 0 128 (by decide), canon2_hit 0 0 rfl]; rfl
  rw [e, ost_apply, load2 M5.view f5 0 0 rfl]
  unfold diagRun.sl.v212 diagRun.sl.v213
  rw [cov2 _ _ 0 0 rfl, cov3 _ _ 0 0 rfl]
  rfl

/-- Head 1: the lanes it writes. -/
theorem diag_out1 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (f9 : Bf (F := Ideal) c M9) (f10 : Bf (F := Ideal) c M10) (f11 : Bf (F := Ideal) c M11)
    (hs : ¬(Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) (r : Fin 512) (d : Fin 128) :
    canon (diagRun.sl.H8_4 (F := Ideal) c M2 M3 M4 M5 M6 M7 M9 M10 M11 f2 f3 f4 f5 f6 f7 f9 f10 f11) (ix2 r (col 1 d)) = outAt (M5.view.read (Elt Ideal) f5) (canon (diagRun.sl.H10_4 (F := Ideal) c M2 M3 M6 M7 M9 M10 f2 f3 f6 f7 f9 f10)) (canon (diagRun.sl.H11_4 (F := Ideal) c M2 M3 M4 M6 M7 M9 M11 f2 f3 f4 f6 f7 f9 f11)) 1 r d := by
  have e : canon (diagRun.sl.H8_4 (F := Ideal) c M2 M3 M4 M5 M6 M7 M9 M10 M11 f2 f3 f4 f5 f6 f7 f9 f10 f11) (ix2 r (col 1 d))
      = ost (diagRun.sl.v228 (F := Ideal) c M2 M3 M4 M6 M7 M9 M11 f2 f3 f4 f6 f7 f9 f11) (diagRun.sl.v229 (F := Ideal) c M2 M3 M6 M7 M9 M10 f2 f3 f6 f7 f9 f10) (View.readAt (Elt Ideal) M5.view (Rect.unit (s := S512x512) ![0, 128] S512x128.size inb_S512x512_S512x128_0_128).toLoadRect f5) (ix2 r d) := by
    unfold diagRun.sl.H8_4; rw [canon2_miss 1 384 (by decide), canon2_miss 1 256 (by decide), canon2_hit 1 128 rfl]; rfl
  rw [e, ost_apply, load2 M5.view f5 1 128 rfl]
  unfold diagRun.sl.v228 diagRun.sl.v229
  rw [cov2 _ _ 1 128 rfl, cov3 _ _ 1 1 rfl]
  rfl

/-- Head 2: the lanes it writes. -/
theorem diag_out2 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (f9 : Bf (F := Ideal) c M9) (f10 : Bf (F := Ideal) c M10) (f11 : Bf (F := Ideal) c M11)
    (hs : ¬(Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) (r : Fin 512) (d : Fin 128) :
    canon (diagRun.sl.H8_4 (F := Ideal) c M2 M3 M4 M5 M6 M7 M9 M10 M11 f2 f3 f4 f5 f6 f7 f9 f10 f11) (ix2 r (col 2 d)) = outAt (M5.view.read (Elt Ideal) f5) (canon (diagRun.sl.H10_4 (F := Ideal) c M2 M3 M6 M7 M9 M10 f2 f3 f6 f7 f9 f10)) (canon (diagRun.sl.H11_4 (F := Ideal) c M2 M3 M4 M6 M7 M9 M11 f2 f3 f4 f6 f7 f9 f11)) 2 r d := by
  have e : canon (diagRun.sl.H8_4 (F := Ideal) c M2 M3 M4 M5 M6 M7 M9 M10 M11 f2 f3 f4 f5 f6 f7 f9 f10 f11) (ix2 r (col 2 d))
      = ost (diagRun.sl.v244 (F := Ideal) c M2 M3 M4 M6 M7 M9 M11 f2 f3 f4 f6 f7 f9 f11) (diagRun.sl.v245 (F := Ideal) c M2 M3 M6 M7 M9 M10 f2 f3 f6 f7 f9 f10) (View.readAt (Elt Ideal) M5.view (Rect.unit (s := S512x512) ![0, 256] S512x128.size inb_S512x512_S512x128_0_256).toLoadRect f5) (ix2 r d) := by
    unfold diagRun.sl.H8_4; rw [canon2_miss 2 384 (by decide), canon2_hit 2 256 rfl]; rfl
  rw [e, ost_apply, load2 M5.view f5 2 256 rfl]
  unfold diagRun.sl.v244 diagRun.sl.v245
  rw [cov2 _ _ 2 256 rfl, cov3 _ _ 2 2 rfl]
  rfl

/-- Head 3: the lanes it writes. -/
theorem diag_out3 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (f9 : Bf (F := Ideal) c M9) (f10 : Bf (F := Ideal) c M10) (f11 : Bf (F := Ideal) c M11)
    (hs : ¬(Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) (r : Fin 512) (d : Fin 128) :
    canon (diagRun.sl.H8_4 (F := Ideal) c M2 M3 M4 M5 M6 M7 M9 M10 M11 f2 f3 f4 f5 f6 f7 f9 f10 f11) (ix2 r (col 3 d)) = outAt (M5.view.read (Elt Ideal) f5) (canon (diagRun.sl.H10_4 (F := Ideal) c M2 M3 M6 M7 M9 M10 f2 f3 f6 f7 f9 f10)) (canon (diagRun.sl.H11_4 (F := Ideal) c M2 M3 M4 M6 M7 M9 M11 f2 f3 f4 f6 f7 f9 f11)) 3 r d := by
  have e : canon (diagRun.sl.H8_4 (F := Ideal) c M2 M3 M4 M5 M6 M7 M9 M10 M11 f2 f3 f4 f5 f6 f7 f9 f10 f11) (ix2 r (col 3 d))
      = ost (diagRun.sl.v260 (F := Ideal) c M2 M3 M4 M6 M7 M9 M11 f2 f3 f4 f6 f7 f9 f11) (diagRun.sl.v261 (F := Ideal) c M2 M3 M6 M7 M9 M10 f2 f3 f6 f7 f9 f10) (View.readAt (Elt Ideal) M5.view (Rect.unit (s := S512x512) ![0, 384] S512x128.size inb_S512x512_S512x128_0_384).toLoadRect f5) (ix2 r d) := by
    unfold diagRun.sl.H8_4; rw [canon2_hit 3 384 rfl]; rfl
  rw [e, ost_apply, load2 M5.view f5 3 384 rfl]
  unfold diagRun.sl.v260 diagRun.sl.v261
  rw [cov2 _ _ 3 384 rfl, cov3 _ _ 3 3 rfl]
  rfl

set_option maxHeartbeats 4000000 in
/-- What the body writes at such a point. -/
theorem diag_out (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (f9 : Bf (F := Ideal) c M9) (f10 : Bf (F := Ideal) c M10) (f11 : Bf (F := Ideal) c M11)
    (hs : ¬(Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) : ∃ m' l' a',
    (∀ h r, UpdAt (LGD (M2.view.read (Elt Ideal) f2) (M3.view.read (Elt Ideal) f3) (M6.view.read (Elt Ideal) f6) (M7.view.read (Elt Ideal) f7) h r) (M4.view.read (Elt Ideal) f4) (M9.view.read (Elt Ideal) f9) (M10.view.read (Elt Ideal) f10) (M11.view.read (Elt Ideal) f11) m' l' a' h r)
    ∧ ∀ (h : Fin 4) (r : Fin 512) (d : Fin 128), M8.view.read (Elt Ideal) (diagRun (F := Ideal) c i M0 h0 M1 h1 M2 h2 M3 h3 M4 h4 M5 h5 M6 h6 M7 h7 M8 h8 M9 h9 M10 h10 M11 h11 f0 f1 f2 f3 f4 f5 f6 f7 f9 f10 f11 hs hl hd).1.1 (ix2 r (col h d)) = outAt (M5.view.read (Elt Ideal) f5) l' a' h r d := by
  refine ⟨canon (diagRun.sl.H9_4 (F := Ideal) c M2 M3 M6 M7 M9 f2 f3 f6 f7 f9), canon (diagRun.sl.H10_4 (F := Ideal) c M2 M3 M6 M7 M9 M10 f2 f3 f6 f7 f9 f10), canon (diagRun.sl.H11_4 (F := Ideal) c M2 M3 M4 M6 M7 M9 M11 f2 f3 f4 f6 f7 f9 f11), fun h r => ?_, fun h r d => ?_⟩
  · fin_cases h
    · exact diag_upd0 c i M0 h0 M1 h1 M2 h2 M3 h3 M4 h4 M5 h5 M6 h6 M7 h7 M8 h8 M9 h9 M10 h10 M11 h11 f0 f1 f2 f3 f4 f5 f6 f7 f9 f10 f11 hs hl hd r
    · exact diag_upd1 c i M0 h0 M1 h1 M2 h2 M3 h3 M4 h4 M5 h5 M6 h6 M7 h7 M8 h8 M9 h9 M10 h10 M11 h11 f0 f1 f2 f3 f4 f5 f6 f7 f9 f10 f11 hs hl hd r
    · exact diag_upd2 c i M0 h0 M1 h1 M2 h2 M3 h3 M4 h4 M5 h5 M6 h6 M7 h7 M8 h8 M9 h9 M10 h10 M11 h11 f0 f1 f2 f3 f4 f5 f6 f7 f9 f10 f11 hs hl hd r
    · exact diag_upd3 c i M0 h0 M1 h1 M2 h2 M3 h3 M4 h4 M5 h5 M6 h6 M7 h7 M8 h8 M9 h9 M10 h10 M11 h11 f0 f1 f2 f3 f4 f5 f6 f7 f9 f10 f11 hs hl hd r
  · have e8 : M8.view.read (Elt Ideal) (diagRun (F := Ideal) c i M0 h0 M1 h1 M2 h2 M3 h3 M4 h4 M5 h5 M6 h6 M7 h7 M8 h8 M9 h9 M10 h10 M11 h11 f0 f1 f2 f3 f4 f5 f6 f7 f9 f10 f11 hs hl hd).1.1 = canon (diagRun.sl.H8_4 (F := Ideal) c M2 M3 M4 M5 M6 M7 M9 M10 M11 f2 f3 f4 f5 f6 f7 f9 f10 f11) := read_writes_junk_eq_canon _ _
    rw [e8]
    fin_cases h
    · exact diag_out0 c i M0 h0 M1 h1 M2 h2 M3 h3 M4 h4 M5 h5 M6 h6 M7 h7 M8 h8 M9 h9 M10 h10 M11 h11 f0 f1 f2 f3 f4 f5 f6 f7 f9 f10 f11 hs hl hd r d
    · exact diag_out1 c i M0 h0 M1 h1 M2 h2 M3 h3 M4 h4 M5 h5 M6 h6 M7 h7 M8 h8 M9 h9 M10 h10 M11 h11 f0 f1 f2 f3 f4 f5 f6 f7 f9 f10 f11 hs hl hd r d
    · exact diag_out2 c i M0 h0 M1 h1 M2 h2 M3 h3 M4 h4 M5 h5 M6 h6 M7 h7 M8 h8 M9 h9 M10 h10 M11 h11 f0 f1 f2 f3 f4 f5 f6 f7 f9 f10 f11 hs hl hd r d
    · exact diag_out3 c i M0 h0 M1 h1 M2 h2 M3 h3 M4 h4 M5 h5 M6 h6 M7 h7 M8 h8 M9 h9 M10 h10 M11 h11 f0 f1 f2 f3 f4 f5 f6 f7 f9 f10 f11 hs hl hd r d

end Cert.KernelIdeal.Fox

end
-- ==== Proof.IOneVal.lean ====
/-
  The attention body's stores at a point that takes the diagonal block alone, head by head, in the values loaded.
-/
module

public import proofs.«01_k».proof.Proof.IRead
public import proofs.«01_k».proof.Proof.IOne

@[expose] public section

set_option maxRecDepth 16384

noncomputable section

namespace Cert.KernelIdeal.Fox

open Cert.KernelIdeal Cert.KernelIdeal.Gen
open Idealize.ShloMosaic Idealize.ShloMosaic.View
open Idealize.ShloMosaic.TcCoe

/-- Head 0: its stores to the running buffers. -/
theorem one_upd0 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (hs : (Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) (r : Fin 512) :
    UpdAt (LGD (M2.view.read (Elt Ideal) f2) (M3.view.read (Elt Ideal) f3) (M6.view.read (Elt Ideal) f6) (M7.view.read (Elt Ideal) f7) 0 r) (M4.view.read (Elt Ideal) f4) (fun _ => ⊥) (fun _ => 0) (fun _ => 0)
      (canon (oneRun.sl.H9_5 (F := Ideal) c M2 M3 M6 M7 M9 f2 f3 f6 f7)) (canon (oneRun.sl.H10_5 (F := Ideal) c M2 M3 M6 M7 M9 M10 f2 f3 f6 f7)) (canon (oneRun.sl.H11_5 (F := Ideal) c M2 M3 M4 M6 M7 M9 M11 f2 f3 f4 f6 f7)) 0 r :=
  upd_of_head (lgtD (View.readAt (Elt Ideal) M2.view (Rect.unit (s := S512x512) ![0, 0] S512x128.size inb_S512x512_S512x128_0_0).toLoadRect f2) (View.readAt (Elt Ideal) M3.view (Rect.unit (s := S512x512) ![0, 0] S512x128.size inb_S512x512_S512x128_0_0).toLoadRect f3) (View.readAt (Elt Ideal) M6.view (Rect.unit (s := S512x128) ![0, 0] S512x1.size inb_S512x128_S512x1_0_0).toLoadRect f6) (View.readAt (Elt Ideal) M7.view (Rect.unit (s := S1x8x512) ![0, 0, 0] S1x1x512.size inb_S1x8x512_S1x1x512_0_0_0).toLoadRect f7))
    (oneRun.sl.v32 (F := Ideal) M9) (oneRun.sl.v42 (F := Ideal) M10)
    (oneRun.sl.v51 (F := Ideal) M11) (View.readAt (Elt Ideal) M4.view (Rect.unit (s := S512x512) ![0, 0] S512x128.size inb_S512x512_S512x128_0_0).toLoadRect f4) _ _ _ _ _ _ _ _ 0 r
    (fun j => lgtD_LGD _ _ _ _ 0 r j _ _ _ _ (fun r d => load2 M2.view f2 0 0 rfl _ r d) (fun r d => load2 M3.view f3 0 0 rfl _ r d)
      (fun r => loadC M6.view f6 _ 0 rfl _ r) (fun j => loadT M7.view f7 _ 0 rfl _ j))
    (by unfold oneRun.sl.v32 oneRun.sl.H9_1; rw [cov3 _ _ 0 0 rfl, fill3, pay1_apply])
    (by unfold oneRun.sl.v42 oneRun.sl.H10_1; rw [cov3 _ _ 0 0 rfl, fill3, pay2_apply])
    (fun d => by unfold oneRun.sl.v51 oneRun.sl.H11_1; rw [cov2 _ _ 0 0 rfl, fill2, pay3_apply])
    (fun j d => load2 M4.view f4 0 0 rfl _ j d)
    (by unfold oneRun.sl.H9_5 oneRun.sl.H9_4 oneRun.sl.H9_3 oneRun.sl.H9_2 oneRun.sl.H9_1; rw [canon3_miss 0 3 (by decide), canon3_miss 0 2 (by decide), canon3_miss 0 1 (by decide), canon3_hit 0 0 rfl]; rfl)
    (by unfold oneRun.sl.H10_5 oneRun.sl.H10_4 oneRun.sl.H10_3 oneRun.sl.H10_2 oneRun.sl.H10_1; rw [canon3_miss 0 3 (by decide), canon3_miss 0 2 (by decide), canon3_miss 0 1 (by decide), canon3_hit 0 0 rfl]; rfl)
    (fun d => by unfold oneRun.sl.H11_5 oneRun.sl.H11_4 oneRun.sl.H11_3 oneRun.sl.H11_2 oneRun.sl.H11_1; rw [canon2_miss 0 384 (by decide), canon2_miss 0 256 (by decide), canon2_miss 0 128 (by decide), canon2_hit 0 0 rfl]; rfl)

/-- Head 1: its stores to the running buffers. -/
theorem one_upd1 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (hs : (Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) (r : Fin 512) :
    UpdAt (LGD (M2.view.read (Elt Ideal) f2) (M3.view.read (Elt Ideal) f3) (M6.view.read (Elt Ideal) f6) (M7.view.read (Elt Ideal) f7) 1 r) (M4.view.read (Elt Ideal) f4) (fun _ => ⊥) (fun _ => 0) (fun _ => 0)
      (canon (oneRun.sl.H9_5 (F := Ideal) c M2 M3 M6 M7 M9 f2 f3 f6 f7)) (canon (oneRun.sl.H10_5 (F := Ideal) c M2 M3 M6 M7 M9 M10 f2 f3 f6 f7)) (canon (oneRun.sl.H11_5 (F := Ideal) c M2 M3 M4 M6 M7 M9 M11 f2 f3 f4 f6 f7)) 1 r :=
  upd_of_head (lgtD (View.readAt (Elt Ideal) M2.view (Rect.unit (s := S512x512) ![0, 128] S512x128.size inb_S512x512_S512x128_0_128).toLoadRect f2) (View.readAt (Elt Ideal) M3.view (Rect.unit (s := S512x512) ![0, 128] S512x128.size inb_S512x512_S512x128_0_128).toLoadRect f3) (View.readAt (Elt Ideal) M6.view (Rect.unit (s := S512x128) ![0, 1] S512x1.size inb_S512x128_S512x1_0_1).toLoadRect f6) (View.readAt (Elt Ideal) M7.view (Rect.unit (s := S1x8x512) ![0, 1, 0] S1x1x512.size inb_S1x8x512_S1x1x512_0_1_0).toLoadRect f7))
    (oneRun.sl.v81 (F := Ideal) c M2 M3 M6 M7 M9 f2 f3 f6 f7) (oneRun.sl.v91 (F := Ideal) c M2 M3 M6 M7 M9 M10 f2 f3 f6 f7)
    (oneRun.sl.v100 (F := Ideal) c M2 M3 M4 M6 M7 M9 M11 f2 f3 f4 f6 f7) (View.readAt (Elt Ideal) M4.view (Rect.unit (s := S512x512) ![0, 128] S512x128.size inb_S512x512_S512x128_0_128).toLoadRect f4) _ _ _ _ _ _ _ _ 1 r
    (fun j => lgtD_LGD _ _ _ _ 1 r j _ _ _ _ (fun r d => load2 M2.view f2 1 128 rfl _ r d) (fun r d => load2 M3.view f3 1 128 rfl _ r d)
      (fun r => loadC M6.view f6 _ 1 rfl _ r) (fun j => loadT M7.view f7 _ 1 rfl _ j))
    (by unfold oneRun.sl.v81 oneRun.sl.H9_2 oneRun.sl.H9_1; rw [cov3 _ _ 1 1 rfl, canon3_miss 1 0 (by decide), fill3, pay1_apply])
    (by unfold oneRun.sl.v91 oneRun.sl.H10_2 oneRun.sl.H10_1; rw [cov3 _ _ 1 1 rfl, canon3_miss 1 0 (by decide), fill3, pay2_apply])
    (fun d => by unfold oneRun.sl.v100 oneRun.sl.H11_2 oneRun.sl.H11_1; rw [cov2 _ _ 1 128 rfl, canon2_miss 1 0 (by decide), fill2, pay3_apply])
    (fun j d => load2 M4.view f4 1 128 rfl _ j d)
    (by unfold oneRun.sl.H9_5 oneRun.sl.H9_4 oneRun.sl.H9_3 oneRun.sl.H9_2 oneRun.sl.H9_1; rw [canon3_miss 1 3 (by decide), canon3_miss 1 2 (by decide), canon3_hit 1 1 rfl]; rfl)
    (by unfold oneRun.sl.H10_5 oneRun.sl.H10_4 oneRun.sl.H10_3 oneRun.sl.H10_2 oneRun.sl.H10_1; rw [canon3_miss 1 3 (by decide), canon3_miss 1 2 (by decide), canon3_hit 1 1 rfl]; rfl)
    (fun d => by unfold oneRun.sl.H11_5 oneRun.sl.H11_4 oneRun.sl.H11_3 oneRun.sl.H11_2 oneRun.sl.H11_1; rw [canon2_miss 1 384 (by decide), canon2_miss 1 256 (by decide), canon2_hit 1 128 rfl]; rfl)

/-- Head 2: its stores to the running buffers. -/
theorem one_upd2 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (hs : (Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) (r : Fin 512) :
    UpdAt (LGD (M2.view.read (Elt Ideal) f2) (M3.view.read (Elt Ideal) f3) (M6.view.read (Elt Ideal) f6) (M7.view.read (Elt Ideal) f7) 2 r) (M4.view.read (Elt Ideal) f4) (fun _ => ⊥) (fun _ => 0) (fun _ => 0)
      (canon (oneRun.sl.H9_5 (F := Ideal) c M2 M3 M6 M7 M9 f2 f3 f6 f7)) (canon (oneRun.sl.H10_5 (F := Ideal) c M2 M3 M6 M7 M9 M10 f2 f3 f6 f7)) (canon (oneRun.sl.H11_5 (F := Ideal) c M2 M3 M4 M6 M7 M9 M11 f2 f3 f4 f6 f7)) 2 r :=
  upd_of_head (lgtD (View.readAt (Elt Ideal) M2.view (Rect.unit (s := S512x512) ![0, 256] S512x128.size inb_S512x512_S512x128_0_256).toLoadRect f2) (View.readAt (Elt Ideal) M3.view (Rect.unit (s := S512x512) ![0, 256] S512x128.size inb_S512x512_S512x128_0_256).toLoadRect f3) (View.readAt (Elt Ideal) M6.view (Rect.unit (s := S512x128) ![0, 2] S512x1.size inb_S512x128_S512x1_0_2).toLoadRect f6) (View.readAt (Elt Ideal) M7.view (Rect.unit (s := S1x8x512) ![0, 2, 0] S1x1x512.size inb_S1x8x512_S1x1x512_0_2_0).toLoadRect f7))
    (oneRun.sl.v130 (F := Ideal) c M2 M3 M6 M7 M9 f2 f3 f6 f7) (oneRun.sl.v140 (F := Ideal) c M2 M3 M6 M7 M9 M10 f2 f3 f6 f7)
    (oneRun.sl.v149 (F := Ideal) c M2 M3 M4 M6 M7 M9 M11 f2 f3 f4 f6 f7) (View.readAt (Elt Ideal) M4.view (Rect.unit (s := S512x512) ![0, 256] S512x128.size inb_S512x512_S512x128_0_256).toLoadRect f4) _ _ _ _ _ _ _ _ 2 r
    (fun j => lgtD_LGD _ _ _ _ 2 r j _ _ _ _ (fun r d => load2 M2.view f2 2 256 rfl _ r d) (fun r d => load2 M3.view f3 2 256 rfl _ r d)
      (fun r => loadC M6.view f6 _ 2 rfl _ r) (fun j => loadT M7.view f7 _ 2 rfl _ j))
    (by unfold oneRun.sl.v130 oneRun.sl.H9_3 oneRun.sl.H9_2 oneRun.sl.H9_1; rw [cov3 _ _ 2 2 rfl, canon3_miss 2 1 (by decide), canon3_miss 2 0 (by decide), fill3, pay1_apply])
    (by unfold oneRun.sl.v140 oneRun.sl.H10_3 oneRun.sl.H10_2 oneRun.sl.H10_1; rw [cov3 _ _ 2 2 rfl, canon3_miss 2 1 (by decide), canon3_miss 2 0 (by decide), fill3, pay2_apply])
    (fun d => by unfold oneRun.sl.v149 oneRun.sl.H11_3 oneRun.sl.H11_2 oneRun.sl.H11_1; rw [cov2 _ _ 2 256 rfl, canon2_miss 2 128 (by decide), canon2_miss 2 0 (by decide), fill2, pay3_apply])
    (fun j d => load2 M4.view f4 2 256 rfl _ j d)
    (by unfold oneRun.sl.H9_5 oneRun.sl.H9_4 oneRun.sl.H9_3 oneRun.sl.H9_2 oneRun.sl.H9_1; rw [canon3_miss 2 3 (by decide), canon3_hit 2 2 rfl]; rfl)
    (by unfold oneRun.sl.H10_5 oneRun.sl.H10_4 oneRun.sl.H10_3 oneRun.sl.H10_2 oneRun.sl.H10_1; rw [canon3_miss 2 3 (by decide), canon3_hit 2 2 rfl]; rfl)
    (fun d => by unfold oneRun.sl.H11_5 oneRun.sl.H11_4 oneRun.sl.H11_3 oneRun.sl.H11_2 oneRun.sl.H11_1; rw [canon2_miss 2 384 (by decide), canon2_hit 2 256 rfl]; rfl)

/-- Head 3: its stores to the running buffers. -/
theorem one_upd3 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (hs : (Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) (r : Fin 512) :
    UpdAt (LGD (M2.view.read (Elt Ideal) f2) (M3.view.read (Elt Ideal) f3) (M6.view.read (Elt Ideal) f6) (M7.view.read (Elt Ideal) f7) 3 r) (M4.view.read (Elt Ideal) f4) (fun _ => ⊥) (fun _ => 0) (fun _ => 0)
      (canon (oneRun.sl.H9_5 (F := Ideal) c M2 M3 M6 M7 M9 f2 f3 f6 f7)) (canon (oneRun.sl.H10_5 (F := Ideal) c M2 M3 M6 M7 M9 M10 f2 f3 f6 f7)) (canon (oneRun.sl.H11_5 (F := Ideal) c M2 M3 M4 M6 M7 M9 M11 f2 f3 f4 f6 f7)) 3 r :=
  upd_of_head (lgtD (View.readAt (Elt Ideal) M2.view (Rect.unit (s := S512x512) ![0, 384] S512x128.size inb_S512x512_S512x128_0_384).toLoadRect f2) (View.readAt (Elt Ideal) M3.view (Rect.unit (s := S512x512) ![0, 384] S512x128.size inb_S512x512_S512x128_0_384).toLoadRect f3) (View.readAt (Elt Ideal) M6.view (Rect.unit (s := S512x128) ![0, 3] S512x1.size inb_S512x128_S512x1_0_3).toLoadRect f6) (View.readAt (Elt Ideal) M7.view (Rect.unit (s := S1x8x512) ![0, 3, 0] S1x1x512.size inb_S1x8x512_S1x1x512_0_3_0).toLoadRect f7))
    (oneRun.sl.v179 (F := Ideal) c M2 M3 M6 M7 M9 f2 f3 f6 f7) (oneRun.sl.v189 (F := Ideal) c M2 M3 M6 M7 M9 M10 f2 f3 f6 f7)
    (oneRun.sl.v198 (F := Ideal) c M2 M3 M4 M6 M7 M9 M11 f2 f3 f4 f6 f7) (View.readAt (Elt Ideal) M4.view (Rect.unit (s := S512x512) ![0, 384] S512x128.size inb_S512x512_S512x128_0_384).toLoadRect f4) _ _ _ _ _ _ _ _ 3 r
    (fun j => lgtD_LGD _ _ _ _ 3 r j _ _ _ _ (fun r d => load2 M2.view f2 3 384 rfl _ r d) (fun r d => load2 M3.view f3 3 384 rfl _ r d)
      (fun r => loadC M6.view f6 _ 3 rfl _ r) (fun j => loadT M7.view f7 _ 3 rfl _ j))
    (by unfold oneRun.sl.v179 oneRun.sl.H9_4 oneRun.sl.H9_3 oneRun.sl.H9_2 oneRun.sl.H9_1; rw [cov3 _ _ 3 3 rfl, canon3_miss 3 2 (by decide), canon3_miss 3 1 (by decide), canon3_miss 3 0 (by decide), fill3, pay1_apply])
    (by unfold oneRun.sl.v189 oneRun.sl.H10_4 oneRun.sl.H10_3 oneRun.sl.H10_2 oneRun.sl.H10_1; rw [cov3 _ _ 3 3 rfl, canon3_miss 3 2 (by decide), canon3_miss 3 1 (by decide), canon3_miss 3 0 (by decide), fill3, pay2_apply])
    (fun d => by unfold oneRun.sl.v198 oneRun.sl.H11_4 oneRun.sl.H11_3 oneRun.sl.H11_2 oneRun.sl.H11_1; rw [cov2 _ _ 3 384 rfl, canon2_miss 3 256 (by decide), canon2_miss 3 128 (by decide), canon2_miss 3 0 (by decide), fill2, pay3_apply])
    (fun j d => load2 M4.view f4 3 384 rfl _ j d)
    (by unfold oneRun.sl.H9_5 oneRun.sl.H9_4 oneRun.sl.H9_3 oneRun.sl.H9_2 oneRun.sl.H9_1; rw [canon3_hit 3 3 rfl]; rfl)
    (by unfold oneRun.sl.H10_5 oneRun.sl.H10_4 oneRun.sl.H10_3 oneRun.sl.H10_2 oneRun.sl.H10_1; rw [canon3_hit 3 3 rfl]; rfl)
    (fun d => by unfold oneRun.sl.H11_5 oneRun.sl.H11_4 oneRun.sl.H11_3 oneRun.sl.H11_2 oneRun.sl.H11_1; rw [canon2_hit 3 384 rfl]; rfl)

/-- Head 0: the lanes it writes. -/
theorem one_out0 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (hs : (Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) (r : Fin 512) (d : Fin 128) :
    canon (oneRun.sl.H8_4 (F := Ideal) c M2 M3 M4 M5 M6 M7 M9 M10 M11 f2 f3 f4 f5 f6 f7) (ix2 r (col 0 d)) = outAt (M5.view.read (Elt Ideal) f5) (canon (oneRun.sl.H10_5 (F := Ideal) c M2 M3 M6 M7 M9 M10 f2 f3 f6 f7)) (canon (oneRun.sl.H11_5 (F := Ideal) c M2 M3 M4 M6 M7 M9 M11 f2 f3 f4 f6 f7)) 0 r d := by
  have e : canon (oneRun.sl.H8_4 (F := Ideal) c M2 M3 M4 M5 M6 M7 M9 M10 M11 f2 f3 f4 f5 f6 f7) (ix2 r (col 0 d))
      = ost (oneRun.sl.v212 (F := Ideal) c M2 M3 M4 M6 M7 M9 M11 f2 f3 f4 f6 f7) (oneRun.sl.v213 (F := Ideal) c M2 M3 M6 M7 M9 M10 f2 f3 f6 f7) (View.readAt (Elt Ideal) M5.view (Rect.unit (s := S512x512) ![0, 0] S512x128.size inb_S512x512_S512x128_0_0).toLoadRect f5) (ix2 r d) := by
    unfold oneRun.sl.H8_4; rw [canon2_miss 0 384 (by decide), canon2_miss 0 256 (by decide), canon2_miss 0 128 (by decide), canon2_hit 0 0 rfl]; rfl
  rw [e, ost_apply, load2 M5.view f5 0 0 rfl]
  unfold oneRun.sl.v212 oneRun.sl.v213
  rw [cov2 _ _ 0 0 rfl, cov3 _ _ 0 0 rfl]
  rfl

/-- Head 1: the lanes it writes. -/
theorem one_out1 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (hs : (Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) (r : Fin 512) (d : Fin 128) :
    canon (oneRun.sl.H8_4 (F := Ideal) c M2 M3 M4 M5 M6 M7 M9 M10 M11 f2 f3 f4 f5 f6 f7) (ix2 r (col 1 d)) = outAt (M5.view.read (Elt Ideal) f5) (canon (oneRun.sl.H10_5 (F := Ideal) c M2 M3 M6 M7 M9 M10 f2 f3 f6 f7)) (canon (oneRun.sl.H11_5 (F := Ideal) c M2 M3 M4 M6 M7 M9 M11 f2 f3 f4 f6 f7)) 1 r d := by
  have e : canon (oneRun.sl.H8_4 (F := Ideal) c M2 M3 M4 M5 M6 M7 M9 M10 M11 f2 f3 f4 f5 f6 f7) (ix2 r (col 1 d))
      = ost (oneRun.sl.v228 (F := Ideal) c M2 M3 M4 M6 M7 M9 M11 f2 f3 f4 f6 f7) (oneRun.sl.v229 (F := Ideal) c M2 M3 M6 M7 M9 M10 f2 f3 f6 f7) (View.readAt (Elt Ideal) M5.view (Rect.unit (s := S512x512) ![0, 128] S512x128.size inb_S512x512_S512x128_0_128).toLoadRect f5) (ix2 r d) := by
    unfold oneRun.sl.H8_4; rw [canon2_miss 1 384 (by decide), canon2_miss 1 256 (by decide), canon2_hit 1 128 rfl]; rfl
  rw [e, ost_apply, load2 M5.view f5 1 128 rfl]
  unfold oneRun.sl.v228 oneRun.sl.v229
  rw [cov2 _ _ 1 128 rfl, cov3 _ _ 1 1 rfl]
  rfl

/-- Head 2: the lanes it writes. -/
theorem one_out2 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (hs : (Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) (r : Fin 512) (d : Fin 128) :
    canon (oneRun.sl.H8_4 (F := Ideal) c M2 M3 M4 M5 M6 M7 M9 M10 M11 f2 f3 f4 f5 f6 f7) (ix2 r (col 2 d)) = outAt (M5.view.read (Elt Ideal) f5) (canon (oneRun.sl.H10_5 (F := Ideal) c M2 M3 M6 M7 M9 M10 f2 f3 f6 f7)) (canon (oneRun.sl.H11_5 (F := Ideal) c M2 M3 M4 M6 M7 M9 M11 f2 f3 f4 f6 f7)) 2 r d := by
  have e : canon (oneRun.sl.H8_4 (F := Ideal) c M2 M3 M4 M5 M6 M7 M9 M10 M11 f2 f3 f4 f5 f6 f7) (ix2 r (col 2 d))
      = ost (oneRun.sl.v244 (F := Ideal) c M2 M3 M4 M6 M7 M9 M11 f2 f3 f4 f6 f7) (oneRun.sl.v245 (F := Ideal) c M2 M3 M6 M7 M9 M10 f2 f3 f6 f7) (View.readAt (Elt Ideal) M5.view (Rect.unit (s := S512x512) ![0, 256] S512x128.size inb_S512x512_S512x128_0_256).toLoadRect f5) (ix2 r d) := by
    unfold oneRun.sl.H8_4; rw [canon2_miss 2 384 (by decide), canon2_hit 2 256 rfl]; rfl
  rw [e, ost_apply, load2 M5.view f5 2 256 rfl]
  unfold oneRun.sl.v244 oneRun.sl.v245
  rw [cov2 _ _ 2 256 rfl, cov3 _ _ 2 2 rfl]
  rfl

/-- Head 3: the lanes it writes. -/
theorem one_out3 (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (hs : (Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) (r : Fin 512) (d : Fin 128) :
    canon (oneRun.sl.H8_4 (F := Ideal) c M2 M3 M4 M5 M6 M7 M9 M10 M11 f2 f3 f4 f5 f6 f7) (ix2 r (col 3 d)) = outAt (M5.view.read (Elt Ideal) f5) (canon (oneRun.sl.H10_5 (F := Ideal) c M2 M3 M6 M7 M9 M10 f2 f3 f6 f7)) (canon (oneRun.sl.H11_5 (F := Ideal) c M2 M3 M4 M6 M7 M9 M11 f2 f3 f4 f6 f7)) 3 r d := by
  have e : canon (oneRun.sl.H8_4 (F := Ideal) c M2 M3 M4 M5 M6 M7 M9 M10 M11 f2 f3 f4 f5 f6 f7) (ix2 r (col 3 d))
      = ost (oneRun.sl.v260 (F := Ideal) c M2 M3 M4 M6 M7 M9 M11 f2 f3 f4 f6 f7) (oneRun.sl.v261 (F := Ideal) c M2 M3 M6 M7 M9 M10 f2 f3 f6 f7) (View.readAt (Elt Ideal) M5.view (Rect.unit (s := S512x512) ![0, 384] S512x128.size inb_S512x512_S512x128_0_384).toLoadRect f5) (ix2 r d) := by
    unfold oneRun.sl.H8_4; rw [canon2_hit 3 384 rfl]; rfl
  rw [e, ost_apply, load2 M5.view f5 3 384 rfl]
  unfold oneRun.sl.v260 oneRun.sl.v261
  rw [cov2 _ _ 3 384 rfl, cov3 _ _ 3 3 rfl]
  rfl

set_option maxHeartbeats 4000000 in
/-- What the body writes at such a point. -/
theorem one_out (c : Dev nD) (i : grid0.Coords)
    (M0 : Memref sig .tc .smem S136 .i32) (h0 : M0.IsWhole)
    (M1 : Memref sig .tc .smem S136 .i32) (h1 : M1.IsWhole)
    (M2 : Memref sig .tc .vmem S512x512 .f32) (h2 : M2.IsWhole)
    (M3 : Memref sig .tc .vmem S512x512 .f32) (h3 : M3.IsWhole)
    (M4 : Memref sig .tc .vmem S512x512 .f32) (h4 : M4.IsWhole)
    (M5 : Memref sig .tc .vmem S512x512 .f32) (h5 : M5.IsWhole)
    (M6 : Memref sig .tc .vmem S512x128 .f32) (h6 : M6.IsWhole)
    (M7 : Memref sig .tc .vmem S1x8x512 .f32) (h7 : M7.IsWhole)
    (M8 : Memref sig .tc .vmem S512x512 .f32) (h8 : M8.IsWhole)
    (M9 : Memref sig .tc .vmem S4x512x1 .f32) (h9 : M9.IsWhole)
    (M10 : Memref sig .tc .vmem S4x512x1 .f32) (h10 : M10.IsWhole)
    (M11 : Memref sig .tc .vmem S512x512 .f32) (h11 : M11.IsWhole)
    (f0 : Bf (F := Ideal) c M0) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7)
    (hs : (Scalar.cmpi .ne (Scalar.extui (Scalar.cmpi .eq (word c i M1 f1) 0#32)) 0#32 = 1#1))
    (hl : ¬(Scalar.cmpi .ne (Scalar.extui (Scalar.cmpi .slt (word c i M1 f1) (word c i M0 f0))) 0#32 = 1#1))
    (hd : (k0_cond3 (word c i M0 f0) (word c i M1 f1) = 1#1)) : ∃ m' l' a',
    (∀ h r, UpdAt (LGD (M2.view.read (Elt Ideal) f2) (M3.view.read (Elt Ideal) f3) (M6.view.read (Elt Ideal) f6) (M7.view.read (Elt Ideal) f7) h r) (M4.view.read (Elt Ideal) f4) (fun _ => ⊥) (fun _ => 0) (fun _ => 0) m' l' a' h r)
    ∧ ∀ (h : Fin 4) (r : Fin 512) (d : Fin 128), M8.view.read (Elt Ideal) (oneRun (F := Ideal) c i M0 h0 M1 h1 M2 h2 M3 h3 M4 h4 M5 h5 M6 h6 M7 h7 M8 h8 M9 h9 M10 h10 M11 h11 f0 f1 f2 f3 f4 f5 f6 f7 hs hl hd).1.1 (ix2 r (col h d)) = outAt (M5.view.read (Elt Ideal) f5) l' a' h r d := by
  refine ⟨canon (oneRun.sl.H9_5 (F := Ideal) c M2 M3 M6 M7 M9 f2 f3 f6 f7), canon (oneRun.sl.H10_5 (F := Ideal) c M2 M3 M6 M7 M9 M10 f2 f3 f6 f7), canon (oneRun.sl.H11_5 (F := Ideal) c M2 M3 M4 M6 M7 M9 M11 f2 f3 f4 f6 f7), fun h r => ?_, fun h r d => ?_⟩
  · fin_cases h
    · exact one_upd0 c i M0 h0 M1 h1 M2 h2 M3 h3 M4 h4 M5 h5 M6 h6 M7 h7 M8 h8 M9 h9 M10 h10 M11 h11 f0 f1 f2 f3 f4 f5 f6 f7 hs hl hd r
    · exact one_upd1 c i M0 h0 M1 h1 M2 h2 M3 h3 M4 h4 M5 h5 M6 h6 M7 h7 M8 h8 M9 h9 M10 h10 M11 h11 f0 f1 f2 f3 f4 f5 f6 f7 hs hl hd r
    · exact one_upd2 c i M0 h0 M1 h1 M2 h2 M3 h3 M4 h4 M5 h5 M6 h6 M7 h7 M8 h8 M9 h9 M10 h10 M11 h11 f0 f1 f2 f3 f4 f5 f6 f7 hs hl hd r
    · exact one_upd3 c i M0 h0 M1 h1 M2 h2 M3 h3 M4 h4 M5 h5 M6 h6 M7 h7 M8 h8 M9 h9 M10 h10 M11 h11 f0 f1 f2 f3 f4 f5 f6 f7 hs hl hd r
  · have e8 : M8.view.read (Elt Ideal) (oneRun (F := Ideal) c i M0 h0 M1 h1 M2 h2 M3 h3 M4 h4 M5 h5 M6 h6 M7 h7 M8 h8 M9 h9 M10 h10 M11 h11 f0 f1 f2 f3 f4 f5 f6 f7 hs hl hd).1.1 = canon (oneRun.sl.H8_4 (F := Ideal) c M2 M3 M4 M5 M6 M7 M9 M10 M11 f2 f3 f4 f5 f6 f7) := read_writes_junk_eq_canon _ _
    rw [e8]
    fin_cases h
    · exact one_out0 c i M0 h0 M1 h1 M2 h2 M3 h3 M4 h4 M5 h5 M6 h6 M7 h7 M8 h8 M9 h9 M10 h10 M11 h11 f0 f1 f2 f3 f4 f5 f6 f7 hs hl hd r d
    · exact one_out1 c i M0 h0 M1 h1 M2 h2 M3 h3 M4 h4 M5 h5 M6 h6 M7 h7 M8 h8 M9 h9 M10 h10 M11 h11 f0 f1 f2 f3 f4 f5 f6 f7 hs hl hd r d
    · exact one_out2 c i M0 h0 M1 h1 M2 h2 M3 h3 M4 h4 M5 h5 M6 h6 M7 h7 M8 h8 M9 h9 M10 h10 M11 h11 f0 f1 f2 f3 f4 f5 f6 f7 hs hl hd r d
    · exact one_out3 c i M0 h0 M1 h1 M2 h2 M3 h3 M4 h4 M5 h5 M6 h6 M7 h7 M8 h8 M9 h9 M10 h10 M11 h11 f0 f1 f2 f3 f4 f5 f6 f7 hs hl hd r d

end Cert.KernelIdeal.Fox

end
-- ==== Proof.IKeeps.lean ====
/-
  What the body keeps of the running buffers and of the block it writes, at the exact arithmetic: the attention over the keys so far.
-/
module

public import proofs.«01_k».proof.Proof.IBlocks
public import proofs.«01_k».proof.Proof.IStepVal
public import proofs.«01_k».proof.Proof.IFirstVal
public import proofs.«01_k».proof.Proof.IDiagVal
public import proofs.«01_k».proof.Proof.IOneVal

@[expose] public section

set_option maxRecDepth 16384

noncomputable section

namespace Cert.KernelIdeal.Fox

open Cert.KernelIdeal Cert.KernelIdeal.Gen
open Idealize.ShloMosaic Idealize.ShloMosaic.Pipeline
open Idealize.ShloMosaic.TcCoe

/-- The running buffers at head `h`, row `r`, hold the maximum, the weight and the weighted sums over the first `n` keys of query `t`. -/
def InvAt (P C : ℕ → ℕ → EReal) (b t n : ℕ) (m l : S4x512x1.Idx → EReal) (a : S512x512.Idx → EReal) (h : Fin 4) (r : Fin 512) : Prop :=
  m (ix3 h r 0) = Soft.top (masked P C b h.val t) n ∧ l (ix3 h r 0) = Soft.weight (masked P C b h.val t) n
    ∧ ∀ d : Fin 128, a (ix2 r (col h d)) = Soft.total (masked P C b h.val t) (value P b h.val d.val) n

/-- Before any key: the maximum at the bottom, the sums zero. -/
theorem inv_zero (P C : ℕ → ℕ → EReal) (b t : ℕ) (h : Fin 4) (r : Fin 512) : InvAt P C b t 0 (fun _ => ⊥) (fun _ => 0) (fun _ => 0) h r :=
  ⟨(Soft.top_zero _).symm, (Soft.weight_zero _).symm, fun _ => (Soft.total_zero _ _).symm⟩

/-- One block of keys more. -/
theorem inv_step {P C : ℕ → ℕ → EReal} (H : Real2 P C) (b t n : ℕ) {lg : Fin 512 → EReal} {v : S512x512.Idx → EReal}
    {m l m' l' : S4x512x1.Idx → EReal} {a a' : S512x512.Idx → EReal} (h : Fin 4) (r : Fin 512)
    (hlg : ∀ j : Fin 512, lg j = masked P C b h.val t (n + j.val))
    (hv : ∀ (j : Fin 512) (d : Fin 128), v (ix2 j (col h d)) = value P b h.val d.val (n + j.val))
    (hi : InvAt P C b t n m l a h r) (hu : UpdAt lg v m l a m' l' a' h r) : InvAt P C b t (n + 512) m' l' a' h r := by
  have hT := masked_ne_top H b h.val t h.isLt
  have hB : Soft.top (masked P C b h.val t) (n + 512) ≠ ⊥ := Soft.top_ne_bot (s := 0) (by omega) (masked_zero H b h.val t h.isLt)
  obtain ⟨i1, i2, i3⟩ := hi
  obtain ⟨u1, u2, u3⟩ := hu
  have hlg' : lg = fun j : Fin 512 => masked P C b h.val t (n + j.val) := funext hlg
  have e1 : m' (ix3 h r 0) = Soft.top (masked P C b h.val t) (n + 512) := by
    rw [u1, i1, hlg', Soft.top_block]
  refine ⟨e1, ?_, fun d => ?_⟩
  · rw [u2, e1, i1, i2, hlg', Soft.weight_block hT n 512 hB]
  · rw [u3, e1, i1, i3, hlg', Soft.total_block _ hT n 512 hB]
    congr 1
    exact Finset.sum_congr rfl fun j _ => by rw [hv]

variable (m : (ℓ : Loc nD τ sig) → Buf (Elt Ideal) ℓ)

/-- What is kept: of the running buffers the attention over the keys before the point's block, of the block written the attention. -/
def keep (c : Dev nD) : Keep Ideal where
  I n mb lb ab := kn (jn n) ≠ 0 → ∀ (h : Fin 4) (r : Fin 512),
    InvAt (PP m c) (CC m c) (bn n) (512 * qn (jn n) + r.val) (512 * kn (jn n)) mb lb ab h r
  O n X := ∀ (h : Fin 4) (r : Fin 512) (d : Fin 128),
    X (ix2 r (col h d)) = result (PP m c) (CC m c) 8192 (bn n) h.val d.val (512 * qn (jn n) + r.val)

/-- The logits of the blocks at point `t`. -/
theorem lg_blk (c : Dev nD) (t : Fin grid0.N) (h : Fin 4) (r j : Fin 512) :
    LG (blkOf (entry m) c 0 t) (blkOf (entry m) c 1 t) (blkOf (entry m) c 4 t) (blkOf (entry m) c 5 t) h r j
      = logit (PP m c) (CC m c) (bn t.val) h.val (512 * qn (jn t.val) + r.val) (512 * kn (jn t.val) + j.val) := by
  unfold LG logit
  congr 1
  · congr 1
    exact Finset.sum_congr rfl fun d _ => by rw [blk0, blk1]; rfl
  · rw [blk4, blk5 m c t _ h.isLt]

/-- Below the diagonal nothing is masked. -/
theorem lg_below (c : Dev nD) (t : Fin grid0.N) (hk : kn (jn t.val) < qn (jn t.val)) (h : Fin 4) (r j : Fin 512) :
    LG (blkOf (entry m) c 0 t) (blkOf (entry m) c 1 t) (blkOf (entry m) c 4 t) (blkOf (entry m) c 5 t) h r j
      = masked (PP m c) (CC m c) (bn t.val) h.val (512 * qn (jn t.val) + r.val) (512 * kn (jn t.val) + j.val) := by
  have := j.isLt
  rw [lg_blk]
  unfold masked
  rw [if_pos (by omega)]

/-- On the diagonal the mask is the comparison of the places within the block. -/
theorem lg_diag (c : Dev nD) (t : Fin grid0.N) (hk : kn (jn t.val) = qn (jn t.val)) (h : Fin 4) (r j : Fin 512) :
    LGD (blkOf (entry m) c 0 t) (blkOf (entry m) c 1 t) (blkOf (entry m) c 4 t) (blkOf (entry m) c 5 t) h r j
      = masked (PP m c) (CC m c) (bn t.val) h.val (512 * qn (jn t.val) + r.val) (512 * kn (jn t.val) + j.val) := by
  unfold LGD masked
  rw [lg_blk]
  by_cases hc : j.val ≤ r.val
  · rw [if_pos hc, if_pos (by omega)]
  · rw [if_neg hc, if_neg (by omega)]

/-- The values of the block at point `t`. -/
theorem val_blk (c : Dev nD) (t : Fin grid0.N) (h : Fin 4) (j : Fin 512) (d : Fin 128) :
    blkOf (entry m) c 2 t (ix2 j (col h d)) = value (PP m c) (bn t.val) h.val d.val (512 * kn (jn t.val) + j.val) := by
  rw [blk2]; rfl

/-- What a diagonal point writes, from what its running buffers hold after its block. -/
theorem out_blk (c : Dev nD) (t : Fin grid0.N) (hk : kn (jn t.val) = qn (jn t.val)) (h : Fin 4) (r : Fin 512) (d : Fin 128)
    {mb lb : S4x512x1.Idx → EReal} {ab : S512x512.Idx → EReal}
    (hi : InvAt (PP m c) (CC m c) (bn t.val) (512 * qn (jn t.val) + r.val) (512 * kn (jn t.val) + 512) mb lb ab h r) :
    outAt (blkOf (entry m) c 3 t) lb ab h r d
      = result (PP m c) (CC m c) 8192 (bn t.val) h.val d.val (512 * qn (jn t.val) + r.val) := by
  have := r.isLt
  have := qn_lt (jn t.val)
  obtain ⟨-, h2, h3⟩ := hi
  rw [result_cut (bn t.val) h.val d.val (512 * qn (jn t.val) + r.val) (512 * kn (jn t.val) + 512) 8192 (by omega) (by omega)]
  unfold outAt result gate
  rw [h2, h3, blk3]
  rfl

/-- The point after one below the diagonal finds the buffers as that one left them. -/
theorem inv_next (c : Dev nD) (t : Fin grid0.N) (hk : kn (jn t.val) < qn (jn t.val)) {mb lb : S4x512x1.Idx → EReal} {ab : S512x512.Idx → EReal}
    (hi : ∀ h r, InvAt (PP m c) (CC m c) (bn t.val) (512 * qn (jn t.val) + r.val) (512 * kn (jn t.val) + 512) mb lb ab h r) :
    (keep m c).I (t.val + 1) mb lb ab := by
  intro _ h r
  obtain ⟨n1, n2, n3⟩ := next_below t hk
  rw [n1, n2, n3]
  exact hi h r

set_option maxHeartbeats 4000000 in
/-- The body keeps it. -/
theorem keeps (c : Dev nD) (H : Real2 (PP m c) (CC m c)) : Keeps (entry m) c (keep m c) where
  fresh n hn mb lb ab := fun h => absurd hn h
  step := by
    intro t M2 h2 M3 h3 M4 h4 M5 h5 M6 h6 M7 h7 M8 h8 f2 f3 f4 f5 f6 f7 mb lb ab hs hl hd e2 e3 e4 e5 e6 e7 hi
    have hs' : ¬ isFirst (jn t.val) := by unfold isFirst; rw [← coords_snd, ← word_k (F := Ideal) c]; exact hs
    have hl' : isBelow (jn t.val) := by unfold isBelow; rw [← coords_snd, ← word_k (F := Ideal) c, ← word_q (F := Ideal) c]; exact hl
    rw [isFirst_iff] at hs'
    rw [isBelow_iff] at hl'
    refine inv_next m c t hl' fun h r => ?_
    have hu := step_upd c (grid0.coords t) (Memref.whole main_c) (Memref.isWhole_whole _) (Memref.whole main_c_0) (Memref.isWhole_whole _) M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (tabs (F := Ideal) 0) (tabs (F := Ideal) 1) f2 f3 f4 f5 f6 f7 mb lb ab hs hl hd h r
    rw [e2, e3, e4, e6, e7] at hu
    exact inv_step H _ _ _ h r (lg_below m c t hl' h r) (val_blk m c t h) (hi hs' h r) hu
  first := by
    intro t M2 h2 M3 h3 M4 h4 M5 h5 M6 h6 M7 h7 M8 h8 f2 f3 f4 f5 f6 f7 hs hl hd e2 e3 e4 e5 e6 e7
    have hs' : isFirst (jn t.val) := by unfold isFirst; rw [← coords_snd, ← word_k (F := Ideal) c]; exact hs
    have hl' : isBelow (jn t.val) := by unfold isBelow; rw [← coords_snd, ← word_k (F := Ideal) c, ← word_q (F := Ideal) c]; exact hl
    rw [isFirst_iff] at hs'
    rw [isBelow_iff] at hl'
    refine inv_next m c t hl' fun h r => ?_
    have hu := first_upd c (grid0.coords t) (Memref.whole main_c) (Memref.isWhole_whole _) (Memref.whole main_c_0) (Memref.isWhole_whole _) M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (tabs (F := Ideal) 0) (tabs (F := Ideal) 1) f2 f3 f4 f5 f6 f7 hs hl hd h r
    rw [e2, e3, e4, e6, e7] at hu
    refine inv_step H _ _ _ h r (lg_below m c t hl' h r) (val_blk m c t h) ?_ hu
    rw [hs']
    exact inv_zero _ _ _ _ h r
  diag := by
    intro t M2 h2 M3 h3 M4 h4 M5 h5 M6 h6 M7 h7 M8 h8 f2 f3 f4 f5 f6 f7 mb lb ab hs hl hd e2 e3 e4 e5 e6 e7 hi
    have hs' : ¬ isFirst (jn t.val) := by unfold isFirst; rw [← coords_snd, ← word_k (F := Ideal) c]; exact hs
    have hd' : isDiag (jn t.val) := by unfold isDiag; rw [← coords_snd, ← word_k (F := Ideal) c, ← word_q (F := Ideal) c]; exact hd
    rw [isFirst_iff] at hs'
    rw [isDiag_iff] at hd'
    obtain ⟨m', l', a', hu, ho⟩ := diag_out c (grid0.coords t) (Memref.whole main_c) (Memref.isWhole_whole _) (Memref.whole main_c_0) (Memref.isWhole_whole _) M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (tabs (F := Ideal) 0) (tabs (F := Ideal) 1) f2 f3 f4 f5 f6 f7 mb lb ab hs hl hd
    rw [e2, e3, e4, e6, e7] at hu
    rw [e5] at ho
    intro W h r d
    refine (ho h r d).trans (out_blk m c t hd' h r d (mb := m') ?_)
    exact inv_step H _ _ _ h r (lg_diag m c t hd' h r) (val_blk m c t h) (hi hs' h r) (hu h r)
  one := by
    intro t M2 h2 M3 h3 M4 h4 M5 h5 M6 h6 M7 h7 M8 h8 f2 f3 f4 f5 f6 f7 hs hl hd e2 e3 e4 e5 e6 e7
    have hs' : isFirst (jn t.val) := by unfold isFirst; rw [← coords_snd, ← word_k (F := Ideal) c]; exact hs
    have hd' : isDiag (jn t.val) := by unfold isDiag; rw [← coords_snd, ← word_k (F := Ideal) c, ← word_q (F := Ideal) c]; exact hd
    rw [isFirst_iff] at hs'
    rw [isDiag_iff] at hd'
    obtain ⟨m', l', a', hu, ho⟩ := one_out c (grid0.coords t) (Memref.whole main_c) (Memref.isWhole_whole _) (Memref.whole main_c_0) (Memref.isWhole_whole _) M2 h2 M3 h3 M4 h4 M5 h5 M6 h6 M7 h7 M8 h8 (Memref.whole cc0_scratch0) (Memref.isWhole_whole _) (Memref.whole cc0_scratch1) (Memref.isWhole_whole _) (Memref.whole cc0_scratch2) (Memref.isWhole_whole _) (tabs (F := Ideal) 0) (tabs (F := Ideal) 1) f2 f3 f4 f5 f6 f7 hs hl hd
    rw [e2, e3, e4, e6, e7] at hu
    rw [e5] at ho
    intro W h r d
    refine (ho h r d).trans (out_blk m c t hd' h r d (mb := m') ?_)
    refine inv_step H _ _ _ h r (lg_diag m c t hd' h r) (val_blk m c t h) ?_ (hu h r)
    rw [hs']
    exact inv_zero _ _ _ _ h r

end Cert.KernelIdeal.Fox

end
-- ==== Proof.IResult.lean ====
/-
  The kernel's result array: at every row and lane the attention's result.
-/
module

public import proofs.«01_k».proof.Proof.IKeeps
public import proofs.«01_k».proof.Proof.IFrame
public import Idealize.ShloMosaic.Lib.Pipeline.ArrRel
public import Idealize.ShloMosaic.Lib.Pipeline.Covers

@[expose] public section

set_option maxRecDepth 16384

noncomputable section

namespace Cert.KernelIdeal.Fox

open Cert.KernelIdeal Cert.KernelIdeal.Gen
open Idealize.ShloMosaic Idealize.ShloMosaic.Pipeline
open Idealize.ShloMosaic.TcCoe
open Idealize.SL.Sem

/-- The last point is on the diagonal. -/
theorem last_diag : ∀ t : Fin grid0.N, t.val + 1 = grid0.N → kn (jn t.val) = qn (jn t.val) := by decide +kernel

/-- Every query block of both batches is some point's. -/
theorem blocks_all : ∀ n : Fin 32, ∃ t : Fin grid0.N, bn t.val * 16 + qn (jn t.val) = n.val := by decide +kernel

/-- The output is written back at points on the diagonal only. -/
theorem flush_diag (t : Fin grid0.N) (h : ((cfgT (F := Ideal)).win 6).flush t = true) : kn (jn t.val) = qn (jn t.val) := by
  by_contra hne
  obtain ⟨_, n2, n3⟩ := next_below t (lt_of_le_of_ne (kn_le _) hne)
  unfold Window.flush at h
  simp only [Bool.and_eq_true, Bool.or_eq_true, decide_eq_true_eq] at h
  rcases h.2 with hN | ⟨hn, hi⟩
  · exact hne (last_diag t hN)
  · refine hi ?_
    rw [index6, index6]
    show ![bn (t.val + 1) * 16 + qn (jn (t.val + 1)), 0] = _
    rw [n2, n3]

/-- The written blocks cover the array. -/
theorem covers6 : ((cfgT (F := Ideal)).win 6).Covers := by
  refine Window.covers_of_index_surj ((cfgT (F := Ideal)).win 6) rfl ?_ fun β => ?_
  · intro a
    match a with
    | ⟨0, _⟩ => show 0 < 512; omega
    | ⟨1, _⟩ => show 0 < 512; omega
  · have n0 : ((cfgT (F := Ideal)).win 6).nblk (0 : Fin 2) = 32 := rfl
    have n1 : ((cfgT (F := Ideal)).win 6).nblk (1 : Fin 2) = 1 := rfl
    obtain ⟨t, ht⟩ := blocks_all ⟨(β (0 : Fin 2)).val, lt_of_lt_of_eq (β (0 : Fin 2)).isLt n0⟩
    refine ⟨t, fun a => ?_⟩
    rw [index6]
    match a with
    | ⟨0, _⟩ => exact ht
    | ⟨1, _⟩ =>
      have h1 : (β (1 : Fin 2)).val < 1 := lt_of_lt_of_eq (β (1 : Fin 2)).isLt n1
      show 0 = (β (1 : Fin 2)).val
      omega

variable (m : (ℓ : Loc nD τ sig) → Buf (Elt Ideal) ℓ)

/-- The result array. -/
def outArr (c : Dev nD) : Buf (Elt Ideal) ((c.tc : Thread nD τ).loc main_v4) :=
  fun i => res (PP m c) (CC m c) (i 0).val (i 1).val

/-- What is kept of the output at a diagonal point, at an index of the block. -/
theorem out_at (c : Dev nD) (t : Fin grid0.N) (X : (⟨2, ![512, 512]⟩ : Shape).Idx → EReal)
    (hX : ∀ (h : Fin 4) (r : Fin 512) (d : Fin 128),
      X (ix2 r (col h d)) = result (PP m c) (CC m c) 8192 (bn t.val) h.val d.val (512 * qn (jn t.val) + r.val))
    (r e : Fin 512) : X (ix2 r e) = res (PP m c) (CC m c) ((bn t.val * 16 + qn (jn t.val)) * 512 + r.val) e.val := by
  have h0 := bn_lt t
  have h1 := qn_lt (jn t.val)
  have hr := r.isLt
  have he := e.isLt
  have hc : e = col ⟨e.val / 128, by omega⟩ ⟨e.val % 128, by omega⟩ := Fin.ext (by simp only [col]; omega)
  have hx := hX ⟨e.val / 128, by omega⟩ r ⟨e.val % 128, by omega⟩
  rw [← hc] at hx
  rw [hx]
  unfold res
  have e1 : ((bn t.val * 16 + qn (jn t.val)) * 512 + r.val) / 8192 = bn t.val := by omega
  have e2 : ((bn t.val * 16 + qn (jn t.val)) * 512 + r.val) % 8192 = 512 * qn (jn t.val) + r.val := by omega
  rw [e1, e2]

/-- The output's array after the run. -/
theorem out_arr (c0 c : Dev nD) (hc : c = c0) (r : PUnit × MemSt nD τ sig (Elt Ideal))
    (h : RDat.FramePost (cfgT (F := Ideal)) (fun c => (dat (entry m) (keep m c0) c).toRRel fgt (rel (keep m c0))) (entry m) r) :
    r.2.mem ((c.tc : Thread nD τ).loc main_v4) = outArr m c := by
  subst hc
  obtain ⟨after, hL, hA⟩ := RDat.FramePost.exists_exact (U' := UR sig nD τ) h c
  refine (hA 6).trans ?_
  refine Dat.arrAt_eq_of_covers (RDat.withAfter ((dat (entry m) (keep m c) c).toRRel fgt (rel (keep m c))) after) 6 (outArr m c) covers6 fun t ht y => ?_
  have hl := Dat.toRRel_leaves (dat (entry m) (keep m c) c) (fgt := fgt) (Rl := rel (keep m c)) (w := 6) rfl (hL 6 t ht)
  have ho := hl (flush_diag t ht)
  have hv := out_at m c t (after 6 t) ho ⟨(y 0).val, (y 0).isLt⟩ ⟨(y 1).val, (y 1).isLt⟩
  refine Eq.trans ?_ (hv.trans ?_)
  · show after 6 t _ = after 6 t _
    exact congrArg (after 6 t) (Shape.idx_ext₂ rfl rfl)
  · have i0 := Window.rect_emb_val ((cfgT (F := Ideal)).win 6) t y 0 rfl
    have i1 := Window.rect_emb_val ((cfgT (F := Ideal)).win 6) t y 1 rfl
    rw [index6] at i0 i1
    show _ = res (PP m c) (CC m c) ((((cfgT (F := Ideal)).win 6).rect t).emb y 0).val ((((cfgT (F := Ideal)).win 6).rect t).emb y 1).val
    rw [i0, i1]
    show res _ _ ((bn t.val * 16 + qn (jn t.val)) * 512 + (y 0).val) (y 1).val = res _ _ ((bn t.val * 16 + qn (jn t.val)) * 512 + (y 0).val) (0 * 512 + (y 1).val)
    rw [Nat.zero_mul, Nat.zero_add]

/-- Every execution ends with the result array at its contents and the arguments untouched. -/
theorem value_run (g : Dev nD → PrngReg) (H : ∀ c, Real2 (PP m c) (CC m c)) :
    θ_run (defs (F := Ideal)) (onTc main) ⟨m, fun _ => 0, g⟩ (fun r =>
      ∀ c : Dev nD, r.2.mem ((c.tc : Thread nD τ).loc main_v4) = outArr m c
        ∧ r.2.mem ((c.tc : Thread nD τ).loc main_arg0) = m ((c.tc : Thread nD τ).loc main_arg0)
        ∧ r.2.mem ((c.tc : Thread nD τ).loc main_arg1) = m ((c.tc : Thread nD τ).loc main_arg1)) := by
  have one : ∀ c c' : Dev nD, c = c' := fun c c' => Subsingleton.elim c c'
  refine (θ_run _ _ _).mono (fun r h c => ⟨out_arr m default c (one _ _) r h.1, args_kept m (keep m default) r h.1 c⟩)
    (runs m g (keep m default) fun c => ?_)
  rw [one c default]
  exact keeps m default (H default)

end Cert.KernelIdeal.Fox

end
-- ==== Proof.IPre.lean ====
/-
  What the precondition says: the queries, the keys and the cumulated log forget values are real numbers.
-/
module

public import proofs.«01_k».proof.Defs
public import proofs.«01_k».proof.Proof.Gen.KernelIdeal
public import proofs.«01_k».proof.Proof.Gen.Pre_queries_keys_finite
public import proofs.«01_k».proof.Proof.IBlocks

@[expose] public section

set_option maxRecDepth 16384

noncomputable section

namespace Cert.KernelIdeal.Fox

open Cert.Pre_queries_keys_finite Cert.Pre_queries_keys_finite.Gen
open Idealize.ShloMosaic
open Idealize.ShloMosaic.TcCoe

variable (x : (⟨S16384x4096, .f32⟩ : BufTy).Contents (Elt Ideal)) (y : (⟨S16384x128, .f32⟩ : BufTy).Contents (Elt Ideal))

/-- The single-precision bits of infinity are the top. -/
theorem pinf : Ideal.ofBits .f32 0x7F800000#32 = ⊤ := by simp [Ideal.ofBits, Ideal.ieee]

/-- A number whose absolute value is below the top is real. -/
theorem real_of_abs (v : EReal) (h : BitVec.ofBool (decide ((FloatOps.absf (F := Ideal) (φ := .f32) v : EReal) < Ideal.ofBits .f32 0x7F800000#32)) = 1#1) :
    v ≠ ⊤ ∧ v ≠ ⊥ := by
  have hd : (FloatOps.absf (F := Ideal) (φ := .f32) v : EReal) < ⊤ := by
    rw [← pinf]
    by_contra hn
    rw [decide_eq_false hn] at h
    exact absurd h (by decide)
  have hm : max v (-v) < ⊤ := hd
  refine ⟨fun e => ?_, fun e => ?_⟩
  · rw [e] at hm; simp at hm
  · rw [e] at hm; simp at hm

/-- Where the precondition holds, a query's or key's element is real. -/
theorem pre_qk (H : Cert.Pre_queries_keys_finite.fn (F := Ideal) x y = fun _ => 1#1) (i : Fin 16384) (d : ℕ) (hd : d < 1024) :
    x (ix2 i ⟨2048 + d, by omega⟩) ≠ ⊤ ∧ x (ix2 i ⟨2048 + d, by omega⟩) ≠ ⊥ := by
  have h := congrFun H (ix2 i ⟨d, by omega⟩)
  pointwise [Cert.Pre_queries_keys_finite.fn] at h
  rw [dif_pos hd] at h
  exact real_of_abs _ h

/-- Where it holds, a cumulated log forget value is real. -/
theorem pre_c (H : Cert.Pre_queries_keys_finite.fn (F := Ideal) x y = fun _ => 1#1) (i : Fin 16384) (d : ℕ) (hd : d < 4) :
    y (ix2 i ⟨d, by omega⟩) ≠ ⊤ ∧ y (ix2 i ⟨d, by omega⟩) ≠ ⊥ := by
  have h := congrFun H (ix2 i ⟨1024 + d, by omega⟩)
  pointwise [Cert.Pre_queries_keys_finite.fn] at h
  exact real_of_abs _ h

/-- What is known of the inputs follows. -/
theorem real2 (H : Cert.Pre_queries_keys_finite.fn (F := Ideal) x y = fun _ => 1#1) :
    Real2 (at2 (n := 16384) (m := 4096) x) (at2 (n := 16384) (m := 128) y) where
  q i d hd := by
    by_cases hi : i < 16384
    · rw [at2_of_lt x i (2048 + d) hi (by omega)]
      exact pre_qk x y H ⟨i, hi⟩ d (by omega)
    · unfold at2
      rw [dif_neg (by omega)]
      exact ⟨EReal.zero_ne_top, EReal.zero_ne_bot⟩
  k i d hd := by
    by_cases hi : i < 16384
    · rw [at2_of_lt x i (2560 + d) hi (by omega)]
      have h := pre_qk x y H ⟨i, hi⟩ (512 + d) (by omega)
      have e : (⟨2048 + (512 + d), by omega⟩ : Fin 4096) = ⟨2560 + d, by omega⟩ := Fin.ext (by simp only; omega)
      rw [e] at h
      exact h
    · unfold at2
      rw [dif_neg (by omega)]
      exact ⟨EReal.zero_ne_top, EReal.zero_ne_bot⟩
  c i h hh := by
    by_cases hi : i < 16384
    · rw [at2_of_lt y i h hi (by omega)]
      exact pre_c x y H ⟨i, hi⟩ h hh
    · unfold at2
      rw [dif_neg (by omega)]
      exact ⟨EReal.zero_ne_top, EReal.zero_ne_bot⟩

end Cert.KernelIdeal.Fox

end
-- ==== Proof.RValue.lean ====
/-
  The plain attention, read at an index: its logits, maxima, weights and sums as functions of positions.
-/
module

public import proofs.«01_k».proof.Proof.Model
public import proofs.«01_k».proof.Proof.Gen.ReferenceIdeal.Run
public import Idealize.ShloMosaic.Lib.Pointwise
public import Idealize.ShloMosaic.Lib.WordCmp
public import Idealize.ShloMosaic.PureOps.Ideal.Laws

@[expose] public section

set_option maxRecDepth 16384

noncomputable section

namespace Cert.ReferenceIdeal.Value

open Cert.ReferenceIdeal Cert.ReferenceIdeal.Gen
open Idealize.ShloMosaic
open Idealize.ShloMosaic.TcCoe
open Cert.KernelIdeal.Fox (at2 at2_of_lt Real2 logit logit_eq masked value gate result res scale masked_ne_top masked_zero)
open Cert

variable {F : FTy → Type} [FloatOps F]

/-- The logits, the keys after each query masked. -/
def rlg (x : (⟨S16384x4096, .f32⟩ : BufTy).Contents (Elt F)) (y : (⟨S16384x128, .f32⟩ : BufTy).Contents (Elt F)) : (⟨S2x4x8192x8192, .f32⟩ : BufTy).Contents (Elt F) :=
  select (broadcastInDim S2x4x8192x8192 ![2, 3] bcast_S8192x8192_S2x4x8192x8192_2_3 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (subf (addf (mulf (Host.dotGeneral dot_S2x8192x4x128_S2x8192x4x128_S2x4x8192x8192_3_3_1_1_02_02 none (shapeCast _ (extractStridedSlice S16384x512 ![0, 2048] x slices_S16384x4096_S16384x512_0_2048) shapeCasts_S16384x512_S2x8192x4x128) (shapeCast _ (extractStridedSlice S16384x512 ![0, 2560] x slices_S16384x4096_S16384x512_0_2560) shapeCasts_S16384x512_S2x8192x4x128)) (broadcastInDim S2x4x8192x8192 ![] bcast_S_S2x4x8192x8192 (constant S_ .f32 0x3DB504F3#32))) (broadcastInDim S2x4x8192x8192 ![0, 1, 2, 3] bcast_S2x4x8192x1_S2x4x8192x8192_0_1_2_3 (broadcastInDim S2x4x8192x1 ![0, 1, 2] bcast_S2x4x8192_S2x4x8192x1_0_1_2 (transpose S2x4x8192 [0, 2, 1] (shapeCast _ (extractStridedSlice S16384x4 ![0, 0] y slices_S16384x128_S16384x4_0_0) shapeCasts_S16384x4_S2x8192x4) transposes_S2x8192x4_S2x4x8192_0_2_1)))) (broadcastInDim S2x4x8192x8192 ![0, 1, 2, 3] bcast_S2x4x1x8192_S2x4x8192x8192_0_1_2_3 (broadcastInDim S2x4x1x8192 ![0, 1, 3] bcast_S2x4x8192_S2x4x1x8192_0_1_3 (transpose S2x4x8192 [0, 2, 1] (shapeCast _ (extractStridedSlice S16384x4 ![0, 0] y slices_S16384x128_S16384x4_0_0) shapeCasts_S16384x4_S2x8192x4) transposes_S2x8192x4_S2x4x8192_0_2_1)))) (broadcastInDim S2x4x8192x8192 ![] bcast_S_S2x4x8192x8192 (id (constant S_ .f32 0xFF800000#32)))

/-- Each query's largest logit. -/
def rmx (x : (⟨S16384x4096, .f32⟩ : BufTy).Contents (Elt F)) (y : (⟨S16384x128, .f32⟩ : BufTy).Contents (Elt F)) : (⟨S2x4x8192, .f32⟩ : BufTy).Contents (Elt F) :=
  maximumf (broadcastInDim S2x4x8192 ![] bcast_S_S2x4x8192 (constant S_ .f32 0xFF800000#32)) (Host.reduce FloatOps.maximumf (rlg x y) (constant S_ .f32 0xFF800000#32) reducesTo_S2x4x8192x8192_S2x4x8192_d3 h_S_)

/-- The weights. -/
def rex (x : (⟨S16384x4096, .f32⟩ : BufTy).Contents (Elt F)) (y : (⟨S16384x128, .f32⟩ : BufTy).Contents (Elt F)) : (⟨S2x4x8192x8192, .f32⟩ : BufTy).Contents (Elt F) :=
  Host.exp (subf (rlg x y) (broadcastInDim S2x4x8192x8192 ![0, 1, 2, 3] bcast_S2x4x8192x1_S2x4x8192x8192_0_1_2_3 (broadcastInDim S2x4x8192x1 ![0, 1, 2] bcast_S2x4x8192_S2x4x8192x1_0_1_2 (rmx x y))))

/-- The sum of each query's weights. -/
def rsm (x : (⟨S16384x4096, .f32⟩ : BufTy).Contents (Elt F)) (y : (⟨S16384x128, .f32⟩ : BufTy).Contents (Elt F)) : (⟨S2x4x8192, .f32⟩ : BufTy).Contents (Elt F) :=
  Host.reduceAdd (rex x y) (constant S_ .f32 0x00000000#32) reducesTo_S2x4x8192x8192_S2x4x8192_d3 h_S_

/-- The normalized weights. -/
def rpr (x : (⟨S16384x4096, .f32⟩ : BufTy).Contents (Elt F)) (y : (⟨S16384x128, .f32⟩ : BufTy).Contents (Elt F)) : (⟨S2x4x8192x8192, .f32⟩ : BufTy).Contents (Elt F) :=
  Host.divf (rex x y) (broadcastInDim S2x4x8192x8192 ![0, 1, 2, 3] bcast_S2x4x8192x1_S2x4x8192x8192_0_1_2_3 (broadcastInDim S2x4x8192x1 ![0, 1, 2] bcast_S2x4x8192_S2x4x8192x1_0_1_2 (rsm x y)))

/-- The weighted sums of the values. -/
def rav (x : (⟨S16384x4096, .f32⟩ : BufTy).Contents (Elt F)) (y : (⟨S16384x128, .f32⟩ : BufTy).Contents (Elt F)) : (⟨S2x4x128x8192, .f32⟩ : BufTy).Contents (Elt F) :=
  Host.dotGeneral dot_S2x8192x4x128_S2x4x8192x8192_S2x4x128x8192_1_3_3_2_02_01 none (shapeCast _ (extractStridedSlice S16384x512 ![0, 3072] x slices_S16384x4096_S16384x512_0_3072) shapeCasts_S16384x512_S2x8192x4x128) (rpr x y)

/-- The result. -/
def rout (x : (⟨S16384x4096, .f32⟩ : BufTy).Contents (Elt F)) (y : (⟨S16384x128, .f32⟩ : BufTy).Contents (Elt F)) : (⟨S16384x512, .f32⟩ : BufTy).Contents (Elt F) :=
  mulf (shapeCast S16384x512 (transpose S2x8192x4x128 [0, 3, 1, 2] (rav x y) transposes_S2x4x128x8192_S2x8192x4x128_0_3_1_2) shapeCasts_S2x8192x4x128_S16384x512) (mulf (extractStridedSlice S16384x512 ![0, 3584] x slices_S16384x4096_S16384x512_0_3584) (Host.divf (broadcastInDim S16384x512 ![] bcast_S_S16384x512 (constant S_ .f32 0x3F800000#32)) (addf (broadcastInDim S16384x512 ![] bcast_S_S16384x512 (constant S_ .f32 0x3F800000#32)) (Host.exp (Host.negf (extractStridedSlice S16384x512 ![0, 3584] x slices_S16384x4096_S16384x512_0_3584))))))

set_option maxHeartbeats 4000000 in
/-- The reference's term is that. -/
theorem res_eq (m : (ℓ : Loc nD τ sig) → Buf (Elt F) ℓ) (c : Dev nD) :
    res_main_v41 m c = rout (m ((c.tc : Thread nD τ).loc main_arg0)) (m ((c.tc : Thread nD τ).loc main_arg1)) := rfl

/-- An element of an array, at its positions. -/
theorem elt_eq {n m : ℕ} (x : (⟨2, ![n, m]⟩ : Shape).Idx → EReal) {i j : ℕ} (a : Fin n) (c : Fin m) (ha : a.val = i) (hc : c.val = j) :
    x (ix2 a c) = at2 x i j := by
  subst ha hc
  exact (at2_of_lt x _ _ a.isLt c.isLt).symm

/-- A maximum along the last of four axes. -/
theorem max_last {n0 n1 n2 n3 : ℕ} {u : Shape} (v : FVec Ideal ⟨4, ![n0, n1, n2, n3]⟩ .f32) (init : u.Idx → EReal)
    (h : (⟨4, ![n0, n1, n2, n3]⟩ : Shape).ReducesTo [3] ⟨3, ![n0, n1, n2]⟩) (hu : 0 < u.numel) (a : Fin n0) (b : Fin n1) (c : Fin n2)
    (h0 : init (Shape.Idx.first hu) = ⊥) :
    Host.reduce (FloatOps.maximumf (F := Ideal) (φ := .f32)) v init h hu (ix3 a b c) = (Finset.univ.sup fun k : Fin n3 => (v (ix4 a b c k) : EReal)) := by
  rw [Host.reduce_eq_fold, h.fold_fiber_r4_a3, h0]
  rfl

/-- The largest of the first logits, over the keys. -/
theorem top_fin (L : ℕ → EReal) (n : ℕ) : Soft.top L n = Finset.univ.sup fun j : Fin n => L j.val := by
  have h := Soft.top_block L 0 n
  simpa [Soft.top_zero] using h

variable (x : (⟨S16384x4096, .f32⟩ : BufTy).Contents (Elt Ideal)) (y : (⟨S16384x128, .f32⟩ : BufTy).Contents (Elt Ideal))

/-- The logits. -/
theorem rlg_apply (H : Real2 (at2 (n := 16384) (m := 4096) x) (at2 (n := 16384) (m := 128) y)) (b : Fin 2) (h : Fin 4) (t s : Fin 8192) :
    rlg (F := Ideal) x y (ix4 b h t s) = masked (at2 (n := 16384) (m := 4096) x) (at2 (n := 16384) (m := 128) y) b h t s := by
  pointwise [rlg]
  have hh := h.isLt
  have hr := t.isLt
  have hj := s.isLt
  rw [WordCmp.cmpi_sge_ofNat (by omega) (by omega), Scalar.select_decide]
  unfold masked
  refine if_congr Iff.rfl ?_ KernelIdeal.Fox.ninf
  rw [← logit_eq H b h t s hh, elt_eq (n := 16384) (m := 128) y (i := 8192 * b + t) (j := h) _ _ (by simp only; omega) rfl,
    elt_eq (n := 16384) (m := 128) y (i := 8192 * b + s) (j := h) _ _ (by simp only; omega) rfl]
  refine congrArg (· - _) (congrArg (· + _) (congrArg (· * _) (Finset.sum_congr rfl fun d _ => ?_)))
  exact congrArg₂ (· * ·)
    (elt_eq (n := 16384) (m := 4096) x _ _ (by simp only; omega) (by simp only; omega))
    (elt_eq (n := 16384) (m := 4096) x _ _ (by simp only; omega) (by simp only; omega))

/-- The maximum of two arrays at an index. -/
theorem max_read {s : Shape} (A B : FVec Ideal s .f32) (j : s.Idx) (p q : EReal) (hA : A j = p) (hB : B j = q) : maximumf A B j = max p q := by
  subst hA hB
  rfl

/-- The largest logit, over the keys. -/
theorem reduce_apply (v : FVec Ideal S2x4x8192x8192 .f32) (b : Fin 2) (h : Fin 4) (t : Fin 8192) (L : ℕ → EReal)
    (e : ∀ k : Fin 8192, v (ix4 b h t k) = L k.val) :
    Host.reduce (FloatOps.maximumf (F := Ideal) (φ := .f32)) v (constant (F := Ideal) S_ .f32 0xFF800000#32) reducesTo_S2x4x8192x8192_S2x4x8192_d3 h_S_ (ix3 b h t)
      = Soft.top L 8192 := by
  have i : (constant (F := Ideal) S_ .f32 0xFF800000#32) (Shape.Idx.first h_S_) = (⊥ : EReal) := KernelIdeal.Fox.ninf
  rw [max_last (n0 := 2) (n1 := 4) (n2 := 8192) (n3 := 8192) v _ _ _ b h t i, top_fin]
  exact congrArg Finset.univ.sup (funext e)

/-- The constant array of minus infinity, at an index. -/
theorem ninf_apply (j : S2x4x8192.Idx) :
    broadcastInDim S2x4x8192 ![] bcast_S_S2x4x8192 (constant (F := Ideal) S_ .f32 0xFF800000#32) j = (⊥ : EReal) := KernelIdeal.Fox.ninf

/-- The largest logit. -/
theorem rmx_apply (H : Real2 (at2 (n := 16384) (m := 4096) x) (at2 (n := 16384) (m := 128) y)) (b : Fin 2) (h : Fin 4) (t : Fin 8192) :
    rmx (F := Ideal) x y (ix3 b h t) = Soft.top (masked (at2 (n := 16384) (m := 4096) x) (at2 (n := 16384) (m := 128) y) b h t) 8192 := by
  unfold rmx
  rw [max_read _ _ _ _ _ (ninf_apply _) (reduce_apply _ b h t _ fun k => rlg_apply x y H b h t k), max_eq_right bot_le]

/-- A weight. -/
theorem rex_apply (H : Real2 (at2 (n := 16384) (m := 4096) x) (at2 (n := 16384) (m := 128) y)) (b : Fin 2) (h : Fin 4) (t s : Fin 8192) :
    rex (F := Ideal) x y (ix4 b h t s)
      = Ideal.exp (masked (at2 (n := 16384) (m := 4096) x) (at2 (n := 16384) (m := 128) y) b h t s
        - Soft.top (masked (at2 (n := 16384) (m := 4096) x) (at2 (n := 16384) (m := 128) y) b h t) 8192) := by
  pointwise [rex]
  rw [rlg_apply x y H, rmx_apply x y H]

/-- The sum of the weights. -/
theorem rsm_apply (H : Real2 (at2 (n := 16384) (m := 4096) x) (at2 (n := 16384) (m := 128) y)) (b : Fin 2) (h : Fin 4) (t : Fin 8192) :
    rsm (F := Ideal) x y (ix3 b h t) = Soft.weight (masked (at2 (n := 16384) (m := 4096) x) (at2 (n := 16384) (m := 128) y) b h t) 8192 := by
  pointwise [rsm]
  unfold Soft.weight
  rw [Finset.sum_range]
  exact Finset.sum_congr rfl fun k _ => rex_apply x y H b h t k

/-- A normalized weight. -/
theorem rpr_apply (H : Real2 (at2 (n := 16384) (m := 4096) x) (at2 (n := 16384) (m := 128) y)) (b : Fin 2) (h : Fin 4) (t s : Fin 8192) :
    rpr (F := Ideal) x y (ix4 b h t s)
      = Ideal.div (Ideal.exp (masked (at2 (n := 16384) (m := 4096) x) (at2 (n := 16384) (m := 128) y) b h t s
          - Soft.top (masked (at2 (n := 16384) (m := 4096) x) (at2 (n := 16384) (m := 128) y) b h t) 8192))
        (Soft.weight (masked (at2 (n := 16384) (m := 4096) x) (at2 (n := 16384) (m := 128) y) b h t) 8192) := by
  pointwise [rpr]
  rw [rex_apply x y H, rsm_apply x y H]

/-- The weighted sum of the values. -/
theorem rav_apply (H : Real2 (at2 (n := 16384) (m := 4096) x) (at2 (n := 16384) (m := 128) y)) (b : Fin 2) (h : Fin 4) (d : Fin 128) (t : Fin 8192) :
    rav (F := Ideal) x y (ix4 b h d t)
      = Ideal.div (Soft.total (masked (at2 (n := 16384) (m := 4096) x) (at2 (n := 16384) (m := 128) y) b h t)
          (value (at2 (n := 16384) (m := 4096) x) b h d) 8192)
        (Soft.weight (masked (at2 (n := 16384) (m := 4096) x) (at2 (n := 16384) (m := 128) y) b h t) 8192) := by
  pointwise [rav]
  have hp : (0 : ℕ) < 8192 := Nat.lt_of_le_of_lt (Nat.zero_le _) t.isLt
  rw [Soft.div_total _ (masked_ne_top H b h t h.isLt) hp (masked_zero H b h t h.isLt), Finset.sum_range]
  refine Finset.sum_congr rfl fun k _ => ?_
  rw [rpr_apply x y H]
  exact congrArg (· * _) (elt_eq (n := 16384) (m := 4096) x _ _ (by simp only; omega) (by simp only; omega))

/-- The result. -/
theorem rout_apply (H : Real2 (at2 (n := 16384) (m := 4096) x) (at2 (n := 16384) (m := 128) y)) (i : Fin 16384) (e : Fin 512) :
    rout (F := Ideal) x y (ix2 i e) = res (at2 (n := 16384) (m := 4096) x) (at2 (n := 16384) (m := 128) y) i e := by
  pointwise [rout]
  rw [rav_apply x y H]
  unfold res result gate
  rw [zero_sub, elt_eq (n := 16384) (m := 4096) x (i := 8192 * (i.val / 8192) + i.val % 8192)
    (j := 3584 + (128 * (e.val / 128) + e.val % 128)) _ _ (by omega) (by simp only; omega)]

end Cert.ReferenceIdeal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_queries_keys_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.EArr
public import proofs.«01_k».proof.Proof.ERef
public import proofs.«01_k».proof.Proof.OProj
public import proofs.«01_k».proof.Proof.OOut
public import proofs.«01_k».proof.Proof.OFin
public import proofs.«01_k».proof.Proof.ORef3
public import proofs.«01_k».proof.Proof.ORef4
public import proofs.«01_k».proof.Proof.ORef5
public import proofs.«01_k».proof.Proof.KFrame
public import proofs.«01_k».proof.Proof.IFrame
public import proofs.«01_k».proof.Proof.IResult
public import proofs.«01_k».proof.Proof.IPre
public import proofs.«01_k».proof.Proof.RValue
public import Idealize.ShloMosaic.Lib.Quiescent

@[expose] public section

noncomputable section

namespace Cert.Proof

open Idealize.ShloMosaic Idealize.SL.Sem

/-- The kernel runs to completion and leaves its arguments alone. -/
theorem kernel_frame : Cert.quiescent_Kernel := fun m g _ => Cert.Kernel.Fox.frame_run m g

/-- The idealized kernel runs to completion and leaves its arguments alone. -/
theorem kernelIdeal_frame : Cert.quiescent_KernelIdeal := fun m g _ => Cert.KernelIdeal.Fox.frame_run m g

/-- The reference runs to completion and leaves its arguments alone. It has no counters. -/
theorem referenceIdeal_frame : Cert.quiescent_ReferenceIdeal := fun m g _ =>
  (θ_run _ _ _).mono (fun r h => ⟨fun c => (h c).2, sem_eq_zero_of_no_sems rfl r.2⟩)
    (Cert.ReferenceIdeal.Value.run (F := Ideal) m g)

/-- The same where the precondition holds. -/
theorem kernelIdeal_frame_pre : Cert.quiescent_KernelIdeal_pre_queries_keys_finite := fun m g _ => Cert.KernelIdeal.Fox.frame_run m g

/-- The same of the reference where the precondition holds. -/
theorem referenceIdeal_frame_pre : Cert.quiescent_ReferenceIdeal_pre_queries_keys_finite := fun m g _ =>
  referenceIdeal_frame m g trivial

/-- The reference's result is the kernel's, on arguments that agree. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (H : Cert.KernelIdeal.Fox.Real2 (Cert.KernelIdeal.Fox.PP m c) (Cert.KernelIdeal.Fox.CC m c)) :
    Cert.ReferenceIdeal.Value.res_main_v41 (F := Ideal) m' c = Cert.KernelIdeal.Fox.outArr m c := by
  rw [Cert.ReferenceIdeal.Value.res_eq, h0, h1]
  funext i
  have e : i = ix2 (i 0) (i 1) := Shape.idx_ext₂ rfl rfl
  rw [e]
  exact Cert.ReferenceIdeal.Value.rout_apply _ _ H (i 0) (i 1)

/-- The idealized kernel's result equals the reference's where the precondition holds. -/
theorem values : Cert.algebraic_KernelIdeal_ReferenceIdeal_pre_queries_keys_finite := fun m g m' g' hp he => by
  have H : ∀ c, Cert.KernelIdeal.Fox.Real2 (Cert.KernelIdeal.Fox.PP m c) (Cert.KernelIdeal.Fox.CC m c) :=
    fun c => Cert.KernelIdeal.Fox.real2 _ _ (hp c)
  refine ⟨fun c => Cert.KernelIdeal.Fox.outArr m c, Cert.KernelIdeal.Fox.value_run m g H, ?_⟩
  exact (θ_run _ _ _).mono (fun r h c => ⟨(h c).1.trans (results_eq m m' c (he c).1 (he c).2 (H c)), (h c).2⟩)
    (Cert.ReferenceIdeal.Value.run (F := Ideal) m' g')

/-- The first projection runs to completion and leaves its arguments alone. -/
theorem kernel2_frame : Cert.quiescent_Kernel2 := fun m g _ => Cert.Kernel2.Gen.frame m g

/-- The same of it idealized. -/
theorem kernel2Ideal_frame : Cert.quiescent_Kernel2Ideal := fun m g _ => Cert.Kernel2Ideal.Gen.frame m g

/-- The plain projection runs to completion and leaves its arguments alone. It has no counters. -/
theorem reference2Ideal_frame : Cert.quiescent_Reference2Ideal := fun m g _ =>
  (θ_run _ _ _).mono (fun r h => ⟨fun c => (h c).2.2.2, sem_eq_zero_of_no_sems rfl r.2⟩)
    (Cert.Reference2Ideal.Value.run (F := Ideal) m g)

/-- The plain projection's products are the kernel's, on arguments that agree. -/
theorem proj_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    Cert.Reference2Ideal.Value.rp (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = Cert.Kernel2Ideal.Value.G5 m c := by
  rw [h0, h1, h2]
  funext i
  have e : i = ix2 (i 0) (i 1) := Shape.idx_ext₂ rfl rfl
  rw [e]
  exact (Cert.Reference2Ideal.Value.rp_apply _ _ _ (i 0) (i 1)).trans (Cert.Kernel2Ideal.Even.G5_apply m c (i 0) (i 1)).symm

/-- So are its log forget gates. -/
theorem gates_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    Cert.Reference2Ideal.Value.res_main_v26 (F := Ideal) m' c = Cert.Kernel2Ideal.Value.G6 m c := by
  rw [Cert.Reference2Ideal.Value.rl_eq, h0, h1, h2, h3]
  funext i
  have e : i = ix2 (i 0) (i 1) := Shape.idx_ext₂ rfl rfl
  rw [e]
  exact (Cert.Reference2Ideal.Value.rl_apply _ _ _ _ (i 0) (i 1)).trans (Cert.Kernel2Ideal.Even.G6_apply m c (i 0) (i 1)).symm

/-- So are their running sums. -/
theorem sums_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    Cert.Reference2Ideal.Value.res_main_v28 (F := Ideal) m' c = Cert.Kernel2Ideal.Value.G7 m c := by
  rw [Cert.Reference2Ideal.Value.rc_eq, h0, h1, h2, h3]
  funext i
  have e : i = ix2 (i 0) (i 1) := Shape.idx_ext₂ rfl rfl
  rw [e]
  exact (Cert.Reference2Ideal.Value.rc_apply _ _ _ _ (i 0) (i 1)).trans (Cert.Kernel2Ideal.Even.G7_apply m c (i 0) (i 1)).symm

/-- The idealized projection's results equal the plain one's. -/
theorem values2 : Cert.algebraic_Kernel2Ideal_Reference2Ideal := fun m g m' g' _ he => by
  refine ⟨fun c => Cert.Kernel2Ideal.Value.G5 m c, fun c => Cert.Kernel2Ideal.Value.G6 m c, fun c => Cert.Kernel2Ideal.Value.G7 m c,
    Cert.Kernel2Ideal.Value.run m g, ?_⟩
  refine (θ_run _ _ _).mono (fun r h c => ?_) (Cert.Reference2Ideal.Value.run (F := Ideal) m' g')
  obtain ⟨e0, e1, e2, e3⟩ := he c
  exact ⟨(h c).1.trans (proj_eq m m' c e0 e1 e2 e3), (h c).2.1.trans (gates_eq m m' c e0 e1 e2 e3),
    (h c).2.2.1.trans (sums_eq m m' c e0 e1 e2 e3), (h c).2.2.2⟩

/-- The odd layer's projection runs to completion, leaving its arguments as they were. -/
theorem kernel3_frame : Cert.quiescent_Kernel3 := fun m g _ => Cert.Kernel3.Gen.frame m g

/-- The same of it idealized. -/
theorem kernel3Ideal_frame : Cert.quiescent_Kernel3Ideal := fun m g _ => Cert.Kernel3Ideal.Gen.frame m g

/-- The plain program for it runs to completion and leaves its arguments alone. It has no counters. -/
theorem reference3Ideal_frame : Cert.quiescent_Reference3Ideal := fun m g _ =>
  (θ_run _ _ _).mono (fun r h => ⟨fun c => (h c).2.2, sem_eq_zero_of_no_sems rfl r.2⟩)
    (Cert.Reference3Ideal.Value.run (F := Ideal) m g)

/-- The plain projection's products are the kernel's, on arguments that agree. -/
theorem odd_proj_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) :
    Cert.Reference3Ideal.Value.rp (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) = (Cert.Kernel3Ideal.Gen.dats m 0 c).arrAt 6 Cert.Kernel3Ideal.cfg0.N := by
  rw [h0, h1, h2]
  funext i
  have e : i = ix2 (i 0) (i 1) := Shape.idx_ext₂ rfl rfl
  rw [e]
  exact (Cert.Reference3Ideal.Value.rp_apply _ _ _ (i 0) (i 1)).trans (Cert.Kernel3Ideal.Odd.final6 m c (i 0) (i 1)).symm

/-- So are its log forget gates. -/
theorem odd_gates_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) :
    Cert.Reference3Ideal.Value.res_main_v25 (F := Ideal) m' c = (Cert.Kernel3Ideal.Gen.dats m 0 c).arrAt 7 Cert.Kernel3Ideal.cfg0.N := by
  rw [Cert.Reference3Ideal.Value.rl_eq, h0, h1, h2, h3, h4]
  funext i
  have e : i = ix2 (i 0) (i 1) := Shape.idx_ext₂ rfl rfl
  rw [e]
  exact (Cert.Reference3Ideal.Value.rl_apply _ _ _ _ _ (i 0) (i 1)).trans (Cert.Kernel3Ideal.Odd.final7 m c (i 0) (i 1)).symm

/-- The idealized projection's results equal the plain one's. -/
theorem values3 : Cert.algebraic_Kernel3Ideal_Reference3Ideal := fun m g m' g' _ he => by
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N,
    Cert.Kernel3Ideal.Value.run_blocks m g, ?_⟩
  refine (θ_run _ _ _).mono (fun r h c => ?_) (Cert.Reference3Ideal.Value.run (F := Ideal) m' g')
  obtain ⟨e0, e1, e2, e3, e4⟩ := he c
  exact ⟨(h c).1.trans (odd_proj_eq m m' c e0 e1 e2 e3 e4), (h c).2.1.trans (odd_gates_eq m m' c e0 e1 e2 e3 e4), (h c).2.2⟩

/-- The even layers' output projection runs to completion, leaving its arguments as they were. -/
theorem kernel4_frame : Cert.quiescent_Kernel4 := fun m g _ => Cert.Kernel4.Gen.frame m g

/-- The same of it idealized. -/
theorem kernel4Ideal_frame : Cert.quiescent_Kernel4Ideal := fun m g _ => Cert.Kernel4Ideal.Gen.frame m g

/-- The plain program for it runs to completion and leaves its arguments alone. It has no counters. -/
theorem reference4Ideal_frame : Cert.quiescent_Reference4Ideal := fun m g _ =>
  (θ_run _ _ _).mono (fun r h => ⟨fun c => (h c).2, sem_eq_zero_of_no_sems rfl r.2⟩)
    (Cert.Reference4Ideal.Value.run (F := Ideal) m g)

/-- The plain program's array is the kernel's, on arguments that agree. -/
theorem out_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) :
    Cert.Reference4Ideal.Value.rs (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) = (Cert.Kernel4Ideal.Gen.dats m 0 c).arrAt 4 Cert.Kernel4Ideal.cfg0.N := by
  rw [h0, h1, h2, h3]
  funext i
  have e : i = ix2 (i 0) (i 1) := Shape.idx_ext₂ rfl rfl
  rw [e]
  exact (Cert.Reference4Ideal.Value.rs_apply _ _ _ _ (i 0) (i 1)).trans (Cert.Kernel4Ideal.Odd.final4 m c (i 0) (i 1)).symm

/-- The idealized program's result equals the plain one's. -/
theorem values4 : Cert.algebraic_Kernel4Ideal_Reference4Ideal := fun m g m' g' _ he => by
  refine ⟨fun c => (Cert.Kernel4Ideal.Gen.dats m 0 c).arrAt 4 Cert.Kernel4Ideal.cfg0.N, Cert.Kernel4Ideal.Value.run_blocks m g, ?_⟩
  refine (θ_run _ _ _).mono (fun r h c => ?_) (Cert.Reference4Ideal.Value.run (F := Ideal) m' g')
  obtain ⟨e0, e1, e2, e3⟩ := he c
  exact ⟨(h c).1.trans (out_eq m m' c e0 e1 e2 e3), (h c).2⟩

/-- The last output projection runs to completion, leaving its arguments as they were. -/
theorem kernel5_frame : Cert.quiescent_Kernel5 := fun m g _ => Cert.Kernel5.Gen.frame m g

/-- The same of it idealized. -/
theorem kernel5Ideal_frame : Cert.quiescent_Kernel5Ideal := fun m g _ => Cert.Kernel5Ideal.Gen.frame m g

/-- The plain program for it runs to completion and leaves its arguments alone. It has no counters. -/
theorem reference5Ideal_frame : Cert.quiescent_Reference5Ideal := fun m g _ =>
  (θ_run _ _ _).mono (fun r h => ⟨fun c => (h c).2, sem_eq_zero_of_no_sems rfl r.2⟩)
    (Cert.Reference5Ideal.Value.run (F := Ideal) m g)

/-- The plain program's array is the kernel's, on arguments that agree. -/
theorem final_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (h3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) :
    Cert.Reference5Ideal.Value.rf (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) = (Cert.Kernel5Ideal.Gen.dats m 0 c).arrAt 4 Cert.Kernel5Ideal.cfg0.N := by
  rw [h0, h1, h2, h3]
  funext i
  have e : i = ix2 (i 0) (i 1) := Shape.idx_ext₂ rfl rfl
  rw [e]
  exact (Cert.Reference5Ideal.Value.rf_apply _ _ _ _ (i 0) (i 1)).trans (Cert.Kernel5Ideal.Odd.final4 m c (i 0) (i 1)).symm

/-- The idealized program's result equals the plain one's. -/
theorem values5 : Cert.algebraic_Kernel5Ideal_Reference5Ideal := fun m g m' g' _ he => by
  refine ⟨fun c => (Cert.Kernel5Ideal.Gen.dats m 0 c).arrAt 4 Cert.Kernel5Ideal.cfg0.N, Cert.Kernel5Ideal.Value.run_blocks m g, ?_⟩
  refine (θ_run _ _ _).mono (fun r h c => ?_) (Cert.Reference5Ideal.Value.run (F := Ideal) m' g')
  obtain ⟨e0, e1, e2, e3⟩ := he c
  exact ⟨(h c).1.trans (final_eq m m' c e0 e1 e2 e3), (h c).2⟩

/-- All the claims together. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_queries_keys_finite.Gen.facts,
    kernel_frame, kernelIdeal_frame, kernelIdeal_frame_pre, referenceIdeal_frame, referenceIdeal_frame_pre, kernel2_frame, kernel2Ideal_frame, reference2Ideal_frame, kernel3_frame, kernel3Ideal_frame, reference3Ideal_frame, kernel4_frame, kernel4Ideal_frame, reference4Ideal_frame, kernel5_frame, kernel5Ideal_frame, reference5Ideal_frame,
    trivial, values, trivial, values2, trivial, values3, trivial, values4, trivial, values5⟩

end Cert.Proof

end
